-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelA (m : (ℓ : Loc Cert.KernelA.nD Cert.KernelA.τ Cert.KernelA.sig) → Buf (Elt Bits) ℓ) : Prop :=
  True

def Pre_KernelAIdeal (m : (ℓ : Loc Cert.KernelAIdeal.nD Cert.KernelAIdeal.τ Cert.KernelAIdeal.sig) → Buf (Elt Ideal) ℓ) : Prop :=
  True

def Pre_ReferenceAIdeal (m : (ℓ : Loc Cert.ReferenceAIdeal.nD Cert.ReferenceAIdeal.τ Cert.ReferenceAIdeal.sig) → Buf (Elt Ideal) ℓ) : Prop :=
  True

def Pre_KernelB (m : (ℓ : Loc Cert.KernelB.nD Cert.KernelB.τ Cert.KernelB.sig) → Buf (Elt Bits) ℓ) : Prop :=
  True

def Pre_KernelBIdeal (m : (ℓ : Loc Cert.KernelBIdeal.nD Cert.KernelBIdeal.τ Cert.KernelBIdeal.sig) → Buf (Elt Ideal) ℓ) : Prop :=
  True

def Pre_ReferenceBIdeal (m : (ℓ : Loc Cert.ReferenceBIdeal.nD Cert.ReferenceBIdeal.τ Cert.ReferenceBIdeal.sig) → Buf (Elt Ideal) ℓ) : Prop :=
  True

def Pre_KernelPlanes (m : (ℓ : Loc Cert.KernelPlanes.nD Cert.KernelPlanes.τ Cert.KernelPlanes.sig) → Buf (Elt Bits) ℓ) : Prop :=
  True

def Pre_KernelPlanesIdeal (m : (ℓ : Loc Cert.KernelPlanesIdeal.nD Cert.KernelPlanesIdeal.τ Cert.KernelPlanesIdeal.sig) → Buf (Elt Ideal) ℓ) : Prop :=
  True

def Pre_ReferencePlanesIdeal (m : (ℓ : Loc Cert.ReferencePlanesIdeal.nD Cert.ReferencePlanesIdeal.τ Cert.ReferencePlanesIdeal.sig) → Buf (Elt Ideal) ℓ) : Prop :=
  True

def Pre_KernelCombine (m : (ℓ : Loc Cert.KernelCombine.nD Cert.KernelCombine.τ Cert.KernelCombine.sig) → Buf (Elt Bits) ℓ) : Prop :=
  True

def Pre_KernelCombineIdeal (m : (ℓ : Loc Cert.KernelCombineIdeal.nD Cert.KernelCombineIdeal.τ Cert.KernelCombineIdeal.sig) → Buf (Elt Ideal) ℓ) : Prop :=
  True

def Pre_ReferenceCombineIdeal (m : (ℓ : Loc Cert.ReferenceCombineIdeal.nD Cert.ReferenceCombineIdeal.τ Cert.ReferenceCombineIdeal.sig) → Buf (Elt Ideal) ℓ) : Prop :=
  True

def Pre_KernelPack (m : (ℓ : Loc Cert.KernelPack.nD Cert.KernelPack.τ Cert.KernelPack.sig) → Buf (Elt Bits) ℓ) : Prop :=
  True

def Pre_ReferencePack (m : (ℓ : Loc Cert.ReferencePack.nD Cert.ReferencePack.τ Cert.ReferencePack.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelA [hKernelA : Cert.KernelA.Facts] : Prop :=
  ∀ (m : (ℓ : Loc Cert.KernelA.nD Cert.KernelA.τ Cert.KernelA.sig) → Buf (Elt Bits) ℓ) (g : Dev Cert.KernelA.nD → PrngReg), Pre_KernelA m →
    θ_run (Cert.KernelA.defs (F := Bits)) (onTc (τ := Cert.KernelA.τ) (Cert.KernelA.main (F := Bits))) ⟨m, fun _ => 0, g⟩ (fun r => (∀ c : Dev Cert.KernelA.nD,
      r.2.mem ((c.tc : Thread Cert.KernelA.nD Cert.KernelA.τ).loc Cert.KernelA.main_arg0) = m ((c.tc : Thread Cert.KernelA.nD Cert.KernelA.τ).loc Cert.KernelA.main_arg0)
      ∧ r.2.mem ((c.tc : Thread Cert.KernelA.nD Cert.KernelA.τ).loc Cert.KernelA.main_arg1) = m ((c.tc : Thread Cert.KernelA.nD Cert.KernelA.τ).loc Cert.KernelA.main_arg1)
      ∧ r.2.mem ((c.tc : Thread Cert.KernelA.nD Cert.KernelA.τ).loc Cert.KernelA.main_arg2) = m ((c.tc : Thread Cert.KernelA.nD Cert.KernelA.τ).loc Cert.KernelA.main_arg2)
      ∧ r.2.mem ((c.tc : Thread Cert.KernelA.nD Cert.KernelA.τ).loc Cert.KernelA.main_arg3) = m ((c.tc : Thread Cert.KernelA.nD Cert.KernelA.τ).loc Cert.KernelA.main_arg3)
      ∧ r.2.mem ((c.tc : Thread Cert.KernelA.nD Cert.KernelA.τ).loc Cert.KernelA.main_arg4) = m ((c.tc : Thread Cert.KernelA.nD Cert.KernelA.τ).loc Cert.KernelA.main_arg4))
      ∧ r.2.sem = fun _ => 0)

def quiescent_KernelAIdeal [hKernelAIdeal : Cert.KernelAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg), Pre_KernelAIdeal m →
    θ_run (Cert.KernelAIdeal.defs (F := Ideal)) (onTc (τ := Cert.KernelAIdeal.τ) (Cert.KernelAIdeal.main (F := Ideal))) ⟨m, fun _ => 0, g⟩ (fun r => (∀ c : Dev Cert.KernelAIdeal.nD,
      r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
      ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
      ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2)
      ∧ r.2.mem ((c.tc : Thread Cert.KernelAIdeal.nD Cert.KernelAIdeal.τ).loc Cert.KernelAIdeal.main_arg3) = m ((c.tc : Thread Cert.KernelAIdeal.nD Cert.KernelAIdeal.τ).loc Cert.KernelAIdeal.main_arg3)
      ∧ r.2.mem ((c.tc : Thread Cert.KernelAIdeal.nD Cert.KernelAIdeal.τ).loc Cert.KernelAIdeal.main_arg4) = m ((c.tc : Thread Cert.KernelAIdeal.nD Cert.KernelAIdeal.τ).loc Cert.KernelAIdeal.main_arg4))
      ∧ r.2.sem = fun _ => 0)

def quiescent_ReferenceAIdeal [hReferenceAIdeal : Cert.ReferenceAIdeal.Facts] : Prop :=
  ∀ (m : (ℓ : Loc Cert.ReferenceAIdeal.nD Cert.ReferenceAIdeal.τ Cert.ReferenceAIdeal.sig) → Buf (Elt Ideal) ℓ) (g : Dev Cert.ReferenceAIdeal.nD → PrngReg), Pre_ReferenceAIdeal m →
    θ_run (Cert.ReferenceAIdeal.defs (F := Ideal)) (onTc (τ := Cert.ReferenceAIdeal.τ) (Cert.ReferenceAIdeal.main (F := Ideal))) ⟨m, fun _ => 0, g⟩ (fun r => (∀ c : Dev Cert.ReferenceAIdeal.nD,
      r.2.mem ((c.tc : Thread Cert.ReferenceAIdeal.nD Cert.ReferenceAIdeal.τ).loc Cert.ReferenceAIdeal.main_arg0) = m ((c.tc : Thread Cert.ReferenceAIdeal.nD Cert.ReferenceAIdeal.τ).loc Cert.ReferenceAIdeal.main_arg0)
      ∧ r.2.mem ((c.tc : Thread Cert.ReferenceAIdeal.nD Cert.ReferenceAIdeal.τ).loc Cert.ReferenceAIdeal.main_arg1) = m ((c.tc : Thread Cert.ReferenceAIdeal.nD Cert.ReferenceAIdeal.τ).loc Cert.ReferenceAIdeal.main_arg1)
      ∧ r.2.mem ((c.tc : Thread Cert.ReferenceAIdeal.nD Cert.ReferenceAIdeal.τ).loc Cert.ReferenceAIdeal.main_arg2) = m ((c.tc : Thread Cert.ReferenceAIdeal.nD Cert.ReferenceAIdeal.τ).loc Cert.ReferenceAIdeal.main_arg2)
      ∧ r.2.mem ((c.tc : Thread Cert.ReferenceAIdeal.nD Cert.ReferenceAIdeal.τ).loc Cert.ReferenceAIdeal.main_arg3) = m ((c.tc : Thread Cert.ReferenceAIdeal.nD Cert.ReferenceAIdeal.τ).loc Cert.ReferenceAIdeal.main_arg3)
      ∧ r.2.mem ((c.tc : Thread Cert.ReferenceAIdeal.nD Cert.ReferenceAIdeal.τ).loc Cert.ReferenceAIdeal.main_arg4) = m ((c.tc : Thread Cert.ReferenceAIdeal.nD Cert.ReferenceAIdeal.τ).loc Cert.ReferenceAIdeal.main_arg4))
      ∧ r.2.sem = fun _ => 0)

def quiescent_KernelB [hKernelB : Cert.KernelB.Facts] : Prop :=
  ∀ (m : (ℓ : Loc Cert.KernelB.nD Cert.KernelB.τ Cert.KernelB.sig) → Buf (Elt Bits) ℓ) (g : Dev Cert.KernelB.nD → PrngReg), Pre_KernelB m →
    θ_run (Cert.KernelB.defs (F := Bits)) (onTc (τ := Cert.KernelB.τ) (Cert.KernelB.main (F := Bits))) ⟨m, fun _ => 0, g⟩ (fun r => (∀ c : Dev Cert.KernelB.nD,
      r.2.mem ((c.tc : Thread Cert.KernelB.nD Cert.KernelB.τ).loc Cert.KernelB.main_arg0) = m ((c.tc : Thread Cert.KernelB.nD Cert.KernelB.τ).loc Cert.KernelB.main_arg0)
      ∧ r.2.mem ((c.tc : Thread Cert.KernelB.nD Cert.KernelB.τ).loc Cert.KernelB.main_arg1) = m ((c.tc : Thread Cert.KernelB.nD Cert.KernelB.τ).loc Cert.KernelB.main_arg1)
      ∧ r.2.mem ((c.tc : Thread Cert.KernelB.nD Cert.KernelB.τ).loc Cert.KernelB.main_arg2) = m ((c.tc : Thread Cert.KernelB.nD Cert.KernelB.τ).loc Cert.KernelB.main_arg2)
      ∧ r.2.mem ((c.tc : Thread Cert.KernelB.nD Cert.KernelB.τ).loc Cert.KernelB.main_arg3) = m ((c.tc : Thread Cert.KernelB.nD Cert.KernelB.τ).loc Cert.KernelB.main_arg3)
      ∧ r.2.mem ((c.tc : Thread Cert.KernelB.nD Cert.KernelB.τ).loc Cert.KernelB.main_arg4) = m ((c.tc : Thread Cert.KernelB.nD Cert.KernelB.τ).loc Cert.KernelB.main_arg4))
      ∧ r.2.sem = fun _ => 0)

def quiescent_KernelBIdeal [hKernelBIdeal : Cert.KernelBIdeal.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
      ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
      ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3)
      ∧ r.2.mem ((c.tc : Thread Cert.KernelBIdeal.nD Cert.KernelBIdeal.τ).loc Cert.KernelBIdeal.main_arg4) = m ((c.tc : Thread Cert.KernelBIdeal.nD Cert.KernelBIdeal.τ).loc Cert.KernelBIdeal.main_arg4))
      ∧ r.2.sem = fun _ => 0)

def quiescent_ReferenceBIdeal [hReferenceBIdeal : Cert.ReferenceBIdeal.Facts] : Prop :=
  ∀ (m : (ℓ : Loc Cert.ReferenceBIdeal.nD Cert.ReferenceBIdeal.τ Cert.ReferenceBIdeal.sig) → Buf (Elt Ideal) ℓ) (g : Dev Cert.ReferenceBIdeal.nD → PrngReg), Pre_ReferenceBIdeal m →
    θ_run (Cert.ReferenceBIdeal.defs (F := Ideal)) (onTc (τ := Cert.ReferenceBIdeal.τ) (Cert.ReferenceBIdeal.main (F := Ideal))) ⟨m, fun _ => 0, g⟩ (fun r => (∀ c : Dev Cert.ReferenceBIdeal.nD,
      r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0)
      ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1)
      ∧ r.2.mem ((c.tc : Thread Cert.ReferenceBIdeal.nD Cert.ReferenceBIdeal.τ).loc Cert.ReferenceBIdeal.main_arg2) = m ((c.tc : Thread Cert.ReferenceBIdeal.nD Cert.ReferenceBIdeal.τ).loc Cert.ReferenceBIdeal.main_arg2)
      ∧ r.2.mem ((c.tc : Thread Cert.ReferenceBIdeal.nD Cert.ReferenceBIdeal.τ).loc Cert.ReferenceBIdeal.main_arg3) = m ((c.tc : Thread Cert.ReferenceBIdeal.nD Cert.ReferenceBIdeal.τ).loc Cert.ReferenceBIdeal.main_arg3)
      ∧ r.2.mem ((c.tc : Thread Cert.ReferenceBIdeal.nD Cert.ReferenceBIdeal.τ).loc Cert.ReferenceBIdeal.main_arg4) = m ((c.tc : Thread Cert.ReferenceBIdeal.nD Cert.ReferenceBIdeal.τ).loc Cert.ReferenceBIdeal.main_arg4))
      ∧ r.2.sem = fun _ => 0)

def quiescent_KernelPlanes [hKernelPlanes : Cert.KernelPlanes.Facts] : Prop :=
  ∀ (m : (ℓ : Loc Cert.KernelPlanes.nD Cert.KernelPlanes.τ Cert.KernelPlanes.sig) → Buf (Elt Bits) ℓ) (g : Dev Cert.KernelPlanes.nD → PrngReg), Pre_KernelPlanes m →
    θ_run (Cert.KernelPlanes.defs (F := Bits)) (onTc (τ := Cert.KernelPlanes.τ) (Cert.KernelPlanes.main (F := Bits))) ⟨m, fun _ => 0, g⟩ (fun r => (∀ c : Dev Cert.KernelPlanes.nD,
      r.2.mem ((c.tc : Thread Cert.KernelPlanes.nD Cert.KernelPlanes.τ).loc Cert.KernelPlanes.main_arg0) = m ((c.tc : Thread Cert.KernelPlanes.nD Cert.KernelPlanes.τ).loc Cert.KernelPlanes.main_arg0))
      ∧ r.2.sem = fun _ => 0)

def quiescent_KernelPlanesIdeal [hKernelPlanesIdeal : Cert.KernelPlanesIdeal.Facts] : Prop :=
  ∀ (m : (ℓ : Loc Cert.KernelPlanesIdeal.nD Cert.KernelPlanesIdeal.τ Cert.KernelPlanesIdeal.sig) → Buf (Elt Ideal) ℓ) (g : Dev Cert.KernelPlanesIdeal.nD → PrngReg), Pre_KernelPlanesIdeal m →
    θ_run (Cert.KernelPlanesIdeal.defs (F := Ideal)) (onTc (τ := Cert.KernelPlanesIdeal.τ) (Cert.KernelPlanesIdeal.main (F := Ideal))) ⟨m, fun _ => 0, g⟩ (fun r => (∀ c : Dev Cert.KernelPlanesIdeal.nD,
      r.2.mem ((c.tc : Thread Cert.KernelPlanesIdeal.nD Cert.KernelPlanesIdeal.τ).loc Cert.KernelPlanesIdeal.main_arg0) = m ((c.tc : Thread Cert.KernelPlanesIdeal.nD Cert.KernelPlanesIdeal.τ).loc Cert.KernelPlanesIdeal.main_arg0))
      ∧ r.2.sem = fun _ => 0)

def quiescent_ReferencePlanesIdeal [hReferencePlanesIdeal : Cert.ReferencePlanesIdeal.Facts] : Prop :=
  ∀ (m : (ℓ : Loc Cert.ReferencePlanesIdeal.nD Cert.ReferencePlanesIdeal.τ Cert.ReferencePlanesIdeal.sig) → Buf (Elt Ideal) ℓ) (g : Dev Cert.ReferencePlanesIdeal.nD → PrngReg), Pre_ReferencePlanesIdeal m →
    θ_run (Cert.ReferencePlanesIdeal.defs (F := Ideal)) (onTc (τ := Cert.ReferencePlanesIdeal.τ) (Cert.ReferencePlanesIdeal.main (F := Ideal))) ⟨m, fun _ => 0, g⟩ (fun r => (∀ c : Dev Cert.ReferencePlanesIdeal.nD,
      r.2.mem ((c.tc : Thread Cert.ReferencePlanesIdeal.nD Cert.ReferencePlanesIdeal.τ).loc Cert.ReferencePlanesIdeal.main_arg0) = m ((c.tc : Thread Cert.ReferencePlanesIdeal.nD Cert.ReferencePlanesIdeal.τ).loc Cert.ReferencePlanesIdeal.main_arg0))
      ∧ r.2.sem = fun _ => 0)

def quiescent_KernelCombine [hKernelCombine : Cert.KernelCombine.Facts] : Prop :=
  ∀ (m : (ℓ : Loc Cert.KernelCombine.nD Cert.KernelCombine.τ Cert.KernelCombine.sig) → Buf (Elt Bits) ℓ) (g : Dev Cert.KernelCombine.nD → PrngReg), Pre_KernelCombine m →
    θ_run (Cert.KernelCombine.defs (F := Bits)) (onTc (τ := Cert.KernelCombine.τ) (Cert.KernelCombine.main (F := Bits))) ⟨m, fun _ => 0, g⟩ (fun r => (∀ c : Dev Cert.KernelCombine.nD,
      r.2.mem ((c.tc : Thread Cert.KernelCombine.nD Cert.KernelCombine.τ).loc Cert.KernelCombine.main_arg0) = m ((c.tc : Thread Cert.KernelCombine.nD Cert.KernelCombine.τ).loc Cert.KernelCombine.main_arg0))
      ∧ r.2.sem = fun _ => 0)

def quiescent_KernelCombineIdeal [hKernelCombineIdeal : Cert.KernelCombineIdeal.Facts] : Prop :=
  ∀ (m : (ℓ : Loc Cert.KernelCombineIdeal.nD Cert.KernelCombineIdeal.τ Cert.KernelCombineIdeal.sig) → Buf (Elt Ideal) ℓ) (g : Dev Cert.KernelCombineIdeal.nD → PrngReg), Pre_KernelCombineIdeal m →
    θ_run (Cert.KernelCombineIdeal.defs (F := Ideal)) (onTc (τ := Cert.KernelCombineIdeal.τ) (Cert.KernelCombineIdeal.main (F := Ideal))) ⟨m, fun _ => 0, g⟩ (fun r => (∀ c : Dev Cert.KernelCombineIdeal.nD,
      r.2.mem ((c.tc : Thread Cert.KernelCombineIdeal.nD Cert.KernelCombineIdeal.τ).loc Cert.KernelCombineIdeal.main_arg0) = m ((c.tc : Thread Cert.KernelCombineIdeal.nD Cert.KernelCombineIdeal.τ).loc Cert.KernelCombineIdeal.main_arg0))
      ∧ r.2.sem = fun _ => 0)

def quiescent_ReferenceCombineIdeal [hReferenceCombineIdeal : Cert.ReferenceCombineIdeal.Facts] : Prop :=
  ∀ (m : (ℓ : Loc Cert.ReferenceCombineIdeal.nD Cert.ReferenceCombineIdeal.τ Cert.ReferenceCombineIdeal.sig) → Buf (Elt Ideal) ℓ) (g : Dev Cert.ReferenceCombineIdeal.nD → PrngReg), Pre_ReferenceCombineIdeal m →
    θ_run (Cert.ReferenceCombineIdeal.defs (F := Ideal)) (onTc (τ := Cert.ReferenceCombineIdeal.τ) (Cert.ReferenceCombineIdeal.main (F := Ideal))) ⟨m, fun _ => 0, g⟩ (fun r => (∀ c : Dev Cert.ReferenceCombineIdeal.nD,
      r.2.mem ((c.tc : Thread Cert.ReferenceCombineIdeal.nD Cert.ReferenceCombineIdeal.τ).loc Cert.ReferenceCombineIdeal.main_arg0) = m ((c.tc : Thread Cert.ReferenceCombineIdeal.nD Cert.ReferenceCombineIdeal.τ).loc Cert.ReferenceCombineIdeal.main_arg0))
      ∧ r.2.sem = fun _ => 0)

def quiescent_KernelPack [hKernelPack : Cert.KernelPack.Facts] : Prop :=
  ∀ (m : (ℓ : Loc Cert.KernelPack.nD Cert.KernelPack.τ Cert.KernelPack.sig) → Buf (Elt Bits) ℓ) (g : Dev Cert.KernelPack.nD → PrngReg), Pre_KernelPack m →
    θ_run (Cert.KernelPack.defs (F := Bits)) (onTc (τ := Cert.KernelPack.τ) (Cert.KernelPack.main (F := Bits))) ⟨m, fun _ => 0, g⟩ (fun r => (∀ c : Dev Cert.KernelPack.nD,
      r.2.mem ((c.tc : Thread Cert.KernelPack.nD Cert.KernelPack.τ).loc Cert.KernelPack.main_arg0) = m ((c.tc : Thread Cert.KernelPack.nD Cert.KernelPack.τ).loc Cert.KernelPack.main_arg0)
      ∧ r.2.mem ((c.tc : Thread Cert.KernelPack.nD Cert.KernelPack.τ).loc Cert.KernelPack.main_arg1) = m ((c.tc : Thread Cert.KernelPack.nD Cert.KernelPack.τ).loc Cert.KernelPack.main_arg1))
      ∧ r.2.sem = fun _ => 0)

def quiescent_ReferencePack [hReferencePack : Cert.ReferencePack.Facts] : Prop :=
  ∀ (m : (ℓ : Loc Cert.ReferencePack.nD Cert.ReferencePack.τ Cert.ReferencePack.sig) → Buf (Elt Bits) ℓ) (g : Dev Cert.ReferencePack.nD → PrngReg), Pre_ReferencePack m →
    θ_run (Cert.ReferencePack.defs (F := Bits)) (onTc (τ := Cert.ReferencePack.τ) (Cert.ReferencePack.main (F := Bits))) ⟨m, fun _ => 0, g⟩ (fun r => (∀ c : Dev Cert.ReferencePack.nD,
      r.2.mem ((c.tc : Thread Cert.ReferencePack.nD Cert.ReferencePack.τ).loc Cert.ReferencePack.main_arg0) = m ((c.tc : Thread Cert.ReferencePack.nD Cert.ReferencePack.τ).loc Cert.ReferencePack.main_arg0)
      ∧ r.2.mem ((c.tc : Thread Cert.ReferencePack.nD Cert.ReferencePack.τ).loc Cert.ReferencePack.main_arg1) = m ((c.tc : Thread Cert.ReferencePack.nD Cert.ReferencePack.τ).loc Cert.ReferencePack.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelA_KernelAIdeal : Prop :=
  True

def algebraic_KernelAIdeal_ReferenceAIdeal [hKernelAIdeal : Cert.KernelAIdeal.Facts] [hReferenceAIdeal : Cert.ReferenceAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg)
    (m' : (ℓ : Loc Cert.ReferenceAIdeal.nD Cert.ReferenceAIdeal.τ Cert.ReferenceAIdeal.sig) → Buf (Elt Ideal) ℓ) (g' : Dev Cert.ReferenceAIdeal.nD → PrngReg), Pre_KernelAIdeal m →
    (∀ c : Dev Cert.KernelAIdeal.nD,
      m' ((c.tc : Thread Cert.ReferenceAIdeal.nD Cert.ReferenceAIdeal.τ).loc Cert.ReferenceAIdeal.main_arg0) = m ((c.tc : Thread Cert.KernelAIdeal.nD Cert.KernelAIdeal.τ).loc Cert.KernelAIdeal.main_arg0)
      ∧ m' ((c.tc : Thread Cert.ReferenceAIdeal.nD Cert.ReferenceAIdeal.τ).loc Cert.ReferenceAIdeal.main_arg1) = m ((c.tc : Thread Cert.KernelAIdeal.nD Cert.KernelAIdeal.τ).loc Cert.KernelAIdeal.main_arg1)
      ∧ m' ((c.tc : Thread Cert.ReferenceAIdeal.nD Cert.ReferenceAIdeal.τ).loc Cert.ReferenceAIdeal.main_arg2) = m ((c.tc : Thread Cert.KernelAIdeal.nD Cert.KernelAIdeal.τ).loc Cert.KernelAIdeal.main_arg2)
      ∧ m' ((c.tc : Thread Cert.ReferenceAIdeal.nD Cert.ReferenceAIdeal.τ).loc Cert.ReferenceAIdeal.main_arg3) = m ((c.tc : Thread Cert.KernelAIdeal.nD Cert.KernelAIdeal.τ).loc Cert.KernelAIdeal.main_arg3)
      ∧ m' ((c.tc : Thread Cert.ReferenceAIdeal.nD Cert.ReferenceAIdeal.τ).loc Cert.ReferenceAIdeal.main_arg4) = m ((c.tc : Thread Cert.KernelAIdeal.nD Cert.KernelAIdeal.τ).loc Cert.KernelAIdeal.main_arg4)) →
    ∃ (v0 : (c : Dev Cert.KernelAIdeal.nD) → Buf (Elt Ideal) ((c.tc : Thread Cert.KernelAIdeal.nD Cert.KernelAIdeal.τ).loc Cert.KernelAIdeal.main_v3_0)) (v1 : (c : Dev Cert.KernelAIdeal.nD) → Buf (Elt Ideal) ((c.tc : Thread Cert.KernelAIdeal.nD Cert.KernelAIdeal.τ).loc Cert.KernelAIdeal.main_v3_1)),
      θ_run (Cert.KernelAIdeal.defs (F := Ideal)) (onTc (τ := Cert.KernelAIdeal.τ) (Cert.KernelAIdeal.main (F := Ideal))) ⟨m, fun _ => 0, g⟩ (fun r => ∀ c : Dev Cert.KernelAIdeal.nD,
          r.2.mem ((c.tc : Thread Cert.KernelAIdeal.nD Cert.KernelAIdeal.τ).loc Cert.KernelAIdeal.main_v3_0) = v0 c
          ∧ r.2.mem ((c.tc : Thread Cert.KernelAIdeal.nD Cert.KernelAIdeal.τ).loc Cert.KernelAIdeal.main_v3_1) = v1 c
          ∧ r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
          ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
          ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2)
          ∧ r.2.mem ((c.tc : Thread Cert.KernelAIdeal.nD Cert.KernelAIdeal.τ).loc Cert.KernelAIdeal.main_arg3) = m ((c.tc : Thread Cert.KernelAIdeal.nD Cert.KernelAIdeal.τ).loc Cert.KernelAIdeal.main_arg3)
          ∧ r.2.mem ((c.tc : Thread Cert.KernelAIdeal.nD Cert.KernelAIdeal.τ).loc Cert.KernelAIdeal.main_arg4) = m ((c.tc : Thread Cert.KernelAIdeal.nD Cert.KernelAIdeal.τ).loc Cert.KernelAIdeal.main_arg4))
      ∧ θ_run (Cert.ReferenceAIdeal.defs (F := Ideal)) (onTc (τ := Cert.ReferenceAIdeal.τ) (Cert.ReferenceAIdeal.main (F := Ideal))) ⟨m', fun _ => 0, g'⟩ (fun r => ∀ c : Dev Cert.ReferenceAIdeal.nD,
          r.2.mem ((c.tc : Thread Cert.ReferenceAIdeal.nD Cert.ReferenceAIdeal.τ).loc Cert.ReferenceAIdeal.main_v13) = v0 c
          ∧ r.2.mem ((c.tc : Thread Cert.ReferenceAIdeal.nD Cert.ReferenceAIdeal.τ).loc Cert.ReferenceAIdeal.main_v14) = v1 c
          ∧ r.2.mem ((c.tc : Thread Cert.ReferenceAIdeal.nD Cert.ReferenceAIdeal.τ).loc Cert.ReferenceAIdeal.main_arg0) = m' ((c.tc : Thread Cert.ReferenceAIdeal.nD Cert.ReferenceAIdeal.τ).loc Cert.ReferenceAIdeal.main_arg0)
          ∧ r.2.mem ((c.tc : Thread Cert.ReferenceAIdeal.nD Cert.ReferenceAIdeal.τ).loc Cert.ReferenceAIdeal.main_arg1) = m' ((c.tc : Thread Cert.ReferenceAIdeal.nD Cert.ReferenceAIdeal.τ).loc Cert.ReferenceAIdeal.main_arg1)
          ∧ r.2.mem ((c.tc : Thread Cert.ReferenceAIdeal.nD Cert.ReferenceAIdeal.τ).loc Cert.ReferenceAIdeal.main_arg2) = m' ((c.tc : Thread Cert.ReferenceAIdeal.nD Cert.ReferenceAIdeal.τ).loc Cert.ReferenceAIdeal.main_arg2)
          ∧ r.2.mem ((c.tc : Thread Cert.ReferenceAIdeal.nD Cert.ReferenceAIdeal.τ).loc Cert.ReferenceAIdeal.main_arg3) = m' ((c.tc : Thread Cert.ReferenceAIdeal.nD Cert.ReferenceAIdeal.τ).loc Cert.ReferenceAIdeal.main_arg3)
          ∧ r.2.mem ((c.tc : Thread Cert.ReferenceAIdeal.nD Cert.ReferenceAIdeal.τ).loc Cert.ReferenceAIdeal.main_arg4) = m' ((c.tc : Thread Cert.ReferenceAIdeal.nD Cert.ReferenceAIdeal.τ).loc Cert.ReferenceAIdeal.main_arg4))

def preserves_KernelB_KernelBIdeal : Prop :=
  True

def algebraic_KernelBIdeal_ReferenceBIdeal [hKernelBIdeal : Cert.KernelBIdeal.Facts] [hReferenceBIdeal : Cert.ReferenceBIdeal.Facts] : Prop :=
  ∀ (m : (ℓ : Loc Cert.KernelBIdeal.nD Cert.KernelBIdeal.τ Cert.KernelBIdeal.sig) → Buf (Elt Ideal) ℓ) (g : Dev Cert.KernelBIdeal.nD → PrngReg)
    (m' : (ℓ : Loc Cert.ReferenceBIdeal.nD Cert.ReferenceBIdeal.τ Cert.ReferenceBIdeal.sig) → Buf (Elt Ideal) ℓ) (g' : Dev Cert.ReferenceBIdeal.nD → PrngReg), Pre_KernelBIdeal m →
    (∀ c : Dev Cert.KernelBIdeal.nD,
      m' ((c.tc : Thread Cert.ReferenceBIdeal.nD Cert.ReferenceBIdeal.τ).loc Cert.ReferenceBIdeal.main_arg0) = m ((c.tc : Thread Cert.KernelBIdeal.nD Cert.KernelBIdeal.τ).loc Cert.KernelBIdeal.main_arg0)
      ∧ m' ((c.tc : Thread Cert.ReferenceBIdeal.nD Cert.ReferenceBIdeal.τ).loc Cert.ReferenceBIdeal.main_arg1) = m ((c.tc : Thread Cert.KernelBIdeal.nD Cert.KernelBIdeal.τ).loc Cert.KernelBIdeal.main_arg1)
      ∧ m' ((c.tc : Thread Cert.ReferenceBIdeal.nD Cert.ReferenceBIdeal.τ).loc Cert.ReferenceBIdeal.main_arg2) = m ((c.tc : Thread Cert.KernelBIdeal.nD Cert.KernelBIdeal.τ).loc Cert.KernelBIdeal.main_arg2)
      ∧ m' ((c.tc : Thread Cert.ReferenceBIdeal.nD Cert.ReferenceBIdeal.τ).loc Cert.ReferenceBIdeal.main_arg3) = m ((c.tc : Thread Cert.KernelBIdeal.nD Cert.KernelBIdeal.τ).loc Cert.KernelBIdeal.main_arg3)
      ∧ m' ((c.tc : Thread Cert.ReferenceBIdeal.nD Cert.ReferenceBIdeal.τ).loc Cert.ReferenceBIdeal.main_arg4) = m ((c.tc : Thread Cert.KernelBIdeal.nD Cert.KernelBIdeal.τ).loc Cert.KernelBIdeal.main_arg4)) →
    ∃ (v0 : (c : Dev Cert.KernelBIdeal.nD) → Buf (Elt Ideal) ((c.tc : Thread Cert.KernelBIdeal.nD Cert.KernelBIdeal.τ).loc Cert.KernelBIdeal.main_v3_0)) (v1 : (c : Dev Cert.KernelBIdeal.nD) → Buf (Elt Ideal) ((c.tc : Thread Cert.KernelBIdeal.nD Cert.KernelBIdeal.τ).loc Cert.KernelBIdeal.main_v3_1)),
      θ_run (Cert.KernelBIdeal.defs (F := Ideal)) (onTc (τ := Cert.KernelBIdeal.τ) (Cert.KernelBIdeal.main (F := Ideal))) ⟨m, fun _ => 0, g⟩ (fun r => ∀ c : Dev Cert.KernelBIdeal.nD,
          r.2.mem ((c.tc : Thread Cert.KernelBIdeal.nD Cert.KernelBIdeal.τ).loc Cert.KernelBIdeal.main_v3_0) = v0 c
          ∧ r.2.mem ((c.tc : Thread Cert.KernelBIdeal.nD Cert.KernelBIdeal.τ).loc Cert.KernelBIdeal.main_v3_1) = v1 c
          ∧ r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
          ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
          ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
          ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3)
          ∧ r.2.mem ((c.tc : Thread Cert.KernelBIdeal.nD Cert.KernelBIdeal.τ).loc Cert.KernelBIdeal.main_arg4) = m ((c.tc : Thread Cert.KernelBIdeal.nD Cert.KernelBIdeal.τ).loc Cert.KernelBIdeal.main_arg4))
      ∧ θ_run (Cert.ReferenceBIdeal.defs (F := Ideal)) (onTc (τ := Cert.ReferenceBIdeal.τ) (Cert.ReferenceBIdeal.main (F := Ideal))) ⟨m', fun _ => 0, g'⟩ (fun r => ∀ c : Dev Cert.ReferenceBIdeal.nD,
          r.2.mem ((c.tc : Thread Cert.ReferenceBIdeal.nD Cert.ReferenceBIdeal.τ).loc Cert.ReferenceBIdeal.main_v13) = v0 c
          ∧ r.2.mem ((c.tc : Thread Cert.ReferenceBIdeal.nD Cert.ReferenceBIdeal.τ).loc Cert.ReferenceBIdeal.main_v14) = v1 c
          ∧ r.2.mem ((c.tc : Thread Cert.ReferenceBIdeal.nD Cert.ReferenceBIdeal.τ).loc Cert.ReferenceBIdeal.main_arg0) = m' ((c.tc : Thread Cert.ReferenceBIdeal.nD Cert.ReferenceBIdeal.τ).loc Cert.ReferenceBIdeal.main_arg0)
          ∧ r.2.mem ((c.tc : Thread Cert.ReferenceBIdeal.nD Cert.ReferenceBIdeal.τ).loc Cert.ReferenceBIdeal.main_arg1) = m' ((c.tc : Thread Cert.ReferenceBIdeal.nD Cert.ReferenceBIdeal.τ).loc Cert.ReferenceBIdeal.main_arg1)
          ∧ r.2.mem ((c.tc : Thread Cert.ReferenceBIdeal.nD Cert.ReferenceBIdeal.τ).loc Cert.ReferenceBIdeal.main_arg2) = m' ((c.tc : Thread Cert.ReferenceBIdeal.nD Cert.ReferenceBIdeal.τ).loc Cert.ReferenceBIdeal.main_arg2)
          ∧ r.2.mem ((c.tc : Thread Cert.ReferenceBIdeal.nD Cert.ReferenceBIdeal.τ).loc Cert.ReferenceBIdeal.main_arg3) = m' ((c.tc : Thread Cert.ReferenceBIdeal.nD Cert.ReferenceBIdeal.τ).loc Cert.ReferenceBIdeal.main_arg3)
          ∧ r.2.mem ((c.tc : Thread Cert.ReferenceBIdeal.nD Cert.ReferenceBIdeal.τ).loc Cert.ReferenceBIdeal.main_arg4) = m' ((c.tc : Thread Cert.ReferenceBIdeal.nD Cert.ReferenceBIdeal.τ).loc Cert.ReferenceBIdeal.main_arg4))

def preserves_KernelPlanes_KernelPlanesIdeal : Prop :=
  True

def algebraic_KernelPlanesIdeal_ReferencePlanesIdeal [hKernelPlanesIdeal : Cert.KernelPlanesIdeal.Facts] [hReferencePlanesIdeal : Cert.ReferencePlanesIdeal.Facts] : Prop :=
  ∀ (m : (ℓ : Loc Cert.KernelPlanesIdeal.nD Cert.KernelPlanesIdeal.τ Cert.KernelPlanesIdeal.sig) → Buf (Elt Ideal) ℓ) (g : Dev Cert.KernelPlanesIdeal.nD → PrngReg)
    (m' : (ℓ : Loc Cert.ReferencePlanesIdeal.nD Cert.ReferencePlanesIdeal.τ Cert.ReferencePlanesIdeal.sig) → Buf (Elt Ideal) ℓ) (g' : Dev Cert.ReferencePlanesIdeal.nD → PrngReg), Pre_KernelPlanesIdeal m →
    (∀ c : Dev Cert.KernelPlanesIdeal.nD,
      m' ((c.tc : Thread Cert.ReferencePlanesIdeal.nD Cert.ReferencePlanesIdeal.τ).loc Cert.ReferencePlanesIdeal.main_arg0) = m ((c.tc : Thread Cert.KernelPlanesIdeal.nD Cert.KernelPlanesIdeal.τ).loc Cert.KernelPlanesIdeal.main_arg0)) →
    ∃ (v0 : (c : Dev Cert.KernelPlanesIdeal.nD) → Buf (Elt Ideal) ((c.tc : Thread Cert.KernelPlanesIdeal.nD Cert.KernelPlanesIdeal.τ).loc Cert.KernelPlanesIdeal.main_v1)),
      θ_run (Cert.KernelPlanesIdeal.defs (F := Ideal)) (onTc (τ := Cert.KernelPlanesIdeal.τ) (Cert.KernelPlanesIdeal.main (F := Ideal))) ⟨m, fun _ => 0, g⟩ (fun r => ∀ c : Dev Cert.KernelPlanesIdeal.nD,
          r.2.mem ((c.tc : Thread Cert.KernelPlanesIdeal.nD Cert.KernelPlanesIdeal.τ).loc Cert.KernelPlanesIdeal.main_v1) = v0 c
          ∧ r.2.mem ((c.tc : Thread Cert.KernelPlanesIdeal.nD Cert.KernelPlanesIdeal.τ).loc Cert.KernelPlanesIdeal.main_arg0) = m ((c.tc : Thread Cert.KernelPlanesIdeal.nD Cert.KernelPlanesIdeal.τ).loc Cert.KernelPlanesIdeal.main_arg0))
      ∧ θ_run (Cert.ReferencePlanesIdeal.defs (F := Ideal)) (onTc (τ := Cert.ReferencePlanesIdeal.τ) (Cert.ReferencePlanesIdeal.main (F := Ideal))) ⟨m', fun _ => 0, g'⟩ (fun r => ∀ c : Dev Cert.ReferencePlanesIdeal.nD,
          r.2.mem ((c.tc : Thread Cert.ReferencePlanesIdeal.nD Cert.ReferencePlanesIdeal.τ).loc Cert.ReferencePlanesIdeal.main_v1) = v0 c
          ∧ r.2.mem ((c.tc : Thread Cert.ReferencePlanesIdeal.nD Cert.ReferencePlanesIdeal.τ).loc Cert.ReferencePlanesIdeal.main_arg0) = m' ((c.tc : Thread Cert.ReferencePlanesIdeal.nD Cert.ReferencePlanesIdeal.τ).loc Cert.ReferencePlanesIdeal.main_arg0))

def preserves_KernelCombine_KernelCombineIdeal : Prop :=
  True

def algebraic_KernelCombineIdeal_ReferenceCombineIdeal [hKernelCombineIdeal : Cert.KernelCombineIdeal.Facts] [hReferenceCombineIdeal : Cert.ReferenceCombineIdeal.Facts] : Prop :=
  ∀ (m : (ℓ : Loc Cert.KernelCombineIdeal.nD Cert.KernelCombineIdeal.τ Cert.KernelCombineIdeal.sig) → Buf (Elt Ideal) ℓ) (g : Dev Cert.KernelCombineIdeal.nD → PrngReg)
    (m' : (ℓ : Loc Cert.ReferenceCombineIdeal.nD Cert.ReferenceCombineIdeal.τ Cert.ReferenceCombineIdeal.sig) → Buf (Elt Ideal) ℓ) (g' : Dev Cert.ReferenceCombineIdeal.nD → PrngReg), Pre_KernelCombineIdeal m →
    (∀ c : Dev Cert.KernelCombineIdeal.nD,
      m' ((c.tc : Thread Cert.ReferenceCombineIdeal.nD Cert.ReferenceCombineIdeal.τ).loc Cert.ReferenceCombineIdeal.main_arg0) = m ((c.tc : Thread Cert.KernelCombineIdeal.nD Cert.KernelCombineIdeal.τ).loc Cert.KernelCombineIdeal.main_arg0)) →
    ∃ (v0 : (c : Dev Cert.KernelCombineIdeal.nD) → Buf (Elt Ideal) ((c.tc : Thread Cert.KernelCombineIdeal.nD Cert.KernelCombineIdeal.τ).loc Cert.KernelCombineIdeal.main_v1)),
      θ_run (Cert.KernelCombineIdeal.defs (F := Ideal)) (onTc (τ := Cert.KernelCombineIdeal.τ) (Cert.KernelCombineIdeal.main (F := Ideal))) ⟨m, fun _ => 0, g⟩ (fun r => ∀ c : Dev Cert.KernelCombineIdeal.nD,
          r.2.mem ((c.tc : Thread Cert.KernelCombineIdeal.nD Cert.KernelCombineIdeal.τ).loc Cert.KernelCombineIdeal.main_v1) = v0 c
          ∧ r.2.mem ((c.tc : Thread Cert.KernelCombineIdeal.nD Cert.KernelCombineIdeal.τ).loc Cert.KernelCombineIdeal.main_arg0) = m ((c.tc : Thread Cert.KernelCombineIdeal.nD Cert.KernelCombineIdeal.τ).loc Cert.KernelCombineIdeal.main_arg0))
      ∧ θ_run (Cert.ReferenceCombineIdeal.defs (F := Ideal)) (onTc (τ := Cert.ReferenceCombineIdeal.τ) (Cert.ReferenceCombineIdeal.main (F := Ideal))) ⟨m', fun _ => 0, g'⟩ (fun r => ∀ c : Dev Cert.ReferenceCombineIdeal.nD,
          r.2.mem ((c.tc : Thread Cert.ReferenceCombineIdeal.nD Cert.ReferenceCombineIdeal.τ).loc Cert.ReferenceCombineIdeal.main_v1) = v0 c
          ∧ r.2.mem ((c.tc : Thread Cert.ReferenceCombineIdeal.nD Cert.ReferenceCombineIdeal.τ).loc Cert.ReferenceCombineIdeal.main_arg0) = m' ((c.tc : Thread Cert.ReferenceCombineIdeal.nD Cert.ReferenceCombineIdeal.τ).loc Cert.ReferenceCombineIdeal.main_arg0))

def bitexact_KernelPack_ReferencePack [hKernelPack : Cert.KernelPack.Facts] [hReferencePack : Cert.ReferencePack.Facts] : Prop :=
  ∀ (m : (ℓ : Loc Cert.KernelPack.nD Cert.KernelPack.τ Cert.KernelPack.sig) → Buf (Elt Bits) ℓ) (g : Dev Cert.KernelPack.nD → PrngReg)
    (m' : (ℓ : Loc Cert.ReferencePack.nD Cert.ReferencePack.τ Cert.ReferencePack.sig) → Buf (Elt Bits) ℓ) (g' : Dev Cert.ReferencePack.nD → PrngReg), Pre_KernelPack m →
    (∀ c : Dev Cert.KernelPack.nD,
      m' ((c.tc : Thread Cert.ReferencePack.nD Cert.ReferencePack.τ).loc Cert.ReferencePack.main_arg0) = m ((c.tc : Thread Cert.KernelPack.nD Cert.KernelPack.τ).loc Cert.KernelPack.main_arg0)
      ∧ m' ((c.tc : Thread Cert.ReferencePack.nD Cert.ReferencePack.τ).loc Cert.ReferencePack.main_arg1) = m ((c.tc : Thread Cert.KernelPack.nD Cert.KernelPack.τ).loc Cert.KernelPack.main_arg1)) →
    ∃ (v0 : (c : Dev Cert.KernelPack.nD) → Buf (Elt Bits) ((c.tc : Thread Cert.KernelPack.nD Cert.KernelPack.τ).loc Cert.KernelPack.main_v2_0)) (v1 : (c : Dev Cert.KernelPack.nD) → Buf (Elt Bits) ((c.tc : Thread Cert.KernelPack.nD Cert.KernelPack.τ).loc Cert.KernelPack.main_v2_1)),
      θ_run (Cert.KernelPack.defs (F := Bits)) (onTc (τ := Cert.KernelPack.τ) (Cert.KernelPack.main (F := Bits))) ⟨m, fun _ => 0, g⟩ (fun r => ∀ c : Dev Cert.KernelPack.nD,
          r.2.mem ((c.tc : Thread Cert.KernelPack.nD Cert.KernelPack.τ).loc Cert.KernelPack.main_v2_0) = v0 c
          ∧ r.2.mem ((c.tc : Thread Cert.KernelPack.nD Cert.KernelPack.τ).loc Cert.KernelPack.main_v2_1) = v1 c
          ∧ r.2.mem ((c.tc : Thread Cert.KernelPack.nD Cert.KernelPack.τ).loc Cert.KernelPack.main_arg0) = m ((c.tc : Thread Cert.KernelPack.nD Cert.KernelPack.τ).loc Cert.KernelPack.main_arg0)
          ∧ r.2.mem ((c.tc : Thread Cert.KernelPack.nD Cert.KernelPack.τ).loc Cert.KernelPack.main_arg1) = m ((c.tc : Thread Cert.KernelPack.nD Cert.KernelPack.τ).loc Cert.KernelPack.main_arg1))
      ∧ θ_run (Cert.ReferencePack.defs (F := Bits)) (onTc (τ := Cert.ReferencePack.τ) (Cert.ReferencePack.main (F := Bits))) ⟨m', fun _ => 0, g'⟩ (fun r => ∀ c : Dev Cert.ReferencePack.nD,
          r.2.mem ((c.tc : Thread Cert.ReferencePack.nD Cert.ReferencePack.τ).loc Cert.ReferencePack.main_v8) = v0 c
          ∧ r.2.mem ((c.tc : Thread Cert.ReferencePack.nD Cert.ReferencePack.τ).loc Cert.ReferencePack.main_v10) = v1 c
          ∧ r.2.mem ((c.tc : Thread Cert.ReferencePack.nD Cert.ReferencePack.τ).loc Cert.ReferencePack.main_arg0) = m' ((c.tc : Thread Cert.ReferencePack.nD Cert.ReferencePack.τ).loc Cert.ReferencePack.main_arg0)
          ∧ r.2.mem ((c.tc : Thread Cert.ReferencePack.nD Cert.ReferencePack.τ).loc Cert.ReferencePack.main_arg1) = m' ((c.tc : Thread Cert.ReferencePack.nD Cert.ReferencePack.τ).loc Cert.ReferencePack.main_arg1))

def Claim : Prop :=
  ∃ (hKernel : Cert.Kernel.Facts) (hKernelIdeal : Cert.KernelIdeal.Facts) (hReferenceIdeal : Cert.ReferenceIdeal.Facts) (hKernelA : Cert.KernelA.Facts) (hKernelAIdeal : Cert.KernelAIdeal.Facts) (hReferenceAIdeal : Cert.ReferenceAIdeal.Facts) (hKernelB : Cert.KernelB.Facts) (hKernelBIdeal : Cert.KernelBIdeal.Facts) (hReferenceBIdeal : Cert.ReferenceBIdeal.Facts) (hKernelPlanes : Cert.KernelPlanes.Facts) (hKernelPlanesIdeal : Cert.KernelPlanesIdeal.Facts) (hReferencePlanesIdeal : Cert.ReferencePlanesIdeal.Facts) (hKernelCombine : Cert.KernelCombine.Facts) (hKernelCombineIdeal : Cert.KernelCombineIdeal.Facts) (hReferenceCombineIdeal : Cert.ReferenceCombineIdeal.Facts) (hKernelPack : Cert.KernelPack.Facts) (hReferencePack : Cert.ReferencePack.Facts),
    quiescent_Kernel (hKernel := hKernel)
    ∧ quiescent_KernelIdeal (hKernelIdeal := hKernelIdeal)
    ∧ quiescent_ReferenceIdeal (hReferenceIdeal := hReferenceIdeal)
    ∧ quiescent_KernelA (hKernelA := hKernelA)
    ∧ quiescent_KernelAIdeal (hKernelAIdeal := hKernelAIdeal)
    ∧ quiescent_ReferenceAIdeal (hReferenceAIdeal := hReferenceAIdeal)
    ∧ quiescent_KernelB (hKernelB := hKernelB)
    ∧ quiescent_KernelBIdeal (hKernelBIdeal := hKernelBIdeal)
    ∧ quiescent_ReferenceBIdeal (hReferenceBIdeal := hReferenceBIdeal)
    ∧ quiescent_KernelPlanes (hKernelPlanes := hKernelPlanes)
    ∧ quiescent_KernelPlanesIdeal (hKernelPlanesIdeal := hKernelPlanesIdeal)
    ∧ quiescent_ReferencePlanesIdeal (hReferencePlanesIdeal := hReferencePlanesIdeal)
    ∧ quiescent_KernelCombine (hKernelCombine := hKernelCombine)
    ∧ quiescent_KernelCombineIdeal (hKernelCombineIdeal := hKernelCombineIdeal)
    ∧ quiescent_ReferenceCombineIdeal (hReferenceCombineIdeal := hReferenceCombineIdeal)
    ∧ quiescent_KernelPack (hKernelPack := hKernelPack)
    ∧ quiescent_ReferencePack (hReferencePack := hReferencePack)
    ∧ preserves_Kernel_KernelIdeal
    ∧ algebraic_KernelIdeal_ReferenceIdeal (hKernelIdeal := hKernelIdeal) (hReferenceIdeal := hReferenceIdeal)
    ∧ preserves_KernelA_KernelAIdeal
    ∧ algebraic_KernelAIdeal_ReferenceAIdeal (hKernelAIdeal := hKernelAIdeal) (hReferenceAIdeal := hReferenceAIdeal)
    ∧ preserves_KernelB_KernelBIdeal
    ∧ algebraic_KernelBIdeal_ReferenceBIdeal (hKernelBIdeal := hKernelBIdeal) (hReferenceBIdeal := hReferenceBIdeal)
    ∧ preserves_KernelPlanes_KernelPlanesIdeal
    ∧ algebraic_KernelPlanesIdeal_ReferencePlanesIdeal (hKernelPlanesIdeal := hKernelPlanesIdeal) (hReferencePlanesIdeal := hReferencePlanesIdeal)
    ∧ preserves_KernelCombine_KernelCombineIdeal
    ∧ algebraic_KernelCombineIdeal_ReferenceCombineIdeal (hKernelCombineIdeal := hKernelCombineIdeal) (hReferenceCombineIdeal := hReferenceCombineIdeal)
    ∧ bitexact_KernelPack_ReferencePack (hKernelPack := hKernelPack) (hReferencePack := hReferencePack)
-- ==== Kernel.lean ====
abbrev S3x384x14336 : Shape := ⟨3, ![3, 384, 14336]⟩
abbrev S3x384 : Shape := ⟨2, ![3, 384]⟩
abbrev S8x1152x512 : Shape := ⟨3, ![8, 1152, 512]⟩
abbrev S14336 : Shape := ⟨1, ![14336]⟩
abbrev S4x1024x4x8x128 : Shape := ⟨5, ![4, 1024, 4, 8, 128]⟩
abbrev S1152x14336 : Shape := ⟨2, ![1152, 14336]⟩
abbrev S1x1152 : Shape := ⟨2, ![1, 1152]⟩
abbrev S56x1x256 : Shape := ⟨3, ![56, 1, 256]⟩
abbrev S8x1024x4x8x128 : Shape := ⟨5, ![8, 1024, 4, 8, 128]⟩
abbrev S32x1x256 : Shape := ⟨3, ![32, 1, 256]⟩
abbrev S1152x256 : Shape := ⟨2, ![1152, 256]⟩
abbrev S1x1x256 : Shape := ⟨3, ![1, 1, 256]⟩
abbrev S4x32x4x8x128 : Shape := ⟨5, ![4, 32, 4, 8, 128]⟩
abbrev S8x32x4x8x128 : Shape := ⟨5, ![8, 32, 4, 8, 128]⟩
abbrev S1152x128 : Shape := ⟨2, ![1152, 128]⟩
abbrev S128x1152 : Shape := ⟨2, ![128, 1152]⟩
abbrev S1x256 : Shape := ⟨2, ![1, 256]⟩
abbrev S128x256 : Shape := ⟨2, ![128, 256]⟩
abbrev S256x128 : Shape := ⟨2, ![256, 128]⟩
abbrev S1x1152x512 : Shape := ⟨3, ![1, 1152, 512]⟩
abbrev S1152x512 : Shape := ⟨2, ![1152, 512]⟩
abbrev S256x512 : Shape := ⟨2, ![256, 512]⟩
abbrev S32x8x128 : Shape := ⟨3, ![32, 8, 128]⟩
abbrev S1x32x1x8x128 : Shape := ⟨5, ![1, 32, 1, 8, 128]⟩
abbrev S256 : Shape := ⟨1, ![256]⟩

abbrev nBuf : Space → Nat
  | .hbm => 10
  | .vmem => 13
  | .smem => 0
  | _ => 0

abbrev bufTy : (tb : Table) → Fin (tcTables nBuf tb) → BufTy
  | .hbm, ⟨0, _⟩ => ⟨S3x384x14336, .fp8e5m2⟩
  | .hbm, ⟨1, _⟩ => ⟨S3x384, .f32⟩
  | .hbm, ⟨2, _⟩ => ⟨S8x1152x512, .bf16⟩
  | .hbm, ⟨3, _⟩ => ⟨S14336, .f32⟩
  | .hbm, ⟨4, _⟩ => ⟨S4x1024x4x8x128, .i32⟩
  | .hbm, ⟨5, _⟩ => ⟨S1152x14336, .fp8e5m2⟩
  | .hbm, ⟨6, _⟩ => ⟨S1x1152, .f32⟩
  | .hbm, ⟨7, _⟩ => ⟨S56x1x256, .f32⟩
  | .hbm, ⟨8, _⟩ => ⟨S8x1024x4x8x128, .f32⟩
  | .hbm, ⟨9, _⟩ => ⟨S32x1x256, .f32⟩
  | .local _ .vmem, ⟨0, _⟩ => ⟨S1152x256, .fp8e5m2⟩
  | .local _ .vmem, ⟨1, _⟩ => ⟨S1152x256, .fp8e5m2⟩
  | .local _ .vmem, ⟨2, _⟩ => ⟨S1x1152, .f32⟩
  | .local _ .vmem, ⟨3, _⟩ => ⟨S8x1152x512, .bf16⟩
  | .local _ .vmem, ⟨4, _⟩ => ⟨S1x1x256, .f32⟩
  | .local _ .vmem, ⟨5, _⟩ => ⟨S1x1x256, .f32⟩
  | .local _ .vmem, ⟨6, _⟩ => ⟨S4x32x4x8x128, .i32⟩
  | .local _ .vmem, ⟨7, _⟩ => ⟨S4x32x4x8x128, .i32⟩
  | .local _ .vmem, ⟨8, _⟩ => ⟨S8x32x4x8x128, .f32⟩
  | .local _ .vmem, ⟨9, _⟩ => ⟨S8x32x4x8x128, .f32⟩
  | .local _ .vmem, ⟨10, _⟩ => ⟨S1x1x256, .f32⟩
  | .local _ .vmem, ⟨11, _⟩ => ⟨S1x1x256, .f32⟩
  | .local _ .vmem, ⟨12, _⟩ => ⟨S1152x128, .bf16⟩
  | _, _ => ⟨S3x384x14336, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c24_i32 : BitVec 32 := 24#32
  let v0 : BitVec 32 := Scalar.addi arg0 c24_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c24_i32 : BitVec 32 := 24#32
  let v0 : BitVec 32 := Scalar.addi arg0 c24_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 5 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32_0.toNat, v0.toNat, c0_i32_1.toNat, c0_i32_2.toNat, c0_i32_3.toNat]

def cc0_transform_5 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1152x256 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1152x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x32x4x8x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x32x4x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
abbrev S3x384x14336 : Shape := ⟨3, ![3, 384, 14336]⟩
abbrev S3x384 : Shape := ⟨2, ![3, 384]⟩
abbrev S8x1152x512 : Shape := ⟨3, ![8, 1152, 512]⟩
abbrev S14336 : Shape := ⟨1, ![14336]⟩
abbrev S4x1024x4x8x128 : Shape := ⟨5, ![4, 1024, 4, 8, 128]⟩
abbrev S1152x14336 : Shape := ⟨2, ![1152, 14336]⟩
abbrev S1x1152 : Shape := ⟨2, ![1, 1152]⟩
abbrev S56x1x256 : Shape := ⟨3, ![56, 1, 256]⟩
abbrev S8x1024x4x8x128 : Shape := ⟨5, ![8, 1024, 4, 8, 128]⟩
abbrev S32x1x256 : Shape := ⟨3, ![32, 1, 256]⟩
abbrev S1152x256 : Shape := ⟨2, ![1152, 256]⟩
abbrev S1x1x256 : Shape := ⟨3, ![1, 1, 256]⟩
abbrev S4x32x4x8x128 : Shape := ⟨5, ![4, 32, 4, 8, 128]⟩
abbrev S8x32x4x8x128 : Shape := ⟨5, ![8, 32, 4, 8, 128]⟩
abbrev S1152x128 : Shape := ⟨2, ![1152, 128]⟩
abbrev S128x1152 : Shape := ⟨2, ![128, 1152]⟩
abbrev S1x256 : Shape := ⟨2, ![1, 256]⟩
abbrev S128x256 : Shape := ⟨2, ![128, 256]⟩
abbrev S256x128 : Shape := ⟨2, ![256, 128]⟩
abbrev S1x1152x512 : Shape := ⟨3, ![1, 1152, 512]⟩
abbrev S1152x512 : Shape := ⟨2, ![1152, 512]⟩
abbrev S256x512 : Shape := ⟨2, ![256, 512]⟩
abbrev S32x8x128 : Shape := ⟨3, ![32, 8, 128]⟩
abbrev S1x32x1x8x128 : Shape := ⟨5, ![1, 32, 1, 8, 128]⟩
abbrev S256 : Shape := ⟨1, ![256]⟩

abbrev nBuf : Space → Nat
  | .hbm => 10
  | .vmem => 13
  | .smem => 0
  | _ => 0

abbrev bufTy : (tb : Table) → Fin (tcTables nBuf tb) → BufTy
  | .hbm, ⟨0, _⟩ => ⟨S3x384x14336, .fp8e5m2⟩
  | .hbm, ⟨1, _⟩ => ⟨S3x384, .f32⟩
  | .hbm, ⟨2, _⟩ => ⟨S8x1152x512, .bf16⟩
  | .hbm, ⟨3, _⟩ => ⟨S14336, .f32⟩
  | .hbm, ⟨4, _⟩ => ⟨S4x1024x4x8x128, .i32⟩
  | .hbm, ⟨5, _⟩ => ⟨S1152x14336, .fp8e5m2⟩
  | .hbm, ⟨6, _⟩ => ⟨S1x1152, .f32⟩
  | .hbm, ⟨7, _⟩ => ⟨S56x1x256, .f32⟩
  | .hbm, ⟨8, _⟩ => ⟨S8x1024x4x8x128, .f32⟩
  | .hbm, ⟨9, _⟩ => ⟨S32x1x256, .f32⟩
  | .local _ .vmem, ⟨0, _⟩ => ⟨S1152x256, .fp8e5m2⟩
  | .local _ .vmem, ⟨1, _⟩ => ⟨S1152x256, .fp8e5m2⟩
  | .local _ .vmem, ⟨2, _⟩ => ⟨S1x1152, .f32⟩
  | .local _ .vmem, ⟨3, _⟩ => ⟨S8x1152x512, .bf16⟩
  | .local _ .vmem, ⟨4, _⟩ => ⟨S1x1x256, .f32⟩
  | .local _ .vmem, ⟨5, _⟩ => ⟨S1x1x256, .f32⟩
  | .local _ .vmem, ⟨6, _⟩ => ⟨S4x32x4x8x128, .i32⟩
  | .local _ .vmem, ⟨7, _⟩ => ⟨S4x32x4x8x128, .i32⟩
  | .local _ .vmem, ⟨8, _⟩ => ⟨S8x32x4x8x128, .f32⟩
  | .local _ .vmem, ⟨9, _⟩ => ⟨S8x32x4x8x128, .f32⟩
  | .local _ .vmem, ⟨10, _⟩ => ⟨S1x1x256, .f32⟩
  | .local _ .vmem, ⟨11, _⟩ => ⟨S1x1x256, .f32⟩
  | .local _ .vmem, ⟨12, _⟩ => ⟨S1152x128, .bf16⟩
  | _, _ => ⟨S3x384x14336, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c24_i32 : BitVec 32 := 24#32
  let v0 : BitVec 32 := Scalar.addi arg0 c24_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c24_i32 : BitVec 32 := 24#32
  let v0 : BitVec 32 := Scalar.addi arg0 c24_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 5 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32_0.toNat, v0.toNat, c0_i32_1.toNat, c0_i32_2.toNat, c0_i32_3.toNat]

def cc0_transform_5 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1152x256 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1152x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x32x4x8x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x32x4x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S3x384x14336 : Shape := ⟨3, ![3, 384, 14336]⟩
abbrev S3x384 : Shape := ⟨2, ![3, 384]⟩
abbrev S8x1152x512 : Shape := ⟨3, ![8, 1152, 512]⟩
abbrev S14336 : Shape := ⟨1, ![14336]⟩
abbrev S4x1024x4x8x128 : Shape := ⟨5, ![4, 1024, 4, 8, 128]⟩
abbrev S1152x14336 : Shape := ⟨2, ![1152, 14336]⟩
abbrev S1152x8192 : Shape := ⟨2, ![1152, 8192]⟩
abbrev S1152x1 : Shape := ⟨2, ![1152, 1]⟩
abbrev S8192 : Shape := ⟨1, ![8192]⟩
abbrev S1x8192x1 : Shape := ⟨3, ![1, 8192, 1]⟩
abbrev S4x1024x8x4x128 : Shape := ⟨5, ![4, 1024, 8, 4, 128]⟩
abbrev S4x8192x512 : Shape := ⟨3, ![4, 8192, 512]⟩
abbrev S4x8192x512x2 : Shape := ⟨4, ![4, 8192, 512, 2]⟩
abbrev S4x2x8192x512 : Shape := ⟨4, ![4, 2, 8192, 512]⟩
abbrev S8x8192x512 : Shape := ⟨3, ![8, 8192, 512]⟩
abbrev S1x8192 : Shape := ⟨2, ![1, 8192]⟩
abbrev S1x1152x8192 : Shape := ⟨3, ![1, 1152, 8192]⟩
abbrev S8x1152x8192 : Shape := ⟨3, ![8, 1152, 8192]⟩
abbrev S8x1024x8x4x128 : Shape := ⟨5, ![8, 1024, 8, 4, 128]⟩
abbrev S8x1024x4x8x128 : Shape := ⟨5, ![8, 1024, 4, 8, 128]⟩
abbrev S32x1x256 : Shape := ⟨3, ![32, 1, 256]⟩

abbrev nBuf : Space → Nat
  | .hbm => 20
  | .vmem => 7
  | .smem => 0
  | _ => 0

abbrev bufTy : (tb : Table) → Fin (tcTables nBuf tb) → BufTy
  | .hbm, ⟨0, _⟩ => ⟨S3x384x14336, .fp8e5m2⟩
  | .hbm, ⟨1, _⟩ => ⟨S3x384, .f32⟩
  | .hbm, ⟨2, _⟩ => ⟨S8x1152x512, .bf16⟩
  | .hbm, ⟨3, _⟩ => ⟨S14336, .f32⟩
  | .hbm, ⟨4, _⟩ => ⟨S4x1024x4x8x128, .i32⟩
  | .hbm, ⟨5, _⟩ => ⟨S1152x14336, .fp8e5m2⟩
  | .hbm, ⟨6, _⟩ => ⟨S1152x8192, .fp8e5m2⟩
  | .hbm, ⟨7, _⟩ => ⟨S1152x1, .f32⟩
  | .hbm, ⟨8, _⟩ => ⟨S8192, .f32⟩
  | .hbm, ⟨9, _⟩ => ⟨S1x8192x1, .f32⟩
  | .hbm, ⟨10, _⟩ => ⟨S4x1024x8x4x128, .i32⟩
  | .hbm, ⟨11, _⟩ => ⟨S4x8192x512, .i32⟩
  | .hbm, ⟨12, _⟩ => ⟨S4x8192x512x2, .bf16⟩
  | .hbm, ⟨13, _⟩ => ⟨S4x2x8192x512, .bf16⟩
  | .hbm, ⟨14, _⟩ => ⟨S8x8192x512, .bf16⟩
  | .hbm, ⟨15, _⟩ => ⟨S8x8192x512, .f32⟩
  | .hbm, ⟨16, _⟩ => ⟨S1x8192, .f32⟩
  | .hbm, ⟨17, _⟩ => ⟨S8x1024x8x4x128, .f32⟩
  | .hbm, ⟨18, _⟩ => ⟨S8x1024x4x8x128, .f32⟩
  | .hbm, ⟨19, _⟩ => ⟨S32x1x256, .f32⟩
  | .local _ .vmem, ⟨0, _⟩ => ⟨S1152x8192, .fp8e5m2⟩
  | .local _ .vmem, ⟨1, _⟩ => ⟨S1152x1, .f32⟩
  | .local _ .vmem, ⟨2, _⟩ => ⟨S8x1152x512, .bf16⟩
  | .local _ .vmem, ⟨3, _⟩ => ⟨S1x8192x1, .f32⟩
  | .local _ .vmem, ⟨4, _⟩ => ⟨S8x8192x512, .bf16⟩
  | .local _ .vmem, ⟨5, _⟩ => ⟨S8x8192x512, .f32⟩
  | .local _ .vmem, ⟨6, _⟩ => ⟨S1x8192, .f32⟩
  | _, _ => ⟨S3x384x14336, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1152x8192 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1152x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1152x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8192x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x8192x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x8192x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== KernelA.lean ====
abbrev S3x384x14336 : Shape := ⟨3, ![3, 384, 14336]⟩
abbrev S3x384 : Shape := ⟨2, ![3, 384]⟩
abbrev S8x1152x512 : Shape := ⟨3, ![8, 1152, 512]⟩
abbrev S14336 : Shape := ⟨1, ![14336]⟩
abbrev S4x768x4x8x128 : Shape := ⟨5, ![4, 768, 4, 8, 128]⟩
abbrev S1152x14336 : Shape := ⟨2, ![1152, 14336]⟩
abbrev S1x1152 : Shape := ⟨2, ![1, 1152]⟩
abbrev S56x1x256 : Shape := ⟨3, ![56, 1, 256]⟩
abbrev S8x256x4x8x128 : Shape := ⟨5, ![8, 256, 4, 8, 128]⟩
abbrev S8x1x256 : Shape := ⟨3, ![8, 1, 256]⟩
abbrev S1152x256 : Shape := ⟨2, ![1152, 256]⟩
abbrev S1x1x256 : Shape := ⟨3, ![1, 1, 256]⟩
abbrev S4x32x4x8x128 : Shape := ⟨5, ![4, 32, 4, 8, 128]⟩
abbrev S8x32x4x8x128 : Shape := ⟨5, ![8, 32, 4, 8, 128]⟩
abbrev S1152x128 : Shape := ⟨2, ![1152, 128]⟩
abbrev S128x1152 : Shape := ⟨2, ![128, 1152]⟩
abbrev S1x256 : Shape := ⟨2, ![1, 256]⟩
abbrev S128x256 : Shape := ⟨2, ![128, 256]⟩
abbrev S256x128 : Shape := ⟨2, ![256, 128]⟩
abbrev S1x1152x512 : Shape := ⟨3, ![1, 1152, 512]⟩
abbrev S1152x512 : Shape := ⟨2, ![1152, 512]⟩
abbrev S256x512 : Shape := ⟨2, ![256, 512]⟩
abbrev S32x8x128 : Shape := ⟨3, ![32, 8, 128]⟩
abbrev S1x32x1x8x128 : Shape := ⟨5, ![1, 32, 1, 8, 128]⟩
abbrev S256 : Shape := ⟨1, ![256]⟩

abbrev nBuf : Space → Nat
  | .hbm => 10
  | .vmem => 13
  | .smem => 0
  | _ => 0

abbrev bufTy : (tb : Table) → Fin (tcTables nBuf tb) → BufTy
  | .hbm, ⟨0, _⟩ => ⟨S3x384x14336, .fp8e5m2⟩
  | .hbm, ⟨1, _⟩ => ⟨S3x384, .f32⟩
  | .hbm, ⟨2, _⟩ => ⟨S8x1152x512, .bf16⟩
  | .hbm, ⟨3, _⟩ => ⟨S14336, .f32⟩
  | .hbm, ⟨4, _⟩ => ⟨S4x768x4x8x128, .i32⟩
  | .hbm, ⟨5, _⟩ => ⟨S1152x14336, .fp8e5m2⟩
  | .hbm, ⟨6, _⟩ => ⟨S1x1152, .f32⟩
  | .hbm, ⟨7, _⟩ => ⟨S56x1x256, .f32⟩
  | .hbm, ⟨8, _⟩ => ⟨S8x256x4x8x128, .f32⟩
  | .hbm, ⟨9, _⟩ => ⟨S8x1x256, .f32⟩
  | .local _ .vmem, ⟨0, _⟩ => ⟨S1152x256, .fp8e5m2⟩
  | .local _ .vmem, ⟨1, _⟩ => ⟨S1152x256, .fp8e5m2⟩
  | .local _ .vmem, ⟨2, _⟩ => ⟨S1x1152, .f32⟩
  | .local _ .vmem, ⟨3, _⟩ => ⟨S8x1152x512, .bf16⟩
  | .local _ .vmem, ⟨4, _⟩ => ⟨S1x1x256, .f32⟩
  | .local _ .vmem, ⟨5, _⟩ => ⟨S1x1x256, .f32⟩
  | .local _ .vmem, ⟨6, _⟩ => ⟨S4x32x4x8x128, .i32⟩
  | .local _ .vmem, ⟨7, _⟩ => ⟨S4x32x4x8x128, .i32⟩
  | .local _ .vmem, ⟨8, _⟩ => ⟨S8x32x4x8x128, .f32⟩
  | .local _ .vmem, ⟨9, _⟩ => ⟨S8x32x4x8x128, .f32⟩
  | .local _ .vmem, ⟨10, _⟩ => ⟨S1x1x256, .f32⟩
  | .local _ .vmem, ⟨11, _⟩ => ⟨S1x1x256, .f32⟩
  | .local _ .vmem, ⟨12, _⟩ => ⟨S1152x128, .bf16⟩
  | _, _ => ⟨S3x384x14336, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_4 (i : grid0.Coords) : Fin 5 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32_0.toNat, v0.toNat, c0_i32_1.toNat, c0_i32_2.toNat, c0_i32_3.toNat]

def cc0_transform_5 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1152x256 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1152x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x32x4x8x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x32x4x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelAIdeal.lean ====
abbrev S3x384x14336 : Shape := ⟨3, ![3, 384, 14336]⟩
abbrev S3x384 : Shape := ⟨2, ![3, 384]⟩
abbrev S8x1152x512 : Shape := ⟨3, ![8, 1152, 512]⟩
abbrev S14336 : Shape := ⟨1, ![14336]⟩
abbrev S4x768x4x8x128 : Shape := ⟨5, ![4, 768, 4, 8, 128]⟩
abbrev S1152x14336 : Shape := ⟨2, ![1152, 14336]⟩
abbrev S1x1152 : Shape := ⟨2, ![1, 1152]⟩
abbrev S56x1x256 : Shape := ⟨3, ![56, 1, 256]⟩
abbrev S8x256x4x8x128 : Shape := ⟨5, ![8, 256, 4, 8, 128]⟩
abbrev S8x1x256 : Shape := ⟨3, ![8, 1, 256]⟩
abbrev S1152x256 : Shape := ⟨2, ![1152, 256]⟩
abbrev S1x1x256 : Shape := ⟨3, ![1, 1, 256]⟩
abbrev S4x32x4x8x128 : Shape := ⟨5, ![4, 32, 4, 8, 128]⟩
abbrev S8x32x4x8x128 : Shape := ⟨5, ![8, 32, 4, 8, 128]⟩
abbrev S1152x128 : Shape := ⟨2, ![1152, 128]⟩
abbrev S128x1152 : Shape := ⟨2, ![128, 1152]⟩
abbrev S1x256 : Shape := ⟨2, ![1, 256]⟩
abbrev S128x256 : Shape := ⟨2, ![128, 256]⟩
abbrev S256x128 : Shape := ⟨2, ![256, 128]⟩
abbrev S1x1152x512 : Shape := ⟨3, ![1, 1152, 512]⟩
abbrev S1152x512 : Shape := ⟨2, ![1152, 512]⟩
abbrev S256x512 : Shape := ⟨2, ![256, 512]⟩
abbrev S32x8x128 : Shape := ⟨3, ![32, 8, 128]⟩
abbrev S1x32x1x8x128 : Shape := ⟨5, ![1, 32, 1, 8, 128]⟩
abbrev S256 : Shape := ⟨1, ![256]⟩

abbrev nBuf : Space → Nat
  | .hbm => 10
  | .vmem => 13
  | .smem => 0
  | _ => 0

abbrev bufTy : (tb : Table) → Fin (tcTables nBuf tb) → BufTy
  | .hbm, ⟨0, _⟩ => ⟨S3x384x14336, .fp8e5m2⟩
  | .hbm, ⟨1, _⟩ => ⟨S3x384, .f32⟩
  | .hbm, ⟨2, _⟩ => ⟨S8x1152x512, .bf16⟩
  | .hbm, ⟨3, _⟩ => ⟨S14336, .f32⟩
  | .hbm, ⟨4, _⟩ => ⟨S4x768x4x8x128, .i32⟩
  | .hbm, ⟨5, _⟩ => ⟨S1152x14336, .fp8e5m2⟩
  | .hbm, ⟨6, _⟩ => ⟨S1x1152, .f32⟩
  | .hbm, ⟨7, _⟩ => ⟨S56x1x256, .f32⟩
  | .hbm, ⟨8, _⟩ => ⟨S8x256x4x8x128, .f32⟩
  | .hbm, ⟨9, _⟩ => ⟨S8x1x256, .f32⟩
  | .local _ .vmem, ⟨0, _⟩ => ⟨S1152x256, .fp8e5m2⟩
  | .local _ .vmem, ⟨1, _⟩ => ⟨S1152x256, .fp8e5m2⟩
  | .local _ .vmem, ⟨2, _⟩ => ⟨S1x1152, .f32⟩
  | .local _ .vmem, ⟨3, _⟩ => ⟨S8x1152x512, .bf16⟩
  | .local _ .vmem, ⟨4, _⟩ => ⟨S1x1x256, .f32⟩
  | .local _ .vmem, ⟨5, _⟩ => ⟨S1x1x256, .f32⟩
  | .local _ .vmem, ⟨6, _⟩ => ⟨S4x32x4x8x128, .i32⟩
  | .local _ .vmem, ⟨7, _⟩ => ⟨S4x32x4x8x128, .i32⟩
  | .local _ .vmem, ⟨8, _⟩ => ⟨S8x32x4x8x128, .f32⟩
  | .local _ .vmem, ⟨9, _⟩ => ⟨S8x32x4x8x128, .f32⟩
  | .local _ .vmem, ⟨10, _⟩ => ⟨S1x1x256, .f32⟩
  | .local _ .vmem, ⟨11, _⟩ => ⟨S1x1x256, .f32⟩
  | .local _ .vmem, ⟨12, _⟩ => ⟨S1152x128, .bf16⟩
  | _, _ => ⟨S3x384x14336, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_4 (i : grid0.Coords) : Fin 5 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32_0.toNat, v0.toNat, c0_i32_1.toNat, c0_i32_2.toNat, c0_i32_3.toNat]

def cc0_transform_5 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1152x256 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1152x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x32x4x8x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x32x4x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAIdeal.lean ====
abbrev S3x384x14336 : Shape := ⟨3, ![3, 384, 14336]⟩
abbrev S3x384 : Shape := ⟨2, ![3, 384]⟩
abbrev S8x1152x512 : Shape := ⟨3, ![8, 1152, 512]⟩
abbrev S14336 : Shape := ⟨1, ![14336]⟩
abbrev S4x768x4x8x128 : Shape := ⟨5, ![4, 768, 4, 8, 128]⟩
abbrev S1152x14336 : Shape := ⟨2, ![1152, 14336]⟩
abbrev S1152x2048 : Shape := ⟨2, ![1152, 2048]⟩
abbrev S1152x1 : Shape := ⟨2, ![1152, 1]⟩
abbrev S2048 : Shape := ⟨1, ![2048]⟩
abbrev S1x2048x1 : Shape := ⟨3, ![1, 2048, 1]⟩
abbrev S4x768x8x4x128 : Shape := ⟨5, ![4, 768, 8, 4, 128]⟩
abbrev S4x6144x512 : Shape := ⟨3, ![4, 6144, 512]⟩
abbrev S4x2048x512 : Shape := ⟨3, ![4, 2048, 512]⟩
abbrev S4x2048x512x2 : Shape := ⟨4, ![4, 2048, 512, 2]⟩
abbrev S4x2x2048x512 : Shape := ⟨4, ![4, 2, 2048, 512]⟩
abbrev S8x2048x512 : Shape := ⟨3, ![8, 2048, 512]⟩
abbrev S1x2048 : Shape := ⟨2, ![1, 2048]⟩
abbrev S1x1152x2048 : Shape := ⟨3, ![1, 1152, 2048]⟩
abbrev S8x1152x2048 : Shape := ⟨3, ![8, 1152, 2048]⟩
abbrev S8x256x8x4x128 : Shape := ⟨5, ![8, 256, 8, 4, 128]⟩
abbrev S8x256x4x8x128 : Shape := ⟨5, ![8, 256, 4, 8, 128]⟩
abbrev S8x1x256 : Shape := ⟨3, ![8, 1, 256]⟩

abbrev nBuf : Space → Nat
  | .hbm => 21
  | .vmem => 7
  | .smem => 0
  | _ => 0

abbrev bufTy : (tb : Table) → Fin (tcTables nBuf tb) → BufTy
  | .hbm, ⟨0, _⟩ => ⟨S3x384x14336, .fp8e5m2⟩
  | .hbm, ⟨1, _⟩ => ⟨S3x384, .f32⟩
  | .hbm, ⟨2, _⟩ => ⟨S8x1152x512, .bf16⟩
  | .hbm, ⟨3, _⟩ => ⟨S14336, .f32⟩
  | .hbm, ⟨4, _⟩ => ⟨S4x768x4x8x128, .i32⟩
  | .hbm, ⟨5, _⟩ => ⟨S1152x14336, .fp8e5m2⟩
  | .hbm, ⟨6, _⟩ => ⟨S1152x2048, .fp8e5m2⟩
  | .hbm, ⟨7, _⟩ => ⟨S1152x1, .f32⟩
  | .hbm, ⟨8, _⟩ => ⟨S2048, .f32⟩
  | .hbm, ⟨9, _⟩ => ⟨S1x2048x1, .f32⟩
  | .hbm, ⟨10, _⟩ => ⟨S4x768x8x4x128, .i32⟩
  | .hbm, ⟨11, _⟩ => ⟨S4x6144x512, .i32⟩
  | .hbm, ⟨12, _⟩ => ⟨S4x2048x512, .i32⟩
  | .hbm, ⟨13, _⟩ => ⟨S4x2048x512x2, .bf16⟩
  | .hbm, ⟨14, _⟩ => ⟨S4x2x2048x512, .bf16⟩
  | .hbm, ⟨15, _⟩ => ⟨S8x2048x512, .bf16⟩
  | .hbm, ⟨16, _⟩ => ⟨S8x2048x512, .f32⟩
  | .hbm, ⟨17, _⟩ => ⟨S1x2048, .f32⟩
  | .hbm, ⟨18, _⟩ => ⟨S8x256x8x4x128, .f32⟩
  | .hbm, ⟨19, _⟩ => ⟨S8x256x4x8x128, .f32⟩
  | .hbm, ⟨20, _⟩ => ⟨S8x1x256, .f32⟩
  | .local _ .vmem, ⟨0, _⟩ => ⟨S1152x2048, .fp8e5m2⟩
  | .local _ .vmem, ⟨1, _⟩ => ⟨S1152x1, .f32⟩
  | .local _ .vmem, ⟨2, _⟩ => ⟨S8x1152x512, .bf16⟩
  | .local _ .vmem, ⟨3, _⟩ => ⟨S1x2048x1, .f32⟩
  | .local _ .vmem, ⟨4, _⟩ => ⟨S8x2048x512, .bf16⟩
  | .local _ .vmem, ⟨5, _⟩ => ⟨S8x2048x512, .f32⟩
  | .local _ .vmem, ⟨6, _⟩ => ⟨S1x2048, .f32⟩
  | _, _ => ⟨S3x384x14336, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1152x2048 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1152x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1152x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x2048x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== KernelB.lean ====
abbrev S3x384x14336 : Shape := ⟨3, ![3, 384, 14336]⟩
abbrev S3x384 : Shape := ⟨2, ![3, 384]⟩
abbrev S8x1152x512 : Shape := ⟨3, ![8, 1152, 512]⟩
abbrev S14336 : Shape := ⟨1, ![14336]⟩
abbrev S4x768x4x8x128 : Shape := ⟨5, ![4, 768, 4, 8, 128]⟩
abbrev S1152x14336 : Shape := ⟨2, ![1152, 14336]⟩
abbrev S1x1152 : Shape := ⟨2, ![1, 1152]⟩
abbrev S56x1x256 : Shape := ⟨3, ![56, 1, 256]⟩
abbrev S8x512x4x8x128 : Shape := ⟨5, ![8, 512, 4, 8, 128]⟩
abbrev S16x1x256 : Shape := ⟨3, ![16, 1, 256]⟩
abbrev S1152x256 : Shape := ⟨2, ![1152, 256]⟩
abbrev S1x1x256 : Shape := ⟨3, ![1, 1, 256]⟩
abbrev S4x32x4x8x128 : Shape := ⟨5, ![4, 32, 4, 8, 128]⟩
abbrev S8x32x4x8x128 : Shape := ⟨5, ![8, 32, 4, 8, 128]⟩
abbrev S1152x128 : Shape := ⟨2, ![1152, 128]⟩
abbrev S128x1152 : Shape := ⟨2, ![128, 1152]⟩
abbrev S1x256 : Shape := ⟨2, ![1, 256]⟩
abbrev S128x256 : Shape := ⟨2, ![128, 256]⟩
abbrev S256x128 : Shape := ⟨2, ![256, 128]⟩
abbrev S1x1152x512 : Shape := ⟨3, ![1, 1152, 512]⟩
abbrev S1152x512 : Shape := ⟨2, ![1152, 512]⟩
abbrev S256x512 : Shape := ⟨2, ![256, 512]⟩
abbrev S32x8x128 : Shape := ⟨3, ![32, 8, 128]⟩
abbrev S1x32x1x8x128 : Shape := ⟨5, ![1, 32, 1, 8, 128]⟩
abbrev S256 : Shape := ⟨1, ![256]⟩

abbrev nBuf : Space → Nat
  | .hbm => 10
  | .vmem => 13
  | .smem => 0
  | _ => 0

abbrev bufTy : (tb : Table) → Fin (tcTables nBuf tb) → BufTy
  | .hbm, ⟨0, _⟩ => ⟨S3x384x14336, .fp8e5m2⟩
  | .hbm, ⟨1, _⟩ => ⟨S3x384, .f32⟩
  | .hbm, ⟨2, _⟩ => ⟨S8x1152x512, .bf16⟩
  | .hbm, ⟨3, _⟩ => ⟨S14336, .f32⟩
  | .hbm, ⟨4, _⟩ => ⟨S4x768x4x8x128, .i32⟩
  | .hbm, ⟨5, _⟩ => ⟨S1152x14336, .fp8e5m2⟩
  | .hbm, ⟨6, _⟩ => ⟨S1x1152, .f32⟩
  | .hbm, ⟨7, _⟩ => ⟨S56x1x256, .f32⟩
  | .hbm, ⟨8, _⟩ => ⟨S8x512x4x8x128, .f32⟩
  | .hbm, ⟨9, _⟩ => ⟨S16x1x256, .f32⟩
  | .local _ .vmem, ⟨0, _⟩ => ⟨S1152x256, .fp8e5m2⟩
  | .local _ .vmem, ⟨1, _⟩ => ⟨S1152x256, .fp8e5m2⟩
  | .local _ .vmem, ⟨2, _⟩ => ⟨S1x1152, .f32⟩
  | .local _ .vmem, ⟨3, _⟩ => ⟨S8x1152x512, .bf16⟩
  | .local _ .vmem, ⟨4, _⟩ => ⟨S1x1x256, .f32⟩
  | .local _ .vmem, ⟨5, _⟩ => ⟨S1x1x256, .f32⟩
  | .local _ .vmem, ⟨6, _⟩ => ⟨S4x32x4x8x128, .i32⟩
  | .local _ .vmem, ⟨7, _⟩ => ⟨S4x32x4x8x128, .i32⟩
  | .local _ .vmem, ⟨8, _⟩ => ⟨S8x32x4x8x128, .f32⟩
  | .local _ .vmem, ⟨9, _⟩ => ⟨S8x32x4x8x128, .f32⟩
  | .local _ .vmem, ⟨10, _⟩ => ⟨S1x1x256, .f32⟩
  | .local _ .vmem, ⟨11, _⟩ => ⟨S1x1x256, .f32⟩
  | .local _ .vmem, ⟨12, _⟩ => ⟨S1152x128, .bf16⟩
  | _, _ => ⟨S3x384x14336, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 5 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, v0.toNat, c0_i32_0.toNat, c0_i32_1.toNat, c0_i32_2.toNat]

def cc0_transform_5 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1152x256 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1152x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x32x4x8x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x32x4x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelBIdeal.lean ====
abbrev S3x384x14336 : Shape := ⟨3, ![3, 384, 14336]⟩
abbrev S3x384 : Shape := ⟨2, ![3, 384]⟩
abbrev S8x1152x512 : Shape := ⟨3, ![8, 1152, 512]⟩
abbrev S14336 : Shape := ⟨1, ![14336]⟩
abbrev S4x768x4x8x128 : Shape := ⟨5, ![4, 768, 4, 8, 128]⟩
abbrev S1152x14336 : Shape := ⟨2, ![1152, 14336]⟩
abbrev S1x1152 : Shape := ⟨2, ![1, 1152]⟩
abbrev S56x1x256 : Shape := ⟨3, ![56, 1, 256]⟩
abbrev S8x512x4x8x128 : Shape := ⟨5, ![8, 512, 4, 8, 128]⟩
abbrev S16x1x256 : Shape := ⟨3, ![16, 1, 256]⟩
abbrev S1152x256 : Shape := ⟨2, ![1152, 256]⟩
abbrev S1x1x256 : Shape := ⟨3, ![1, 1, 256]⟩
abbrev S4x32x4x8x128 : Shape := ⟨5, ![4, 32, 4, 8, 128]⟩
abbrev S8x32x4x8x128 : Shape := ⟨5, ![8, 32, 4, 8, 128]⟩
abbrev S1152x128 : Shape := ⟨2, ![1152, 128]⟩
abbrev S128x1152 : Shape := ⟨2, ![128, 1152]⟩
abbrev S1x256 : Shape := ⟨2, ![1, 256]⟩
abbrev S128x256 : Shape := ⟨2, ![128, 256]⟩
abbrev S256x128 : Shape := ⟨2, ![256, 128]⟩
abbrev S1x1152x512 : Shape := ⟨3, ![1, 1152, 512]⟩
abbrev S1152x512 : Shape := ⟨2, ![1152, 512]⟩
abbrev S256x512 : Shape := ⟨2, ![256, 512]⟩
abbrev S32x8x128 : Shape := ⟨3, ![32, 8, 128]⟩
abbrev S1x32x1x8x128 : Shape := ⟨5, ![1, 32, 1, 8, 128]⟩
abbrev S256 : Shape := ⟨1, ![256]⟩

abbrev nBuf : Space → Nat
  | .hbm => 10
  | .vmem => 13
  | .smem => 0
  | _ => 0

abbrev bufTy : (tb : Table) → Fin (tcTables nBuf tb) → BufTy
  | .hbm, ⟨0, _⟩ => ⟨S3x384x14336, .fp8e5m2⟩
  | .hbm, ⟨1, _⟩ => ⟨S3x384, .f32⟩
  | .hbm, ⟨2, _⟩ => ⟨S8x1152x512, .bf16⟩
  | .hbm, ⟨3, _⟩ => ⟨S14336, .f32⟩
  | .hbm, ⟨4, _⟩ => ⟨S4x768x4x8x128, .i32⟩
  | .hbm, ⟨5, _⟩ => ⟨S1152x14336, .fp8e5m2⟩
  | .hbm, ⟨6, _⟩ => ⟨S1x1152, .f32⟩
  | .hbm, ⟨7, _⟩ => ⟨S56x1x256, .f32⟩
  | .hbm, ⟨8, _⟩ => ⟨S8x512x4x8x128, .f32⟩
  | .hbm, ⟨9, _⟩ => ⟨S16x1x256, .f32⟩
  | .local _ .vmem, ⟨0, _⟩ => ⟨S1152x256, .fp8e5m2⟩
  | .local _ .vmem, ⟨1, _⟩ => ⟨S1152x256, .fp8e5m2⟩
  | .local _ .vmem, ⟨2, _⟩ => ⟨S1x1152, .f32⟩
  | .local _ .vmem, ⟨3, _⟩ => ⟨S8x1152x512, .bf16⟩
  | .local _ .vmem, ⟨4, _⟩ => ⟨S1x1x256, .f32⟩
  | .local _ .vmem, ⟨5, _⟩ => ⟨S1x1x256, .f32⟩
  | .local _ .vmem, ⟨6, _⟩ => ⟨S4x32x4x8x128, .i32⟩
  | .local _ .vmem, ⟨7, _⟩ => ⟨S4x32x4x8x128, .i32⟩
  | .local _ .vmem, ⟨8, _⟩ => ⟨S8x32x4x8x128, .f32⟩
  | .local _ .vmem, ⟨9, _⟩ => ⟨S8x32x4x8x128, .f32⟩
  | .local _ .vmem, ⟨10, _⟩ => ⟨S1x1x256, .f32⟩
  | .local _ .vmem, ⟨11, _⟩ => ⟨S1x1x256, .f32⟩
  | .local _ .vmem, ⟨12, _⟩ => ⟨S1152x128, .bf16⟩
  | _, _ => ⟨S3x384x14336, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 5 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, v0.toNat, c0_i32_0.toNat, c0_i32_1.toNat, c0_i32_2.toNat]

def cc0_transform_5 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1152x256 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1152x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x32x4x8x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x32x4x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceBIdeal.lean ====
abbrev S3x384x14336 : Shape := ⟨3, ![3, 384, 14336]⟩
abbrev S3x384 : Shape := ⟨2, ![3, 384]⟩
abbrev S8x1152x512 : Shape := ⟨3, ![8, 1152, 512]⟩
abbrev S14336 : Shape := ⟨1, ![14336]⟩
abbrev S4x768x4x8x128 : Shape := ⟨5, ![4, 768, 4, 8, 128]⟩
abbrev S1152x14336 : Shape := ⟨2, ![1152, 14336]⟩
abbrev S1152x4096 : Shape := ⟨2, ![1152, 4096]⟩
abbrev S1152x1 : Shape := ⟨2, ![1152, 1]⟩
abbrev S4096 : Shape := ⟨1, ![4096]⟩
abbrev S1x4096x1 : Shape := ⟨3, ![1, 4096, 1]⟩
abbrev S4x768x8x4x128 : Shape := ⟨5, ![4, 768, 8, 4, 128]⟩
abbrev S4x6144x512 : Shape := ⟨3, ![4, 6144, 512]⟩
abbrev S4x4096x512 : Shape := ⟨3, ![4, 4096, 512]⟩
abbrev S4x4096x512x2 : Shape := ⟨4, ![4, 4096, 512, 2]⟩
abbrev S4x2x4096x512 : Shape := ⟨4, ![4, 2, 4096, 512]⟩
abbrev S8x4096x512 : Shape := ⟨3, ![8, 4096, 512]⟩
abbrev S1x4096 : Shape := ⟨2, ![1, 4096]⟩
abbrev S1x1152x4096 : Shape := ⟨3, ![1, 1152, 4096]⟩
abbrev S8x1152x4096 : Shape := ⟨3, ![8, 1152, 4096]⟩
abbrev S8x512x8x4x128 : Shape := ⟨5, ![8, 512, 8, 4, 128]⟩
abbrev S8x512x4x8x128 : Shape := ⟨5, ![8, 512, 4, 8, 128]⟩
abbrev S16x1x256 : Shape := ⟨3, ![16, 1, 256]⟩

abbrev nBuf : Space → Nat
  | .hbm => 21
  | .vmem => 7
  | .smem => 0
  | _ => 0

abbrev bufTy : (tb : Table) → Fin (tcTables nBuf tb) → BufTy
  | .hbm, ⟨0, _⟩ => ⟨S3x384x14336, .fp8e5m2⟩
  | .hbm, ⟨1, _⟩ => ⟨S3x384, .f32⟩
  | .hbm, ⟨2, _⟩ => ⟨S8x1152x512, .bf16⟩
  | .hbm, ⟨3, _⟩ => ⟨S14336, .f32⟩
  | .hbm, ⟨4, _⟩ => ⟨S4x768x4x8x128, .i32⟩
  | .hbm, ⟨5, _⟩ => ⟨S1152x14336, .fp8e5m2⟩
  | .hbm, ⟨6, _⟩ => ⟨S1152x4096, .fp8e5m2⟩
  | .hbm, ⟨7, _⟩ => ⟨S1152x1, .f32⟩
  | .hbm, ⟨8, _⟩ => ⟨S4096, .f32⟩
  | .hbm, ⟨9, _⟩ => ⟨S1x4096x1, .f32⟩
  | .hbm, ⟨10, _⟩ => ⟨S4x768x8x4x128, .i32⟩
  | .hbm, ⟨11, _⟩ => ⟨S4x6144x512, .i32⟩
  | .hbm, ⟨12, _⟩ => ⟨S4x4096x512, .i32⟩
  | .hbm, ⟨13, _⟩ => ⟨S4x4096x512x2, .bf16⟩
  | .hbm, ⟨14, _⟩ => ⟨S4x2x4096x512, .bf16⟩
  | .hbm, ⟨15, _⟩ => ⟨S8x4096x512, .bf16⟩
  | .hbm, ⟨16, _⟩ => ⟨S8x4096x512, .f32⟩
  | .hbm, ⟨17, _⟩ => ⟨S1x4096, .f32⟩
  | .hbm, ⟨18, _⟩ => ⟨S8x512x8x4x128, .f32⟩
  | .hbm, ⟨19, _⟩ => ⟨S8x512x4x8x128, .f32⟩
  | .hbm, ⟨20, _⟩ => ⟨S16x1x256, .f32⟩
  | .local _ .vmem, ⟨0, _⟩ => ⟨S1152x4096, .fp8e5m2⟩
  | .local _ .vmem, ⟨1, _⟩ => ⟨S1152x1, .f32⟩
  | .local _ .vmem, ⟨2, _⟩ => ⟨S8x1152x512, .bf16⟩
  | .local _ .vmem, ⟨3, _⟩ => ⟨S1x4096x1, .f32⟩
  | .local _ .vmem, ⟨4, _⟩ => ⟨S8x4096x512, .bf16⟩
  | .local _ .vmem, ⟨5, _⟩ => ⟨S8x4096x512, .f32⟩
  | .local _ .vmem, ⟨6, _⟩ => ⟨S1x4096, .f32⟩
  | _, _ => ⟨S3x384x14336, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1152x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1152x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1152x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4096x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x4096x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x4096x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== KernelPlanes.lean ====
abbrev S3x384x4096 : Shape := ⟨3, ![3, 384, 4096]⟩
abbrev S1152x4096 : Shape := ⟨2, ![1152, 4096]⟩
abbrev S8x1152x512 : Shape := ⟨3, ![8, 1152, 512]⟩
abbrev S1152x1024 : Shape := ⟨2, ![1152, 1024]⟩
abbrev S8x1152x128 : Shape := ⟨3, ![8, 1152, 128]⟩
abbrev S1024x1024 : Shape := ⟨2, ![1024, 1024]⟩
abbrev S1152x128 : Shape := ⟨2, ![1152, 128]⟩
abbrev S1x1152x128 : Shape := ⟨3, ![1, 1152, 128]⟩

abbrev nBuf : Space → Nat
  | .hbm => 3
  | .vmem => 5
  | .smem => 0
  | _ => 0

abbrev bufTy : (tb : Table) → Fin (tcTables nBuf tb) → BufTy
  | .hbm, ⟨0, _⟩ => ⟨S3x384x4096, .bf16⟩
  | .hbm, ⟨1, _⟩ => ⟨S1152x4096, .bf16⟩
  | .hbm, ⟨2, _⟩ => ⟨S8x1152x512, .bf16⟩
  | .local _ .vmem, ⟨0, _⟩ => ⟨S1152x1024, .bf16⟩
  | .local _ .vmem, ⟨1, _⟩ => ⟨S1152x1024, .bf16⟩
  | .local _ .vmem, ⟨2, _⟩ => ⟨S8x1152x128, .bf16⟩
  | .local _ .vmem, ⟨3, _⟩ => ⟨S8x1152x128, .bf16⟩
  | .local _ .vmem, ⟨4, _⟩ => ⟨S1024x1024, .bf16⟩
  | _, _ => ⟨S3x384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1152x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KernelPlanesIdeal.lean ====
abbrev S3x384x4096 : Shape := ⟨3, ![3, 384, 4096]⟩
abbrev S1152x4096 : Shape := ⟨2, ![1152, 4096]⟩
abbrev S8x1152x512 : Shape := ⟨3, ![8, 1152, 512]⟩
abbrev S1152x1024 : Shape := ⟨2, ![1152, 1024]⟩
abbrev S8x1152x128 : Shape := ⟨3, ![8, 1152, 128]⟩
abbrev S1024x1024 : Shape := ⟨2, ![1024, 1024]⟩
abbrev S1152x128 : Shape := ⟨2, ![1152, 128]⟩
abbrev S1x1152x128 : Shape := ⟨3, ![1, 1152, 128]⟩

abbrev nBuf : Space → Nat
  | .hbm => 3
  | .vmem => 5
  | .smem => 0
  | _ => 0

abbrev bufTy : (tb : Table) → Fin (tcTables nBuf tb) → BufTy
  | .hbm, ⟨0, _⟩ => ⟨S3x384x4096, .bf16⟩
  | .hbm, ⟨1, _⟩ => ⟨S1152x4096, .bf16⟩
  | .hbm, ⟨2, _⟩ => ⟨S8x1152x512, .bf16⟩
  | .local _ .vmem, ⟨0, _⟩ => ⟨S1152x1024, .bf16⟩
  | .local _ .vmem, ⟨1, _⟩ => ⟨S1152x1024, .bf16⟩
  | .local _ .vmem, ⟨2, _⟩ => ⟨S8x1152x128, .bf16⟩
  | .local _ .vmem, ⟨3, _⟩ => ⟨S8x1152x128, .bf16⟩
  | .local _ .vmem, ⟨4, _⟩ => ⟨S1024x1024, .bf16⟩
  | _, _ => ⟨S3x384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1152x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferencePlanesIdeal.lean ====
abbrev S3x384x4096 : Shape := ⟨3, ![3, 384, 4096]⟩
abbrev S1152x512x8 : Shape := ⟨3, ![1152, 512, 8]⟩
abbrev S8x1152x512 : Shape := ⟨3, ![8, 1152, 512]⟩

abbrev nBuf : Space → Nat
  | .hbm => 3
  | .vmem => 0
  | .smem => 0
  | _ => 0

abbrev bufTy : (tb : Table) → Fin (tcTables nBuf tb) → BufTy
  | .hbm, ⟨0, _⟩ => ⟨S3x384x4096, .bf16⟩
  | .hbm, ⟨1, _⟩ => ⟨S1152x512x8, .bf16⟩
  | .hbm, ⟨2, _⟩ => ⟨S8x1152x512, .bf16⟩
  | _, _ => ⟨S3x384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== KernelCombine.lean ====
abbrev S2097152 : Shape := ⟨1, ![2097152]⟩
abbrev S4x8x512x128 : Shape := ⟨4, ![4, 8, 512, 128]⟩
abbrev S8x65536 : Shape := ⟨2, ![8, 65536]⟩
abbrev S4x8x128x128 : Shape := ⟨4, ![4, 8, 128, 128]⟩
abbrev S8x16384 : Shape := ⟨2, ![8, 16384]⟩
abbrev S8x128x128 : Shape := ⟨3, ![8, 128, 128]⟩

abbrev nBuf : Space → Nat
  | .hbm => 3
  | .vmem => 4
  | .smem => 0
  | _ => 0

abbrev bufTy : (tb : Table) → Fin (tcTables nBuf tb) → BufTy
  | .hbm, ⟨0, _⟩ => ⟨S2097152, .f32⟩
  | .hbm, ⟨1, _⟩ => ⟨S4x8x512x128, .f32⟩
  | .hbm, ⟨2, _⟩ => ⟨S8x65536, .f32⟩
  | .local _ .vmem, ⟨0, _⟩ => ⟨S4x8x128x128, .f32⟩
  | .local _ .vmem, ⟨1, _⟩ => ⟨S4x8x128x128, .f32⟩
  | .local _ .vmem, ⟨2, _⟩ => ⟨S8x16384, .f32⟩
  | .local _ .vmem, ⟨3, _⟩ => ⟨S8x16384, .f32⟩
  | _, _ => ⟨S2097152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x8x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KernelCombineIdeal.lean ====
abbrev S2097152 : Shape := ⟨1, ![2097152]⟩
abbrev S4x8x512x128 : Shape := ⟨4, ![4, 8, 512, 128]⟩
abbrev S8x65536 : Shape := ⟨2, ![8, 65536]⟩
abbrev S4x8x128x128 : Shape := ⟨4, ![4, 8, 128, 128]⟩
abbrev S8x16384 : Shape := ⟨2, ![8, 16384]⟩
abbrev S8x128x128 : Shape := ⟨3, ![8, 128, 128]⟩

abbrev nBuf : Space → Nat
  | .hbm => 3
  | .vmem => 4
  | .smem => 0
  | _ => 0

abbrev bufTy : (tb : Table) → Fin (tcTables nBuf tb) → BufTy
  | .hbm, ⟨0, _⟩ => ⟨S2097152, .f32⟩
  | .hbm, ⟨1, _⟩ => ⟨S4x8x512x128, .f32⟩
  | .hbm, ⟨2, _⟩ => ⟨S8x65536, .f32⟩
  | .local _ .vmem, ⟨0, _⟩ => ⟨S4x8x128x128, .f32⟩
  | .local _ .vmem, ⟨1, _⟩ => ⟨S4x8x128x128, .f32⟩
  | .local _ .vmem, ⟨2, _⟩ => ⟨S8x16384, .f32⟩
  | .local _ .vmem, ⟨3, _⟩ => ⟨S8x16384, .f32⟩
  | _, _ => ⟨S2097152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x8x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceCombineIdeal.lean ====
abbrev S2097152 : Shape := ⟨1, ![2097152]⟩
abbrev S4x8x65536 : Shape := ⟨3, ![4, 8, 65536]⟩
abbrev S_ : Shape := ⟨0, ![]⟩
abbrev S8x65536 : Shape := ⟨2, ![8, 65536]⟩

abbrev nBuf : Space → Nat
  | .hbm => 4
  | .vmem => 0
  | .smem => 0
  | _ => 0

abbrev bufTy : (tb : Table) → Fin (tcTables nBuf tb) → BufTy
  | .hbm, ⟨0, _⟩ => ⟨S2097152, .f32⟩
  | .hbm, ⟨1, _⟩ => ⟨S4x8x65536, .f32⟩
  | .hbm, ⟨2, _⟩ => ⟨S_, .f32⟩
  | .hbm, ⟨3, _⟩ => ⟨S8x65536, .f32⟩
  | _, _ => ⟨S2097152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelPack.lean ====
abbrev S1x14336x512 : Shape := ⟨3, ![1, 14336, 512]⟩
abbrev S1x65536x8 : Shape := ⟨3, ![1, 65536, 8]⟩
abbrev S65536x8 : Shape := ⟨2, ![65536, 8]⟩
abbrev S8x65536 : Shape := ⟨2, ![8, 65536]⟩
abbrev S896x4x8x128 : Shape := ⟨4, ![896, 4, 8, 128]⟩
abbrev S4x512x128 : Shape := ⟨3, ![4, 512, 128]⟩
abbrev S1x896x512 : Shape := ⟨3, ![1, 896, 512]⟩
abbrev S8x4096 : Shape := ⟨2, ![8, 4096]⟩
abbrev S56x4x8x128 : Shape := ⟨4, ![56, 4, 8, 128]⟩
abbrev S4x32x128 : Shape := ⟨3, ![4, 32, 128]⟩
abbrev S896x512 : Shape := ⟨2, ![896, 512]⟩
abbrev S448x512 : Shape := ⟨2, ![448, 512]⟩
abbrev S8x128 : Shape := ⟨2, ![8, 128]⟩
abbrev S1x1x8x128 : Shape := ⟨4, ![1, 1, 8, 128]⟩
abbrev S4x4096 : Shape := ⟨2, ![4, 4096]⟩

abbrev nBuf : Space → Nat
  | .hbm => 6
  | .vmem => 8
  | .smem => 0
  | _ => 0

abbrev bufTy : (tb : Table) → Fin (tcTables nBuf tb) → BufTy
  | .hbm, ⟨0, _⟩ => ⟨S1x14336x512, .i16⟩
  | .hbm, ⟨1, _⟩ => ⟨S1x65536x8, .bf16⟩
  | .hbm, ⟨2, _⟩ => ⟨S65536x8, .bf16⟩
  | .hbm, ⟨3, _⟩ => ⟨S8x65536, .bf16⟩
  | .hbm, ⟨4, _⟩ => ⟨S896x4x8x128, .i32⟩
  | .hbm, ⟨5, _⟩ => ⟨S4x512x128, .i32⟩
  | .local _ .vmem, ⟨0, _⟩ => ⟨S1x896x512, .i16⟩
  | .local _ .vmem, ⟨1, _⟩ => ⟨S1x896x512, .i16⟩
  | .local _ .vmem, ⟨2, _⟩ => ⟨S8x4096, .bf16⟩
  | .local _ .vmem, ⟨3, _⟩ => ⟨S8x4096, .bf16⟩
  | .local _ .vmem, ⟨4, _⟩ => ⟨S56x4x8x128, .i32⟩
  | .local _ .vmem, ⟨5, _⟩ => ⟨S56x4x8x128, .i32⟩
  | .local _ .vmem, ⟨6, _⟩ => ⟨S4x32x128, .i32⟩
  | .local _ .vmem, ⟨7, _⟩ => ⟨S4x32x128, .i32⟩
  | _, _ => ⟨S1x14336x512, .i16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [BitOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x896x512 .i16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S56x4x8x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x32x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferencePack.lean ====
abbrev S1x14336x512 : Shape := ⟨3, ![1, 14336, 512]⟩
abbrev S1x65536x8 : Shape := ⟨3, ![1, 65536, 8]⟩
abbrev S14336x512 : Shape := ⟨2, ![14336, 512]⟩
abbrev S7168x2x512 : Shape := ⟨3, ![7168, 2, 512]⟩
abbrev S7168x512x2 : Shape := ⟨3, ![7168, 512, 2]⟩
abbrev S7168x512 : Shape := ⟨2, ![7168, 512]⟩
abbrev S65536x8 : Shape := ⟨2, ![65536, 8]⟩
abbrev S65536x4x2 : Shape := ⟨3, ![65536, 4, 2]⟩
abbrev S65536x4 : Shape := ⟨2, ![65536, 4]⟩
abbrev S896x8x4x128 : Shape := ⟨4, ![896, 8, 4, 128]⟩
abbrev S896x4x8x128 : Shape := ⟨4, ![896, 4, 8, 128]⟩
abbrev S4x65536 : Shape := ⟨2, ![4, 65536]⟩
abbrev S4x512x128 : Shape := ⟨3, ![4, 512, 128]⟩

abbrev nBuf : Space → Nat
  | .hbm => 13
  | .vmem => 0
  | .smem => 0
  | _ => 0

abbrev bufTy : (tb : Table) → Fin (tcTables nBuf tb) → BufTy
  | .hbm, ⟨0, _⟩ => ⟨S1x14336x512, .i16⟩
  | .hbm, ⟨1, _⟩ => ⟨S1x65536x8, .bf16⟩
  | .hbm, ⟨2, _⟩ => ⟨S14336x512, .i16⟩
  | .hbm, ⟨3, _⟩ => ⟨S7168x2x512, .i16⟩
  | .hbm, ⟨4, _⟩ => ⟨S7168x512x2, .i16⟩
  | .hbm, ⟨5, _⟩ => ⟨S7168x512, .i32⟩
  | .hbm, ⟨6, _⟩ => ⟨S65536x8, .bf16⟩
  | .hbm, ⟨7, _⟩ => ⟨S65536x4x2, .bf16⟩
  | .hbm, ⟨8, _⟩ => ⟨S65536x4, .i32⟩
  | .hbm, ⟨9, _⟩ => ⟨S896x8x4x128, .i32⟩
  | .hbm, ⟨10, _⟩ => ⟨S896x4x8x128, .i32⟩
  | .hbm, ⟨11, _⟩ => ⟨S4x65536, .i32⟩
  | .hbm, ⟨12, _⟩ => ⟨S4x512x128, .i32⟩
  | _, _ => ⟨S1x14336x512, .i16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [BitOps F]
-- ==== Proof.Half.lean ====
/-
  A 32-bit word holds two bf16 values, one in each half. This module reads a half as a number: shifting the word up by
  sixteen bits, or clearing its low sixteen bits, and reading the result as an f32 gives the number the bf16 half denotes.
-/
module

public import Idealize.ShloMosaic.Lib.Pointwise
public import Idealize.ShloMosaic.Lib.BitcastConvert

@[expose] public section

noncomputable section

namespace Cert.Half

open Idealize.ShloMosaic

/-- The number denoted by the low (`p = 0`) or high (`p = 1`) sixteen bits of a word, read as a bf16. -/
def half (p : ℕ) (w : BitVec 32) : EReal := Ideal.ofBits .bf16 (w.extractLsb' (16 * p) 16)

/-- A bf16 pattern above sixteen zero bits, read as an f32, is the number the bf16 pattern denotes. -/
theorem ofBits_append_zero (h : BitVec 16) : Ideal.ofBits .f32 (h ++ 0#16) = Ideal.ofBits .bf16 h := by
  have es : (h ++ 0#16).extractLsb' (8 + 23) 1 = h.extractLsb' (8 + 7) 1 := by
    ext i hi; simp only [BitVec.getElem_extractLsb', BitVec.getLsbD_append]
    simp [show ¬ 8 + 23 + i < 16 by omega, show 8 + 23 + i - 16 = 8 + 7 + i by omega]
  have ee : (h ++ 0#16).extractLsb' 23 8 = h.extractLsb' 7 8 := by
    ext i hi; simp only [BitVec.getElem_extractLsb', BitVec.getLsbD_append]
    simp [show ¬ 23 + i < 16 by omega, show 23 + i - 16 = 7 + i by omega]
  have ef : ((h ++ 0#16).extractLsb' 0 23).toNat = (h.extractLsb' 0 7).toNat * 65536 := by
    simp only [BitVec.extractLsb'_toNat, BitVec.toNat_append, BitVec.toNat_ofNat]
    rw [Nat.shiftLeft_eq, Nat.zero_mod, Nat.or_zero]; omega
  show Ideal.ieee 8 23 (h ++ 0#16) = Ideal.ieee 8 7 h
  unfold Ideal.ieee
  simp only [es, ee, ef]
  generalize (h.extractLsb' (8 + 7) 1 == 1#1) = neg
  generalize (h.extractLsb' 7 8).toNat = ex
  generalize (h.extractLsb' 0 7).toNat = fr
  have e0 : (fr * 65536 = 0) = (fr = 0) := by simp
  simp only [e0]
  split
  · rfl
  · split
    · congr 1
      push_cast
      rw [show (-133 : ℤ) = -149 + 16 by norm_num,
        zpow_add₀ (by norm_num : (2:ℝ) ≠ 0)]
      norm_num; ring_nf
    · congr 1
      push_cast
      rw [show ((ex : ℤ) - 127 - 7) = ((ex : ℤ) - 127 - 23) + 16 by ring,
        zpow_add₀ (by norm_num : (2:ℝ) ≠ 0)]
      norm_num; ring_nf

/-- A word shifted up by sixteen bits, read as an f32, is its low half. -/
theorem shl_eq (w : BitVec 32) : Ideal.ofBits .f32 (IntOp.shli ArithUnit.vector w 16#32) = half 0 w := by
  have e : IntOp.shli ArithUnit.vector w 16#32 = w.extractLsb' 0 16 ++ 0#16 := by
    show (if (16#32).toNat < 32 then w <<< 16#32 else _) = _
    rw [if_pos (by decide)]
    ext i hi
    refine Eq.trans ?_ (BitVec.getElem_append (x := w.extractLsb' 0 16) (y := 0#16) hi).symm
    simp only [BitVec.shiftLeft_eq', BitVec.toNat_ofNat, BitVec.getElem_shiftLeft, BitVec.getElem_extractLsb',
      BitVec.getElem_zero]
    by_cases h16 : i < 16
    · simp [h16]
    · simp [h16, BitVec.getLsbD_eq_getElem (show i - 16 < 32 by omega)]
  rw [e, ofBits_append_zero]; rfl

/-- The mask of the high half, bit by bit. -/
theorem mask_getElem : ∀ i : Fin 32, (4294901760#32)[i.val] = decide (16 ≤ i.val) := by decide

/-- A word with its low sixteen bits cleared, read as an f32, is its high half. -/
theorem and_eq (w : BitVec 32) : Ideal.ofBits .f32 (w &&& 4294901760#32) = half 1 w := by
  have e : w &&& 4294901760#32 = w.extractLsb' 16 16 ++ 0#16 := by
    ext i hi
    refine Eq.trans ?_ (BitVec.getElem_append (x := w.extractLsb' 16 16) (y := 0#16) hi).symm
    simp only [BitVec.getElem_and, mask_getElem ⟨i, hi⟩, BitVec.getElem_extractLsb', BitVec.getElem_zero]
    by_cases h16 : i < 16
    · simp [h16]
    · simp [h16, show 16 ≤ i by omega, show 16 + (i - 16) = i by omega, BitVec.getLsbD_eq_getElem hi]
  rw [e, ofBits_append_zero]; rfl

end Cert.Half
end
-- ==== Proof.Block.lean ====
/-
  One grid point of the weight-gradient call: the values it stores, as functions of the windows it reads. The three calls run
  the same body, so these lemmas serve all three; they are written with the names of the first call's program.
-/
module

public import proofs.«01_k».proof.Proof.Gen.KernelIdeal.Value
public import Idealize.ShloMosaic.Lib.Pointwise
public import Idealize.ShloMosaic.Lib.Pipeline.ValueKit.Tiles
public import proofs.«01_k».proof.Proof.Half

@[expose] public section

set_option maxRecDepth 16384

noncomputable section

namespace Cert.Block

open Cert.KernelIdeal Cert.KernelIdeal.Gen Cert.Half Idealize.ShloMosaic Idealize.ShloMosaic.TcCoe Idealize.SL.Sem

/-- The row of a block that sublane `b` of tile `a` is. -/
abbrev row (a : Fin 32) (b : Fin 8) : Fin 256 := ⟨a.val * 8 + b.val, by omega⟩

/-- The group that lane `l` of lane tile `t` is. -/
abbrev col (t : Fin 4) (l : Fin 128) : Fin 512 := ⟨t.val * 128 + l.val, by omega⟩

/-- The lane of the scale scratch that a row of the block is scaled by. -/
abbrev lane (r : Fin 256) : Fin 128 := ⟨r.val % 128, by omega⟩

/-- A two-dimensional vector as a function of its two coordinates. -/
abbrev mat (D : FVec Ideal S1152x256 .bf16) (k : Fin 1152) (r : Fin 256) : EReal := D (ix2 k r)

/-- One entry of the block's weight gradient: the product of a row of the scaled gradient with a group's plane `j`. -/
def dw (D : Fin 1152 → Fin 256 → EReal) (x : FVec Ideal S8x1152x512 .bf16) (j : Fin 8) (r : Fin 256) (g : Fin 512) : EReal :=
  ∑ k : Fin 1152, D k r * x (ix3 j k g)

/-- The block of the first result: each weight gradient times its row's scale, tiled 8 by 128. -/
def wBlk (D : Fin 1152 → Fin 256 → EReal) (x : FVec Ideal S8x1152x512 .bf16) (rs : FVec Ideal S1x1x256 .f32) :
    FVec Ideal S8x32x4x8x128 .f32 :=
  fun y => dw D x (y 0) (row (y 1) (y 3)) (col (y 2) (y 4)) * rs (ix3 0 0 (row (y 1) (y 3)))

/-- The decoded weight of plane `j`, row `r`, group `g`: a half of the word of the plane's pair. -/
def dec (w : IVec S4x32x4x8x128 32) (j : Fin 8) (r : Fin 256) (g : Fin 512) : EReal :=
  half (j.val % 2) (w (ix5 ⟨j.val / 2, by omega⟩ ⟨r.val / 8, by omega⟩ ⟨g.val / 128, by omega⟩ ⟨r.val % 8, by omega⟩
    ⟨g.val % 128, by omega⟩))

/-- The block of the second result: each row's sum of its weight gradients times its decoded weights. -/
def dsBlk (D : Fin 1152 → Fin 256 → EReal) (x : FVec Ideal S8x1152x512 .bf16) (w : IVec S4x32x4x8x128 32) :
    FVec Ideal S1x1x256 .f32 :=
  fun y => ∑ j : Fin 8, ∑ g : Fin 512, dw D x j (y 2) g * dec w j (y 2) g

/-- The first block, entry by entry. -/
theorem wBlk_apply (D : Fin 1152 → Fin 256 → EReal) (x : FVec Ideal S8x1152x512 .bf16) (rs : FVec Ideal S1x1x256 .f32)
    (j : Fin 8) (a : Fin 32) (t : Fin 4) (b : Fin 8) (l : Fin 128) :
    wBlk D x rs (ix5 j a t b l) = dw D x j (row a b) (col t l) * rs (ix3 0 0 (row a b)) := rfl

/-- The second block, entry by entry. -/
theorem dsBlk_apply (D : Fin 1152 → Fin 256 → EReal) (x : FVec Ideal S8x1152x512 .bf16) (w : IVec S4x32x4x8x128 32) (r : Fin 256) :
    dsBlk D x w (ix3 0 0 r) = ∑ j : Fin 8, ∑ g : Fin 512, dw D x j r g * dec w j r g := rfl

/-- The scratch after it is set: the scale of a token on every lane. -/
theorem scale_apply (sc : Vec Ideal S1x1152 .f32) (k : Fin 1152) (l : Fin 128) :
    k0_pay3 (F := Ideal) sc (ix2 k l) = sc (ix2 0 k) := by
  unfold k0_pay3
  pointwise

/-- The row scales spread over the lanes. -/
theorem rs_apply (rs : Vec Ideal S1x1x256 .f32) (r : Fin 256) (l : Fin 128) :
    k0_pay5 (F := Ideal) rs (ix2 r l) = rs (ix3 0 0 r) := by
  unfold k0_pay5
  pointwise

/-- The scaled gradient of the block, from the scale scratch and the codes. -/
abbrev dyv (sc : Vec Ideal S1152x128 .bf16) (x0 : Vec Ideal S1152x256 .fp8e5m2) : FVec Ideal S1152x256 .bf16 :=
  k0_pay4 (F := Ideal) sc (View.ld x0 (Rect.unit (s := S1152x256) ![0, 0] ![1152, 128] (by decide)))
    (View.ld x0 (Rect.unit (s := S1152x256) ![0, 128] ![1152, 128] (by decide)))

/-- No offset. -/
theorem hz : (![0, 0] : Fin 2 → Nat) = fun _ => 0 := funext fun a => by fin_cases a <;> rfl

/-- No offset. -/
theorem hz3 : (![0, 0, 0] : Fin 3 → Nat) = fun _ => 0 := funext fun a => by fin_cases a <;> rfl

/-- The scaled gradient of the block. -/
theorem dy_apply (sc : Vec Ideal S1152x128 .bf16) (x0 : Vec Ideal S1152x256 .fp8e5m2) (k : Fin 1152) (r : Fin 256) :
    dyv sc x0 (ix2 k r)
      = x0 (ix2 k r) * sc (ix2 k (lane r)) := by
  unfold dyv k0_pay4
  simp only [View.ld_unit]
  pointwise
  split
  · next h => rw [show lane r = ⟨r.val, h⟩ from Fin.ext (Nat.mod_eq_of_lt h)]
  · next h =>
    rw [show lane r = ⟨r.val - 128, by omega⟩ from Fin.ext (by show r.val % 128 = r.val - 128; omega),
      show (⟨128 + (r.val - 128), by omega⟩ : Fin 256) = r from Fin.ext (by show 128 + (r.val - 128) = r.val; omega)]

/-- One plane of the decoded features, loaded. -/
theorem plane_apply (x2 : Vec Ideal S8x1152x512 .bf16) (j : ℕ) (hj : j < 8)
    (inb : ∀ a : Fin S8x1152x512.rank, (![j, 0, 0] : Fin 3 → ℕ) a + (![1, 1152, 512] : Fin 3 → ℕ) a ≤ S8x1152x512.size a)
    (k : Fin 1152) (g : Fin 512) :
    View.ld (Val := Elt Ideal) x2 (Rect.unit (s := S8x1152x512) ![j, 0, 0] ![1, 1152, 512] inb) (ix3 0 k g) = x2 (ix3 ⟨j, hj⟩ k g) := by
  refine View.ld_unit_apply_of _ _ _ _ _ _ fun a => ?_
  match a with
  | ⟨0, _⟩ => rfl
  | ⟨1, _⟩ => exact (Nat.zero_add _).symm
  | ⟨2, _⟩ => exact (Nat.zero_add _).symm

/-- One stored piece of the first result is that piece of the block. -/
theorem piece_eq (D : FVec Ideal S1152x256 .bf16) (rs : FVec Ideal S1x1x256 .f32) (xj : FVec Ideal S1x1152x512 .bf16)
    (x2 : FVec Ideal S8x1152x512 .bf16) (j t c : ℕ) (hj : j < 8) (ht : t < 4) (hc : c = 128 * t) (hs : S256x512.Slices ![0, c] S256x128)
    (hx : ∀ (k : Fin 1152) (g : Fin 512), xj (ix3 0 k g) = x2 (ix3 ⟨j, hj⟩ k g))
    (inbo : ∀ a : Fin S8x32x4x8x128.rank, (![j, 0, t, 0, 0] : Fin 5 → ℕ) a + (![1, 32, 1, 8, 128] : Fin 5 → ℕ) a ≤ S8x32x4x8x128.size a)
    (y : S1x32x1x8x128.Idx) :
    shapeCast S1x32x1x8x128 (shapeCast S32x8x128 (mulf (extractStridedSlice S256x128 ![0, c]
      (matmul dot_S1152x256_S1152x512_S256x512_0_0_1_1_n_n none D
        (shapeCast S1152x512 xj shapeCasts_S1x1152x512_S1152x512)
        (constant S256x512 .f32 0x00000000#32)) hs) (k0_pay5 rs)) shapeCasts_S256x128_S32x8x128)
      shapeCasts_S32x8x128_S1x32x1x8x128 y
    = wBlk (mat D) x2 rs ((Rect.unit (s := S8x32x4x8x128) ![j, 0, t, 0, 0] ![1, 32, 1, 8, 128] inbo).emb y) := by
  subst hc
  idx_vars y
  pointwise
  rw [rs_apply]
  have e : (Rect.unit (s := S8x32x4x8x128) ![j, 0, t, 0, 0] ![1, 32, 1, 8, 128] inbo).emb (ix5 y0 y1 y2 y3 y4)
      = ix5 ⟨j, hj⟩ y1 ⟨t, ht⟩ y3 y4 := by
    funext a
    refine Fin.ext ((Rect.idx_unit_val _ _ inbo _ a).trans ?_)
    match a with
    | ⟨0, _⟩ => show j + y0.val = j; omega
    | ⟨1, _⟩ => exact Nat.zero_add _
    | ⟨2, _⟩ => show t + y2.val = t; omega
    | ⟨3, _⟩ => exact Nat.zero_add _
    | ⟨4, _⟩ => exact Nat.zero_add _
  rw [e]
  show _ = (∑ k, D (ix2 k (row y1 y3)) * x2 (ix3 ⟨j, hj⟩ k (col ⟨t, ht⟩ y4))) * rs (ix3 0 0 (row y1 y3))
  congr 1
  refine Finset.sum_congr rfl fun k _ => ?_
  rw [hx]
  have ec : (⟨128 * t + y4.val, by omega⟩ : Fin 512) = col ⟨t, ht⟩ y4 := Fin.ext (by show 128 * t + y4.val = t * 128 + y4.val; omega)
  rw [ec]

/-- The loaded plane. -/
abbrev plane1 (x2 : FVec Ideal S8x1152x512 .bf16) (j : ℕ)
    (inb : ∀ a : Fin S8x1152x512.rank, (![j, 0, 0] : Fin 3 → ℕ) a + (![1, 1152, 512] : Fin 3 → ℕ) a ≤ S8x1152x512.size a) :
    FVec Ideal S1x1152x512 .bf16 :=
  View.ld (Val := Elt Ideal) (e' := .bf16) x2 (Rect.unit (s := S8x1152x512) ![j, 0, 0] ![1, 1152, 512] inb)

/-- One stored piece of the first result: a tile of the product with a plane, times the row scales. -/
abbrev piece (D : FVec Ideal S1152x256 .bf16) (rs : FVec Ideal S1x1x256 .f32) (x2 : FVec Ideal S8x1152x512 .bf16) (j t c : ℕ)
    (inbx : ∀ a : Fin S8x1152x512.rank, (![j, 0, 0] : Fin 3 → ℕ) a + (![1, 1152, 512] : Fin 3 → ℕ) a ≤ S8x1152x512.size a)
    (hs : S256x512.Slices ![0, c] S256x128)
    (inbo : ∀ a : Fin S8x32x4x8x128.rank, (![j, 0, t, 0, 0] : Fin 5 → ℕ) a + (![1, 32, 1, 8, 128] : Fin 5 → ℕ) a ≤ S8x32x4x8x128.size a) :
    View.Piece (Elt Ideal) S8x32x4x8x128 .f32 :=
  ⟨Rect.unit (s := S8x32x4x8x128) ![j, 0, t, 0, 0] ![1, 32, 1, 8, 128] inbo,
    shapeCast S1x32x1x8x128 (shapeCast S32x8x128 (mulf (extractStridedSlice S256x128 ![0, c]
      (matmul dot_S1152x256_S1152x512_S256x512_0_0_1_1_n_n none D
        (shapeCast S1152x512 (plane1 x2 j inbx) shapeCasts_S1x1152x512_S1152x512)
        (constant S256x512 .f32 0x00000000#32)) hs) (k0_pay5 rs)) shapeCasts_S256x128_S32x8x128)
      shapeCasts_S32x8x128_S1x32x1x8x128⟩

/-- A stored piece is that piece of the block. -/
theorem piece_ok (D : FVec Ideal S1152x256 .bf16) (rs : FVec Ideal S1x1x256 .f32) (x2 : FVec Ideal S8x1152x512 .bf16) (j t c : ℕ)
    (hj : j < 8) (ht : t < 4) (hc : c = 128 * t)
    (inbx : ∀ a : Fin S8x1152x512.rank, (![j, 0, 0] : Fin 3 → ℕ) a + (![1, 1152, 512] : Fin 3 → ℕ) a ≤ S8x1152x512.size a)
    (hs : S256x512.Slices ![0, c] S256x128)
    (inbo : ∀ a : Fin S8x32x4x8x128.rank, (![j, 0, t, 0, 0] : Fin 5 → ℕ) a + (![1, 32, 1, 8, 128] : Fin 5 → ℕ) a ≤ S8x32x4x8x128.size a)
    (y : S1x32x1x8x128.Idx) :
    (piece D rs x2 j t c inbx hs inbo).2 y = wBlk (mat D) x2 rs ((piece D rs x2 j t c inbx hs inbo).1.emb y) :=
  piece_eq D rs _ x2 j t c hj ht hc hs (plane_apply x2 j hj inbx) inbo y

/-- The thirty-two stored pieces of the first result, the last stored first. -/
abbrev pieces (D : FVec Ideal S1152x256 .bf16) (rs : FVec Ideal S1x1x256 .f32) (x2 : FVec Ideal S8x1152x512 .bf16) :
    List (View.Piece (Elt Ideal) S8x32x4x8x128 .f32) :=
  [piece D rs x2 7 3 384 inb_S8x1152x512_S1x1152x512_7_0_0 slices_S256x512_o0_384_S256x128
      inb_S8x32x4x8x128_S1x32x1x8x128_7_0_3_0_0,
    piece D rs x2 7 2 256 inb_S8x1152x512_S1x1152x512_7_0_0 slices_S256x512_o0_256_S256x128
      inb_S8x32x4x8x128_S1x32x1x8x128_7_0_2_0_0,
    piece D rs x2 7 1 128 inb_S8x1152x512_S1x1152x512_7_0_0 slices_S256x512_o0_128_S256x128
      inb_S8x32x4x8x128_S1x32x1x8x128_7_0_1_0_0,
    piece D rs x2 7 0 0 inb_S8x1152x512_S1x1152x512_7_0_0 slices_S256x512_o0_0_S256x128
      inb_S8x32x4x8x128_S1x32x1x8x128_7_0_0_0_0,
    piece D rs x2 6 3 384 inb_S8x1152x512_S1x1152x512_6_0_0 slices_S256x512_o0_384_S256x128
      inb_S8x32x4x8x128_S1x32x1x8x128_6_0_3_0_0,
    piece D rs x2 6 2 256 inb_S8x1152x512_S1x1152x512_6_0_0 slices_S256x512_o0_256_S256x128
      inb_S8x32x4x8x128_S1x32x1x8x128_6_0_2_0_0,
    piece D rs x2 6 1 128 inb_S8x1152x512_S1x1152x512_6_0_0 slices_S256x512_o0_128_S256x128
      inb_S8x32x4x8x128_S1x32x1x8x128_6_0_1_0_0,
    piece D rs x2 6 0 0 inb_S8x1152x512_S1x1152x512_6_0_0 slices_S256x512_o0_0_S256x128
      inb_S8x32x4x8x128_S1x32x1x8x128_6_0_0_0_0,
    piece D rs x2 5 3 384 inb_S8x1152x512_S1x1152x512_5_0_0 slices_S256x512_o0_384_S256x128
      inb_S8x32x4x8x128_S1x32x1x8x128_5_0_3_0_0,
    piece D rs x2 5 2 256 inb_S8x1152x512_S1x1152x512_5_0_0 slices_S256x512_o0_256_S256x128
      inb_S8x32x4x8x128_S1x32x1x8x128_5_0_2_0_0,
    piece D rs x2 5 1 128 inb_S8x1152x512_S1x1152x512_5_0_0 slices_S256x512_o0_128_S256x128
      inb_S8x32x4x8x128_S1x32x1x8x128_5_0_1_0_0,
    piece D rs x2 5 0 0 inb_S8x1152x512_S1x1152x512_5_0_0 slices_S256x512_o0_0_S256x128
      inb_S8x32x4x8x128_S1x32x1x8x128_5_0_0_0_0,
    piece D rs x2 4 3 384 inb_S8x1152x512_S1x1152x512_4_0_0 slices_S256x512_o0_384_S256x128
      inb_S8x32x4x8x128_S1x32x1x8x128_4_0_3_0_0,
    piece D rs x2 4 2 256 inb_S8x1152x512_S1x1152x512_4_0_0 slices_S256x512_o0_256_S256x128
      inb_S8x32x4x8x128_S1x32x1x8x128_4_0_2_0_0,
    piece D rs x2 4 1 128 inb_S8x1152x512_S1x1152x512_4_0_0 slices_S256x512_o0_128_S256x128
      inb_S8x32x4x8x128_S1x32x1x8x128_4_0_1_0_0,
    piece D rs x2 4 0 0 inb_S8x1152x512_S1x1152x512_4_0_0 slices_S256x512_o0_0_S256x128
      inb_S8x32x4x8x128_S1x32x1x8x128_4_0_0_0_0,
    piece D rs x2 3 3 384 inb_S8x1152x512_S1x1152x512_3_0_0 slices_S256x512_o0_384_S256x128
      inb_S8x32x4x8x128_S1x32x1x8x128_3_0_3_0_0,
    piece D rs x2 3 2 256 inb_S8x1152x512_S1x1152x512_3_0_0 slices_S256x512_o0_256_S256x128
      inb_S8x32x4x8x128_S1x32x1x8x128_3_0_2_0_0,
    piece D rs x2 3 1 128 inb_S8x1152x512_S1x1152x512_3_0_0 slices_S256x512_o0_128_S256x128
      inb_S8x32x4x8x128_S1x32x1x8x128_3_0_1_0_0,
    piece D rs x2 3 0 0 inb_S8x1152x512_S1x1152x512_3_0_0 slices_S256x512_o0_0_S256x128
      inb_S8x32x4x8x128_S1x32x1x8x128_3_0_0_0_0,
    piece D rs x2 2 3 384 inb_S8x1152x512_S1x1152x512_2_0_0 slices_S256x512_o0_384_S256x128
      inb_S8x32x4x8x128_S1x32x1x8x128_2_0_3_0_0,
    piece D rs x2 2 2 256 inb_S8x1152x512_S1x1152x512_2_0_0 slices_S256x512_o0_256_S256x128
      inb_S8x32x4x8x128_S1x32x1x8x128_2_0_2_0_0,
    piece D rs x2 2 1 128 inb_S8x1152x512_S1x1152x512_2_0_0 slices_S256x512_o0_128_S256x128
      inb_S8x32x4x8x128_S1x32x1x8x128_2_0_1_0_0,
    piece D rs x2 2 0 0 inb_S8x1152x512_S1x1152x512_2_0_0 slices_S256x512_o0_0_S256x128
      inb_S8x32x4x8x128_S1x32x1x8x128_2_0_0_0_0,
    piece D rs x2 1 3 384 inb_S8x1152x512_S1x1152x512_1_0_0 slices_S256x512_o0_384_S256x128
      inb_S8x32x4x8x128_S1x32x1x8x128_1_0_3_0_0,
    piece D rs x2 1 2 256 inb_S8x1152x512_S1x1152x512_1_0_0 slices_S256x512_o0_256_S256x128
      inb_S8x32x4x8x128_S1x32x1x8x128_1_0_2_0_0,
    piece D rs x2 1 1 128 inb_S8x1152x512_S1x1152x512_1_0_0 slices_S256x512_o0_128_S256x128
      inb_S8x32x4x8x128_S1x32x1x8x128_1_0_1_0_0,
    piece D rs x2 1 0 0 inb_S8x1152x512_S1x1152x512_1_0_0 slices_S256x512_o0_0_S256x128
      inb_S8x32x4x8x128_S1x32x1x8x128_1_0_0_0_0,
    piece D rs x2 0 3 384 inb_S8x1152x512_S1x1152x512_0_0_0 slices_S256x512_o0_384_S256x128
      inb_S8x32x4x8x128_S1x32x1x8x128_0_0_3_0_0,
    piece D rs x2 0 2 256 inb_S8x1152x512_S1x1152x512_0_0_0 slices_S256x512_o0_256_S256x128
      inb_S8x32x4x8x128_S1x32x1x8x128_0_0_2_0_0,
    piece D rs x2 0 1 128 inb_S8x1152x512_S1x1152x512_0_0_0 slices_S256x512_o0_128_S256x128
      inb_S8x32x4x8x128_S1x32x1x8x128_0_0_1_0_0,
    piece D rs x2 0 0 0 inb_S8x1152x512_S1x1152x512_0_0_0 slices_S256x512_o0_0_S256x128
      inb_S8x32x4x8x128_S1x32x1x8x128_0_0_0_0_0]

/-- The stored pieces make up the block. -/
theorem canon_pieces (D : FVec Ideal S1152x256 .bf16) (rs : FVec Ideal S1x1x256 .f32) (x2 : FVec Ideal S8x1152x512 .bf16) :
    View.canon (pieces D rs x2) = wBlk (mat D) x2 rs := by
  funext y
  refine View.canon_apply_of_pieces (Val := Elt Ideal) (e := .f32) (wBlk (mat D) x2 rs) _ ?_ y ?_
  · refine List.forall_mem_cons.2 ⟨piece_ok D rs x2 7 3 384 (by norm_num) (by norm_num) rfl _ _ _, ?_⟩
    refine List.forall_mem_cons.2 ⟨piece_ok D rs x2 7 2 256 (by norm_num) (by norm_num) rfl _ _ _, ?_⟩
    refine List.forall_mem_cons.2 ⟨piece_ok D rs x2 7 1 128 (by norm_num) (by norm_num) rfl _ _ _, ?_⟩
    refine List.forall_mem_cons.2 ⟨piece_ok D rs x2 7 0 0 (by norm_num) (by norm_num) rfl _ _ _, ?_⟩
    refine List.forall_mem_cons.2 ⟨piece_ok D rs x2 6 3 384 (by norm_num) (by norm_num) rfl _ _ _, ?_⟩
    refine List.forall_mem_cons.2 ⟨piece_ok D rs x2 6 2 256 (by norm_num) (by norm_num) rfl _ _ _, ?_⟩
    refine List.forall_mem_cons.2 ⟨piece_ok D rs x2 6 1 128 (by norm_num) (by norm_num) rfl _ _ _, ?_⟩
    refine List.forall_mem_cons.2 ⟨piece_ok D rs x2 6 0 0 (by norm_num) (by norm_num) rfl _ _ _, ?_⟩
    refine List.forall_mem_cons.2 ⟨piece_ok D rs x2 5 3 384 (by norm_num) (by norm_num) rfl _ _ _, ?_⟩
    refine List.forall_mem_cons.2 ⟨piece_ok D rs x2 5 2 256 (by norm_num) (by norm_num) rfl _ _ _, ?_⟩
    refine List.forall_mem_cons.2 ⟨piece_ok D rs x2 5 1 128 (by norm_num) (by norm_num) rfl _ _ _, ?_⟩
    refine List.forall_mem_cons.2 ⟨piece_ok D rs x2 5 0 0 (by norm_num) (by norm_num) rfl _ _ _, ?_⟩
    refine List.forall_mem_cons.2 ⟨piece_ok D rs x2 4 3 384 (by norm_num) (by norm_num) rfl _ _ _, ?_⟩
    refine List.forall_mem_cons.2 ⟨piece_ok D rs x2 4 2 256 (by norm_num) (by norm_num) rfl _ _ _, ?_⟩
    refine List.forall_mem_cons.2 ⟨piece_ok D rs x2 4 1 128 (by norm_num) (by norm_num) rfl _ _ _, ?_⟩
    refine List.forall_mem_cons.2 ⟨piece_ok D rs x2 4 0 0 (by norm_num) (by norm_num) rfl _ _ _, ?_⟩
    refine List.forall_mem_cons.2 ⟨piece_ok D rs x2 3 3 384 (by norm_num) (by norm_num) rfl _ _ _, ?_⟩
    refine List.forall_mem_cons.2 ⟨piece_ok D rs x2 3 2 256 (by norm_num) (by norm_num) rfl _ _ _, ?_⟩
    refine List.forall_mem_cons.2 ⟨piece_ok D rs x2 3 1 128 (by norm_num) (by norm_num) rfl _ _ _, ?_⟩
    refine List.forall_mem_cons.2 ⟨piece_ok D rs x2 3 0 0 (by norm_num) (by norm_num) rfl _ _ _, ?_⟩
    refine List.forall_mem_cons.2 ⟨piece_ok D rs x2 2 3 384 (by norm_num) (by norm_num) rfl _ _ _, ?_⟩
    refine List.forall_mem_cons.2 ⟨piece_ok D rs x2 2 2 256 (by norm_num) (by norm_num) rfl _ _ _, ?_⟩
    refine List.forall_mem_cons.2 ⟨piece_ok D rs x2 2 1 128 (by norm_num) (by norm_num) rfl _ _ _, ?_⟩
    refine List.forall_mem_cons.2 ⟨piece_ok D rs x2 2 0 0 (by norm_num) (by norm_num) rfl _ _ _, ?_⟩
    refine List.forall_mem_cons.2 ⟨piece_ok D rs x2 1 3 384 (by norm_num) (by norm_num) rfl _ _ _, ?_⟩
    refine List.forall_mem_cons.2 ⟨piece_ok D rs x2 1 2 256 (by norm_num) (by norm_num) rfl _ _ _, ?_⟩
    refine List.forall_mem_cons.2 ⟨piece_ok D rs x2 1 1 128 (by norm_num) (by norm_num) rfl _ _ _, ?_⟩
    refine List.forall_mem_cons.2 ⟨piece_ok D rs x2 1 0 0 (by norm_num) (by norm_num) rfl _ _ _, ?_⟩
    refine List.forall_mem_cons.2 ⟨piece_ok D rs x2 0 3 384 (by norm_num) (by norm_num) rfl _ _ _, ?_⟩
    refine List.forall_mem_cons.2 ⟨piece_ok D rs x2 0 2 256 (by norm_num) (by norm_num) rfl _ _ _, ?_⟩
    refine List.forall_mem_cons.2 ⟨piece_ok D rs x2 0 1 128 (by norm_num) (by norm_num) rfl _ _ _, ?_⟩
    refine List.forall_mem_cons.2 ⟨piece_ok D rs x2 0 0 0 (by norm_num) (by norm_num) rfl _ _ _, ?_⟩
    exact List.forall_mem_nil _
  · refine View.cover_of_tiledL _ ![1, 32, 1, 8, 128] ?_ y
    sl_kernel_rfl

end Cert.Block
end
-- ==== Proof.RowSum.lean ====
/-
  What one grid point of the weight-gradient call writes to its second result: each row's sum of its weight gradients
  times its decoded weights. The kernel adds thirty-two products of 256 by 128 tiles and then sums over the lanes.
-/
module

public import proofs.«01_k».proof.Proof.Block

@[expose] public section

set_option maxRecDepth 16384

noncomputable section

namespace Cert.Block

open Cert.KernelIdeal Cert.KernelIdeal.Gen Cert.Half Idealize.ShloMosaic Idealize.ShloMosaic.TcCoe Idealize.SL.Sem

/-- A product of the scaled gradient with one plane. -/
abbrev plane (D : FVec Ideal S1152x256 .bf16) (xj : FVec Ideal S1x1152x512 .bf16) : FVec Ideal S256x512 .f32 :=
  matmul dot_S1152x256_S1152x512_S256x512_0_0_1_1_n_n none D (shapeCast S1152x512 xj shapeCasts_S1x1152x512_S1152x512)
    (constant S256x512 .f32 0x00000000#32)

/-- The low halves of a tile of words. -/
abbrev lo (w : IVec S1x32x1x8x128 32) : FVec Ideal S256x128 .f32 :=
  bitcastToFloat .f32 (shli (shapeCast S256x128 (shapeCast S32x8x128 w shapeCasts_S1x32x1x8x128_S32x8x128) shapeCasts_S32x8x128_S256x128)
    (broadcast S256x128 16#32))

/-- The high halves of a tile of words. -/
abbrev hi (w : IVec S1x32x1x8x128 32) : FVec Ideal S256x128 .f32 :=
  bitcastToFloat .f32 (andi (shapeCast S256x128 (shapeCast S32x8x128 w shapeCasts_S1x32x1x8x128_S32x8x128) shapeCasts_S32x8x128_S256x128)
    (broadcast S256x128 4294901760#32))

/-- One plane's four tiles of products, added to what was there. -/
abbrev grp (h : IVec S1x32x1x8x128 32 → FVec Ideal S256x128 .f32) (acc : FVec Ideal S256x128 .f32) (P : FVec Ideal S256x512 .f32)
    (w0 w1 w2 w3 : IVec S1x32x1x8x128 32) : FVec Ideal S256x128 .f32 :=
  addf (addf (addf (addf acc
    (mulf (extractStridedSlice S256x128 ![0, 0] P slices_S256x512_o0_0_S256x128) (h w0)))
    (mulf (extractStridedSlice S256x128 ![0, 128] P slices_S256x512_o0_128_S256x128) (h w1)))
    (mulf (extractStridedSlice S256x128 ![0, 256] P slices_S256x512_o0_256_S256x128) (h w2)))
    (mulf (extractStridedSlice S256x128 ![0, 384] P slices_S256x512_o0_384_S256x128) (h w3))

/-- The thirty-two products, added in the kernel's order. -/
abbrev tower (D : FVec Ideal S1152x256 .bf16) (x2 : Vec Ideal S8x1152x512 .bf16) (x4 : Vec Ideal S4x32x4x8x128 .i32) : FVec Ideal S256x128 .f32 :=
  (grp hi (grp lo (grp hi (grp lo (grp hi (grp lo (grp hi (grp lo k0_pay6 (plane D (View.ld (Val := Elt Ideal) x2 (Rect.unit (s := S8x1152x512) ![0, 0, 0] ![1, 1152, 512] inb_S8x1152x512_S1x1152x512_0_0_0)))
      (View.ld (Val := Elt Ideal) x4 (Rect.unit (s := S4x32x4x8x128) ![0, 0, 0, 0, 0] ![1, 32, 1, 8, 128] inb_S4x32x4x8x128_S1x32x1x8x128_0_0_0_0_0))
      (View.ld (Val := Elt Ideal) x4 (Rect.unit (s := S4x32x4x8x128) ![0, 0, 1, 0, 0] ![1, 32, 1, 8, 128] inb_S4x32x4x8x128_S1x32x1x8x128_0_0_1_0_0))
      (View.ld (Val := Elt Ideal) x4 (Rect.unit (s := S4x32x4x8x128) ![0, 0, 2, 0, 0] ![1, 32, 1, 8, 128] inb_S4x32x4x8x128_S1x32x1x8x128_0_0_2_0_0))
      (View.ld (Val := Elt Ideal) x4 (Rect.unit (s := S4x32x4x8x128) ![0, 0, 3, 0, 0] ![1, 32, 1, 8, 128] inb_S4x32x4x8x128_S1x32x1x8x128_0_0_3_0_0))) (plane D (View.ld (Val := Elt Ideal) x2 (Rect.unit (s := S8x1152x512) ![1, 0, 0] ![1, 1152, 512] inb_S8x1152x512_S1x1152x512_1_0_0)))
      (View.ld (Val := Elt Ideal) x4 (Rect.unit (s := S4x32x4x8x128) ![0, 0, 0, 0, 0] ![1, 32, 1, 8, 128] inb_S4x32x4x8x128_S1x32x1x8x128_0_0_0_0_0))
      (View.ld (Val := Elt Ideal) x4 (Rect.unit (s := S4x32x4x8x128) ![0, 0, 1, 0, 0] ![1, 32, 1, 8, 128] inb_S4x32x4x8x128_S1x32x1x8x128_0_0_1_0_0))
      (View.ld (Val := Elt Ideal) x4 (Rect.unit (s := S4x32x4x8x128) ![0, 0, 2, 0, 0] ![1, 32, 1, 8, 128] inb_S4x32x4x8x128_S1x32x1x8x128_0_0_2_0_0))
      (View.ld (Val := Elt Ideal) x4 (Rect.unit (s := S4x32x4x8x128) ![0, 0, 3, 0, 0] ![1, 32, 1, 8, 128] inb_S4x32x4x8x128_S1x32x1x8x128_0_0_3_0_0))) (plane D (View.ld (Val := Elt Ideal) x2 (Rect.unit (s := S8x1152x512) ![2, 0, 0] ![1, 1152, 512] inb_S8x1152x512_S1x1152x512_2_0_0)))
      (View.ld (Val := Elt Ideal) x4 (Rect.unit (s := S4x32x4x8x128) ![1, 0, 0, 0, 0] ![1, 32, 1, 8, 128] inb_S4x32x4x8x128_S1x32x1x8x128_1_0_0_0_0))
      (View.ld (Val := Elt Ideal) x4 (Rect.unit (s := S4x32x4x8x128) ![1, 0, 1, 0, 0] ![1, 32, 1, 8, 128] inb_S4x32x4x8x128_S1x32x1x8x128_1_0_1_0_0))
      (View.ld (Val := Elt Ideal) x4 (Rect.unit (s := S4x32x4x8x128) ![1, 0, 2, 0, 0] ![1, 32, 1, 8, 128] inb_S4x32x4x8x128_S1x32x1x8x128_1_0_2_0_0))
      (View.ld (Val := Elt Ideal) x4 (Rect.unit (s := S4x32x4x8x128) ![1, 0, 3, 0, 0] ![1, 32, 1, 8, 128] inb_S4x32x4x8x128_S1x32x1x8x128_1_0_3_0_0))) (plane D (View.ld (Val := Elt Ideal) x2 (Rect.unit (s := S8x1152x512) ![3, 0, 0] ![1, 1152, 512] inb_S8x1152x512_S1x1152x512_3_0_0)))
      (View.ld (Val := Elt Ideal) x4 (Rect.unit (s := S4x32x4x8x128) ![1, 0, 0, 0, 0] ![1, 32, 1, 8, 128] inb_S4x32x4x8x128_S1x32x1x8x128_1_0_0_0_0))
      (View.ld (Val := Elt Ideal) x4 (Rect.unit (s := S4x32x4x8x128) ![1, 0, 1, 0, 0] ![1, 32, 1, 8, 128] inb_S4x32x4x8x128_S1x32x1x8x128_1_0_1_0_0))
      (View.ld (Val := Elt Ideal) x4 (Rect.unit (s := S4x32x4x8x128) ![1, 0, 2, 0, 0] ![1, 32, 1, 8, 128] inb_S4x32x4x8x128_S1x32x1x8x128_1_0_2_0_0))
      (View.ld (Val := Elt Ideal) x4 (Rect.unit (s := S4x32x4x8x128) ![1, 0, 3, 0, 0] ![1, 32, 1, 8, 128] inb_S4x32x4x8x128_S1x32x1x8x128_1_0_3_0_0))) (plane D (View.ld (Val := Elt Ideal) x2 (Rect.unit (s := S8x1152x512) ![4, 0, 0] ![1, 1152, 512] inb_S8x1152x512_S1x1152x512_4_0_0)))
      (View.ld (Val := Elt Ideal) x4 (Rect.unit (s := S4x32x4x8x128) ![2, 0, 0, 0, 0] ![1, 32, 1, 8, 128] inb_S4x32x4x8x128_S1x32x1x8x128_2_0_0_0_0))
      (View.ld (Val := Elt Ideal) x4 (Rect.unit (s := S4x32x4x8x128) ![2, 0, 1, 0, 0] ![1, 32, 1, 8, 128] inb_S4x32x4x8x128_S1x32x1x8x128_2_0_1_0_0))
      (View.ld (Val := Elt Ideal) x4 (Rect.unit (s := S4x32x4x8x128) ![2, 0, 2, 0, 0] ![1, 32, 1, 8, 128] inb_S4x32x4x8x128_S1x32x1x8x128_2_0_2_0_0))
      (View.ld (Val := Elt Ideal) x4 (Rect.unit (s := S4x32x4x8x128) ![2, 0, 3, 0, 0] ![1, 32, 1, 8, 128] inb_S4x32x4x8x128_S1x32x1x8x128_2_0_3_0_0))) (plane D (View.ld (Val := Elt Ideal) x2 (Rect.unit (s := S8x1152x512) ![5, 0, 0] ![1, 1152, 512] inb_S8x1152x512_S1x1152x512_5_0_0)))
      (View.ld (Val := Elt Ideal) x4 (Rect.unit (s := S4x32x4x8x128) ![2, 0, 0, 0, 0] ![1, 32, 1, 8, 128] inb_S4x32x4x8x128_S1x32x1x8x128_2_0_0_0_0))
      (View.ld (Val := Elt Ideal) x4 (Rect.unit (s := S4x32x4x8x128) ![2, 0, 1, 0, 0] ![1, 32, 1, 8, 128] inb_S4x32x4x8x128_S1x32x1x8x128_2_0_1_0_0))
      (View.ld (Val := Elt Ideal) x4 (Rect.unit (s := S4x32x4x8x128) ![2, 0, 2, 0, 0] ![1, 32, 1, 8, 128] inb_S4x32x4x8x128_S1x32x1x8x128_2_0_2_0_0))
      (View.ld (Val := Elt Ideal) x4 (Rect.unit (s := S4x32x4x8x128) ![2, 0, 3, 0, 0] ![1, 32, 1, 8, 128] inb_S4x32x4x8x128_S1x32x1x8x128_2_0_3_0_0))) (plane D (View.ld (Val := Elt Ideal) x2 (Rect.unit (s := S8x1152x512) ![6, 0, 0] ![1, 1152, 512] inb_S8x1152x512_S1x1152x512_6_0_0)))
      (View.ld (Val := Elt Ideal) x4 (Rect.unit (s := S4x32x4x8x128) ![3, 0, 0, 0, 0] ![1, 32, 1, 8, 128] inb_S4x32x4x8x128_S1x32x1x8x128_3_0_0_0_0))
      (View.ld (Val := Elt Ideal) x4 (Rect.unit (s := S4x32x4x8x128) ![3, 0, 1, 0, 0] ![1, 32, 1, 8, 128] inb_S4x32x4x8x128_S1x32x1x8x128_3_0_1_0_0))
      (View.ld (Val := Elt Ideal) x4 (Rect.unit (s := S4x32x4x8x128) ![3, 0, 2, 0, 0] ![1, 32, 1, 8, 128] inb_S4x32x4x8x128_S1x32x1x8x128_3_0_2_0_0))
      (View.ld (Val := Elt Ideal) x4 (Rect.unit (s := S4x32x4x8x128) ![3, 0, 3, 0, 0] ![1, 32, 1, 8, 128] inb_S4x32x4x8x128_S1x32x1x8x128_3_0_3_0_0))) (plane D (View.ld (Val := Elt Ideal) x2 (Rect.unit (s := S8x1152x512) ![7, 0, 0] ![1, 1152, 512] inb_S8x1152x512_S1x1152x512_7_0_0)))
      (View.ld (Val := Elt Ideal) x4 (Rect.unit (s := S4x32x4x8x128) ![3, 0, 0, 0, 0] ![1, 32, 1, 8, 128] inb_S4x32x4x8x128_S1x32x1x8x128_3_0_0_0_0))
      (View.ld (Val := Elt Ideal) x4 (Rect.unit (s := S4x32x4x8x128) ![3, 0, 1, 0, 0] ![1, 32, 1, 8, 128] inb_S4x32x4x8x128_S1x32x1x8x128_3_0_1_0_0))
      (View.ld (Val := Elt Ideal) x4 (Rect.unit (s := S4x32x4x8x128) ![3, 0, 2, 0, 0] ![1, 32, 1, 8, 128] inb_S4x32x4x8x128_S1x32x1x8x128_3_0_2_0_0))
      (View.ld (Val := Elt Ideal) x4 (Rect.unit (s := S4x32x4x8x128) ![3, 0, 3, 0, 0] ![1, 32, 1, 8, 128] inb_S4x32x4x8x128_S1x32x1x8x128_3_0_3_0_0)))

/-- The sum over the lanes, laid out as the block. -/
abbrev total (T : FVec Ideal S256x128 .f32) : FVec Ideal S1x1x256 .f32 :=
  shapeCast S1x1x256 (shapeCast S1x256 (multiReduction .add [0] S256
    (transpose S128x256 [1, 0] T transposes_S256x128_p1_0_S128x256) 0x00000000#32 reduces_S128x256_S256 (.inl rfl) rfl)
    shapeCasts_S256_S1x256) shapeCasts_S1x256_S1x1x256

/-- The block's entry of a row is the sum of the row's lanes. -/
theorem total_apply (T : FVec Ideal S256x128 .f32) (r : Fin 256) : total T (ix3 0 0 r) = ∑ l : Fin 128, T (ix2 r l) := by
  unfold total
  pointwise

/-- A plane's entry is the block's weight gradient. -/
theorem plane_eq (D : FVec Ideal S1152x256 .bf16) (x2 : Vec Ideal S8x1152x512 .bf16) (xj : FVec Ideal S1x1152x512 .bf16) (j : Fin 8)
    (hx : ∀ (k : Fin 1152) (g : Fin 512), xj (ix3 0 k g) = x2 (ix3 j k g)) (r : Fin 256) (g : Fin 512) :
    plane D xj (ix2 r g) = dw (mat D) x2 j r g := by
  unfold plane
  pointwise
  exact Finset.sum_congr rfl fun k _ => by rw [hx]

/-- The low halves, entry by entry. -/
theorem lo_apply (w : IVec S1x32x1x8x128 32) (r : Fin 256) (l : Fin 128) :
    lo w (ix2 r l) = half 0 (w (ix5 0 ⟨r.val / 8, by omega⟩ 0 ⟨r.val % 8, by omega⟩ l)) := by
  unfold lo
  pointwise
  exact shl_eq _

/-- The high halves, entry by entry. -/
theorem hi_apply (w : IVec S1x32x1x8x128 32) (r : Fin 256) (l : Fin 128) :
    hi w (ix2 r l) = half 1 (w (ix5 0 ⟨r.val / 8, by omega⟩ 0 ⟨r.val % 8, by omega⟩ l)) := by
  unfold hi
  pointwise
  exact and_eq _

/-- One tile of words, loaded. -/
theorem words_apply (x4 : Vec Ideal S4x32x4x8x128 .i32) (p t : ℕ) (hp : p < 4) (ht : t < 4)
    (inb : ∀ a : Fin S4x32x4x8x128.rank, (![p, 0, t, 0, 0] : Fin 5 → ℕ) a + (![1, 32, 1, 8, 128] : Fin 5 → ℕ) a ≤ S4x32x4x8x128.size a)
    (a : Fin 32) (b : Fin 8) (l : Fin 128) :
    View.ld (Val := Elt Ideal) x4 (Rect.unit (s := S4x32x4x8x128) ![p, 0, t, 0, 0] ![1, 32, 1, 8, 128] inb) (ix5 0 a 0 b l)
      = x4 (ix5 ⟨p, hp⟩ a ⟨t, ht⟩ b l) := by
  refine View.ld_unit_apply_of _ _ _ _ _ _ fun a => ?_
  match a with
  | ⟨0, _⟩ => rfl
  | ⟨1, _⟩ => exact (Nat.zero_add _).symm
  | ⟨2, _⟩ => rfl
  | ⟨3, _⟩ => exact (Nat.zero_add _).symm
  | ⟨4, _⟩ => exact (Nat.zero_add _).symm

/-- One tile of the decoded weights. -/
theorem dec_col (x4 : Vec Ideal S4x32x4x8x128 .i32) (j : Fin 8) (r : Fin 256) (t : Fin 4) (l : Fin 128) :
    dec x4 j r (col t l) = half (j.val % 2) (x4 (ix5 ⟨j.val / 2, by omega⟩ ⟨r.val / 8, by omega⟩ t ⟨r.val % 8, by omega⟩ l)) := by
  unfold dec
  rw [show (⟨(col t l).val / 128, by omega⟩ : Fin 4) = t from Fin.ext (by show (t.val * 128 + l.val) / 128 = t.val; omega),
    show (⟨(col t l).val % 128, by omega⟩ : Fin 128) = l from Fin.ext (by show (t.val * 128 + l.val) % 128 = l.val; omega)]

/-- One plane's four tiles of products, entry by entry, when each tile of words is the plane's decoded weights. -/
theorem grp_apply (D : FVec Ideal S1152x256 .bf16) (x2 : Vec Ideal S8x1152x512 .bf16) (x4 : Vec Ideal S4x32x4x8x128 .i32)
    (h : IVec S1x32x1x8x128 32 → FVec Ideal S256x128 .f32) (acc : FVec Ideal S256x128 .f32) (P : FVec Ideal S256x512 .f32)
    (w0 w1 w2 w3 : IVec S1x32x1x8x128 32) (j : Fin 8) (hP : ∀ r g, P (ix2 r g) = dw (mat D) x2 j r g)
    (h0 : ∀ r l, h w0 (ix2 r l) = dec x4 j r (col 0 l)) (h1 : ∀ r l, h w1 (ix2 r l) = dec x4 j r (col 1 l))
    (h2 : ∀ r l, h w2 (ix2 r l) = dec x4 j r (col 2 l)) (h3 : ∀ r l, h w3 (ix2 r l) = dec x4 j r (col 3 l))
    (r : Fin 256) (l : Fin 128) :
    grp h acc P w0 w1 w2 w3 (ix2 r l)
      = acc (ix2 r l) + ∑ t : Fin 4, dw (mat D) x2 j r (col t l) * dec x4 j r (col t l) := by
  unfold grp
  pointwise
  rw [h0, h1, h2, h3, hP, hP, hP, hP, Fin.sum_univ_four, add_assoc, add_assoc, add_assoc, add_assoc, add_assoc]
  rw [show (⟨l.val, by omega⟩ : Fin 512) = col 0 l from Fin.ext (by show l.val = 0 * 128 + l.val; omega),
    show (⟨128 + l.val, by omega⟩ : Fin 512) = col 1 l from Fin.ext (by show 128 + l.val = 1 * 128 + l.val; omega),
    show (⟨256 + l.val, by omega⟩ : Fin 512) = col 2 l from Fin.ext (by show 256 + l.val = 2 * 128 + l.val; omega),
    show (⟨384 + l.val, by omega⟩ : Fin 512) = col 3 l from Fin.ext (by show 384 + l.val = 3 * 128 + l.val; omega)]

/-- The low halves of a loaded tile are the decoded weights of an even plane. -/
theorem lo_dec (x4 : Vec Ideal S4x32x4x8x128 .i32) (j : Fin 8) (t : Fin 4) (p : ℕ) (hp : p = j.val / 2) (hj : j.val % 2 = 0)
    (inb : ∀ a : Fin S4x32x4x8x128.rank, (![p, 0, t.val, 0, 0] : Fin 5 → ℕ) a + (![1, 32, 1, 8, 128] : Fin 5 → ℕ) a ≤ S4x32x4x8x128.size a)
    (r : Fin 256) (l : Fin 128) :
    lo (View.ld (Val := Elt Ideal) x4 (Rect.unit (s := S4x32x4x8x128) ![p, 0, t.val, 0, 0] ![1, 32, 1, 8, 128] inb)) (ix2 r l)
      = dec x4 j r (col t l) := by
  subst hp
  rw [lo_apply, words_apply x4 _ t.val (by omega) t.isLt, dec_col, hj]

/-- The high halves of a loaded tile are the decoded weights of an odd plane. -/
theorem hi_dec (x4 : Vec Ideal S4x32x4x8x128 .i32) (j : Fin 8) (t : Fin 4) (p : ℕ) (hp : p = j.val / 2) (hj : j.val % 2 = 1)
    (inb : ∀ a : Fin S4x32x4x8x128.rank, (![p, 0, t.val, 0, 0] : Fin 5 → ℕ) a + (![1, 32, 1, 8, 128] : Fin 5 → ℕ) a ≤ S4x32x4x8x128.size a)
    (r : Fin 256) (l : Fin 128) :
    hi (View.ld (Val := Elt Ideal) x4 (Rect.unit (s := S4x32x4x8x128) ![p, 0, t.val, 0, 0] ![1, 32, 1, 8, 128] inb)) (ix2 r l)
      = dec x4 j r (col t l) := by
  subst hp
  rw [hi_apply, words_apply x4 _ t.val (by omega) t.isLt, dec_col, hj]

/-- The thirty-two products, entry by entry. -/
theorem tower_apply (D : FVec Ideal S1152x256 .bf16) (x2 : Vec Ideal S8x1152x512 .bf16) (x4 : Vec Ideal S4x32x4x8x128 .i32)
    (r : Fin 256) (l : Fin 128) :
    tower D x2 x4 (ix2 r l) = ∑ j : Fin 8, ∑ t : Fin 4, dw (mat D) x2 j r (col t l) * dec x4 j r (col t l) := by
  unfold tower
  rw [Fin.sum_univ_eight]
  refine (grp_apply D x2 x4 hi _ _ _ _ _ _ 7 (plane_eq D x2 _ 7 (plane_apply x2 7 (by norm_num) _))
    (hi_dec x4 7 0 3 rfl rfl _)
    (hi_dec x4 7 1 3 rfl rfl _)
    (hi_dec x4 7 2 3 rfl rfl _)
    (hi_dec x4 7 3 3 rfl rfl _) r l).trans (congrArg (· + _) ?_)
  refine (grp_apply D x2 x4 lo _ _ _ _ _ _ 6 (plane_eq D x2 _ 6 (plane_apply x2 6 (by norm_num) _))
    (lo_dec x4 6 0 3 rfl rfl _)
    (lo_dec x4 6 1 3 rfl rfl _)
    (lo_dec x4 6 2 3 rfl rfl _)
    (lo_dec x4 6 3 3 rfl rfl _) r l).trans (congrArg (· + _) ?_)
  refine (grp_apply D x2 x4 hi _ _ _ _ _ _ 5 (plane_eq D x2 _ 5 (plane_apply x2 5 (by norm_num) _))
    (hi_dec x4 5 0 2 rfl rfl _)
    (hi_dec x4 5 1 2 rfl rfl _)
    (hi_dec x4 5 2 2 rfl rfl _)
    (hi_dec x4 5 3 2 rfl rfl _) r l).trans (congrArg (· + _) ?_)
  refine (grp_apply D x2 x4 lo _ _ _ _ _ _ 4 (plane_eq D x2 _ 4 (plane_apply x2 4 (by norm_num) _))
    (lo_dec x4 4 0 2 rfl rfl _)
    (lo_dec x4 4 1 2 rfl rfl _)
    (lo_dec x4 4 2 2 rfl rfl _)
    (lo_dec x4 4 3 2 rfl rfl _) r l).trans (congrArg (· + _) ?_)
  refine (grp_apply D x2 x4 hi _ _ _ _ _ _ 3 (plane_eq D x2 _ 3 (plane_apply x2 3 (by norm_num) _))
    (hi_dec x4 3 0 1 rfl rfl _)
    (hi_dec x4 3 1 1 rfl rfl _)
    (hi_dec x4 3 2 1 rfl rfl _)
    (hi_dec x4 3 3 1 rfl rfl _) r l).trans (congrArg (· + _) ?_)
  refine (grp_apply D x2 x4 lo _ _ _ _ _ _ 2 (plane_eq D x2 _ 2 (plane_apply x2 2 (by norm_num) _))
    (lo_dec x4 2 0 1 rfl rfl _)
    (lo_dec x4 2 1 1 rfl rfl _)
    (lo_dec x4 2 2 1 rfl rfl _)
    (lo_dec x4 2 3 1 rfl rfl _) r l).trans (congrArg (· + _) ?_)
  refine (grp_apply D x2 x4 hi _ _ _ _ _ _ 1 (plane_eq D x2 _ 1 (plane_apply x2 1 (by norm_num) _))
    (hi_dec x4 1 0 0 rfl rfl _)
    (hi_dec x4 1 1 0 rfl rfl _)
    (hi_dec x4 1 2 0 rfl rfl _)
    (hi_dec x4 1 3 0 rfl rfl _) r l).trans (congrArg (· + _) ?_)
  refine (grp_apply D x2 x4 lo _ _ _ _ _ _ 0 (plane_eq D x2 _ 0 (plane_apply x2 0 (by norm_num) _))
    (lo_dec x4 0 0 0 rfl rfl _)
    (lo_dec x4 0 1 0 rfl rfl _)
    (lo_dec x4 0 2 0 rfl rfl _)
    (lo_dec x4 0 3 0 rfl rfl _) r l).trans ?_
  rw [show k0_pay6 (F := Ideal) (ix2 r l) = 0 from by unfold k0_pay6; pointwise, zero_add]

/-- A sum over the groups, tile by tile. -/
theorem sum_col (f : Fin 512 → EReal) : ∑ g : Fin 512, f g = ∑ l : Fin 128, ∑ t : Fin 4, f (col t l) := by
  rw [Finset.sum_comm, ← Fintype.sum_prod_type', ← (finProdFinEquiv (m := 4) (n := 128)).sum_comp]
  refine Finset.sum_congr rfl fun p _ => congrArg f (Fin.ext ?_)
  show p.2.val + 128 * p.1.val = p.1.val * 128 + p.2.val
  omega

/-- The lane sum of the thirty-two products is the block of the second result. -/
theorem total_tower (D : FVec Ideal S1152x256 .bf16) (x2 : Vec Ideal S8x1152x512 .bf16) (x4 : Vec Ideal S4x32x4x8x128 .i32) :
    total (tower D x2 x4) = dsBlk (mat D) x2 x4 := by
  funext y
  idx_vars y
  obtain rfl : y0 = 0 := Subsingleton.elim _ _
  obtain rfl : y1 = 0 := Subsingleton.elim _ _
  rw [total_apply]
  show _ = ∑ j : Fin 8, ∑ g : Fin 512, dw (mat D) x2 j y2 g * dec x4 j y2 g
  refine Eq.trans (Finset.sum_congr rfl fun l _ => tower_apply D x2 x4 y2 l) ?_
  refine Eq.trans ?_ (Finset.sum_congr rfl fun j _ => (sum_col _).symm)
  exact Finset.sum_comm (β := EReal)

end Cert.Block
end
-- ==== Proof.Point.lean ====
/-
  What a grid point of the last weight-gradient call leaves in its two results and in its scratch.
-/
module

public import proofs.«01_k».proof.Proof.Gen.KernelIdeal.Value
public import proofs.«01_k».proof.Proof.RowSum

@[expose] public section

set_option maxRecDepth 16384

noncomputable section

namespace Cert.KernelIdeal.Point

open Cert.KernelIdeal Cert.KernelIdeal.Gen Cert.Block Cert.Half Idealize.ShloMosaic Idealize.ShloMosaic.TcCoe Idealize.SL.Sem

/-- The first result's block at the first grid point, which sets the scale scratch. -/
theorem out_A_5 (c : Dev nD) (i : grid0.Coords) (arg1 : Memref sig .tc .vmem S1152x256 .fp8e5m2) (harg1 : arg1.IsWhole) (arg2 : Memref sig .tc .vmem S1x1152 .f32) (harg2 : arg2.IsWhole) (arg3 : Memref sig .tc .vmem S8x1152x512 .bf16) (harg3 : arg3.IsWhole) (arg4 : Memref sig .tc .vmem S1x1x256 .f32) (harg4 : arg4.IsWhole) (arg5 : Memref sig .tc .vmem S4x32x4x8x128 .i32) (harg5 : arg5.IsWhole) (arg6 : Memref sig .tc .vmem S8x32x4x8x128 .f32) (harg6 : arg6.IsWhole) (arg7 : Memref sig .tc .vmem S1x1x256 .f32) (harg7 : arg7.IsWhole) (arg8 : Memref sig .tc .vmem S1152x128 .bf16) (harg8 : arg8.IsWhole)
    (hc0 : cond0_0 i)
    (x0 : Vec Ideal S1152x256 .fp8e5m2) (x1 : Vec Ideal S1x1152 .f32) (x2 : Vec Ideal S8x1152x512 .bf16) (x3 : Vec Ideal S1x1x256 .f32) (x4 : Vec Ideal S4x32x4x8x128 .i32) :
    out0_A_5 (F := Ideal) c i arg1 harg1 arg2 harg2 arg3 harg3 arg4 harg4 arg5 harg5 arg6 harg6 arg7 harg7 arg8 harg8 hc0 x0 x1 x2 x3 x4
      = wBlk (fun k r => x0 (ix2 k r) * x1 (ix2 0 k)) x2 x3 := by
  unfold out0_A_5
  rw [View.read_writes_eq_canon _ _ _ (cover0_A_5 c i arg1 harg1 arg2 harg2 arg3 harg3 arg4 harg4 arg5 harg5 arg6 harg6 arg7 harg7 arg8 harg8 hc0 x0 x1 x2 x3 x4)]
  unfold kernelRun0_A
  dsimp only
  sl_unfold_words
  simp only [View.readAt_eq_ld, harg2.read_unread, harg1.read_unread, harg3.read_unread, harg4.read_unread,
    harg5.read_unread, harg8.read_unread]
  rw [View.ld_unit_zero (S := S1x1x256) hz3 _ x3]
  rw [View.ld_unit_zero (S := S1x1152) hz _ x1, View.readCov_unit_zero (S := S1152x128) _ hz]
  refine (show _ = View.canon (pieces (dyv (k0_pay3 x1) x0) x3 x2) from rfl).trans ?_
  rw [canon_pieces]
  refine congrArg (fun D => wBlk D x2 x3) (funext fun k => funext fun r => ?_)
  rw [mat, dy_apply]
  exact congrArg (x0 (ix2 k r) * ·) (scale_apply x1 k (lane r))

/-- The first result's block at a later grid point, which reads the scale scratch. -/
theorem out_B_5 (c : Dev nD) (i : grid0.Coords) (arg1 : Memref sig .tc .vmem S1152x256 .fp8e5m2) (harg1 : arg1.IsWhole) (arg2 : Memref sig .tc .vmem S1x1152 .f32) (harg2 : arg2.IsWhole) (arg3 : Memref sig .tc .vmem S8x1152x512 .bf16) (harg3 : arg3.IsWhole) (arg4 : Memref sig .tc .vmem S1x1x256 .f32) (harg4 : arg4.IsWhole) (arg5 : Memref sig .tc .vmem S4x32x4x8x128 .i32) (harg5 : arg5.IsWhole) (arg6 : Memref sig .tc .vmem S8x32x4x8x128 .f32) (harg6 : arg6.IsWhole) (arg7 : Memref sig .tc .vmem S1x1x256 .f32) (harg7 : arg7.IsWhole) (arg8 : Memref sig .tc .vmem S1152x128 .bf16) (harg8 : arg8.IsWhole)
    (hc0 : ¬cond0_0 i)
    (x0 : Vec Ideal S1152x256 .fp8e5m2) (x1 : Vec Ideal S1x1152 .f32) (x2 : Vec Ideal S8x1152x512 .bf16) (x3 : Vec Ideal S1x1x256 .f32) (x4 : Vec Ideal S4x32x4x8x128 .i32) (xs0 : Vec Ideal S1152x128 .bf16) :
    out0_B_5 (F := Ideal) c i arg1 harg1 arg2 harg2 arg3 harg3 arg4 harg4 arg5 harg5 arg6 harg6 arg7 harg7 arg8 harg8 hc0 x0 x1 x2 x3 x4 xs0
      = wBlk (fun k r => x0 (ix2 k r) * xs0 (ix2 k (lane r))) x2 x3 := by
  unfold out0_B_5
  rw [View.read_writes_eq_canon _ _ _ (cover0_B_5 c i arg1 harg1 arg2 harg2 arg3 harg3 arg4 harg4 arg5 harg5 arg6 harg6 arg7 harg7 arg8 harg8 hc0 x0 x1 x2 x3 x4 xs0)]
  unfold kernelRun0_B
  dsimp only
  sl_unfold_words
  simp only [View.readAt_eq_ld, harg1.read_unread, harg3.read_unread, harg4.read_unread,
    harg5.read_unread, harg8.read_unread]
  rw [View.ld_unit_zero (S := S1x1x256) hz3 _ x3]
  rw [View.ld_unit_zero (S := S1152x128) hz _ xs0]
  refine (show _ = View.canon (pieces (dyv xs0 x0) x3 x2) from rfl).trans ?_
  rw [canon_pieces]
  refine congrArg (fun D => wBlk D x2 x3) (funext fun k => funext fun r => ?_)
  rw [mat, dy_apply]

/-- The second result's block at the first grid point, which sets the scale scratch. -/
theorem out_A_6 (c : Dev nD) (i : grid0.Coords) (arg1 : Memref sig .tc .vmem S1152x256 .fp8e5m2) (harg1 : arg1.IsWhole) (arg2 : Memref sig .tc .vmem S1x1152 .f32) (harg2 : arg2.IsWhole) (arg3 : Memref sig .tc .vmem S8x1152x512 .bf16) (harg3 : arg3.IsWhole) (arg4 : Memref sig .tc .vmem S1x1x256 .f32) (harg4 : arg4.IsWhole) (arg5 : Memref sig .tc .vmem S4x32x4x8x128 .i32) (harg5 : arg5.IsWhole) (arg6 : Memref sig .tc .vmem S8x32x4x8x128 .f32) (harg6 : arg6.IsWhole) (arg7 : Memref sig .tc .vmem S1x1x256 .f32) (harg7 : arg7.IsWhole) (arg8 : Memref sig .tc .vmem S1152x128 .bf16) (harg8 : arg8.IsWhole)
    (hc0 : cond0_0 i)
    (x0 : Vec Ideal S1152x256 .fp8e5m2) (x1 : Vec Ideal S1x1152 .f32) (x2 : Vec Ideal S8x1152x512 .bf16) (x3 : Vec Ideal S1x1x256 .f32) (x4 : Vec Ideal S4x32x4x8x128 .i32) :
    out0_A_6 (F := Ideal) c i arg1 harg1 arg2 harg2 arg3 harg3 arg4 harg4 arg5 harg5 arg6 harg6 arg7 harg7 arg8 harg8 hc0 x0 x1 x2 x3 x4
      = dsBlk (fun k r => x0 (ix2 k r) * x1 (ix2 0 k)) x2 x4 := by
  unfold out0_A_6
  rw [View.read_writes_eq_canon _ _ _ (cover0_A_6 c i arg1 harg1 arg2 harg2 arg3 harg3 arg4 harg4 arg5 harg5 arg6 harg6 arg7 harg7 arg8 harg8 hc0 x0 x1 x2 x3 x4)]
  unfold kernelRun0_A
  dsimp only
  sl_unfold_words
  simp only [View.readAt_eq_ld, harg2.read_unread, harg1.read_unread, harg3.read_unread, harg4.read_unread,
    harg5.read_unread, harg8.read_unread]
  rw [View.canon_cons_unit_zero (S := S1x1x256) hz3]
  rw [View.ld_unit_zero (S := S1x1152) hz _ x1, View.readCov_unit_zero (S := S1152x128) _ hz]
  refine (show _ = total (tower (dyv (k0_pay3 x1) x0) x2 x4) from rfl).trans ?_
  rw [total_tower]
  refine congrArg (fun D => dsBlk D x2 x4) (funext fun k => funext fun r => ?_)
  rw [mat, dy_apply]
  exact congrArg (x0 (ix2 k r) * ·) (scale_apply x1 k (lane r))

/-- The second result's block at a later grid point, which reads the scale scratch. -/
theorem out_B_6 (c : Dev nD) (i : grid0.Coords) (arg1 : Memref sig .tc .vmem S1152x256 .fp8e5m2) (harg1 : arg1.IsWhole) (arg2 : Memref sig .tc .vmem S1x1152 .f32) (harg2 : arg2.IsWhole) (arg3 : Memref sig .tc .vmem S8x1152x512 .bf16) (harg3 : arg3.IsWhole) (arg4 : Memref sig .tc .vmem S1x1x256 .f32) (harg4 : arg4.IsWhole) (arg5 : Memref sig .tc .vmem S4x32x4x8x128 .i32) (harg5 : arg5.IsWhole) (arg6 : Memref sig .tc .vmem S8x32x4x8x128 .f32) (harg6 : arg6.IsWhole) (arg7 : Memref sig .tc .vmem S1x1x256 .f32) (harg7 : arg7.IsWhole) (arg8 : Memref sig .tc .vmem S1152x128 .bf16) (harg8 : arg8.IsWhole)
    (hc0 : ¬cond0_0 i)
    (x0 : Vec Ideal S1152x256 .fp8e5m2) (x1 : Vec Ideal S1x1152 .f32) (x2 : Vec Ideal S8x1152x512 .bf16) (x3 : Vec Ideal S1x1x256 .f32) (x4 : Vec Ideal S4x32x4x8x128 .i32) (xs0 : Vec Ideal S1152x128 .bf16) :
    out0_B_6 (F := Ideal) c i arg1 harg1 arg2 harg2 arg3 harg3 arg4 harg4 arg5 harg5 arg6 harg6 arg7 harg7 arg8 harg8 hc0 x0 x1 x2 x3 x4 xs0
      = dsBlk (fun k r => x0 (ix2 k r) * xs0 (ix2 k (lane r))) x2 x4 := by
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 x4 xs0)]
  unfold kernelRun0_B
  dsimp only
  sl_unfold_words
  simp only [View.readAt_eq_ld, harg1.read_unread, harg3.read_unread, harg4.read_unread,
    harg5.read_unread, harg8.read_unread]
  rw [View.canon_cons_unit_zero (S := S1x1x256) hz3]
  rw [View.ld_unit_zero (S := S1152x128) hz _ xs0]
  refine (show _ = total (tower (dyv xs0 x0) x2 x4) from rfl).trans ?_
  rw [total_tower]
  refine congrArg (fun D => dsBlk D x2 x4) (funext fun k => funext fun r => ?_)
  rw [mat, dy_apply]

/-- The scratch after the first grid point: each token's scale on every lane. -/
theorem sout_A (c : Dev nD) (i : grid0.Coords) (arg1 : Memref sig .tc .vmem S1152x256 .fp8e5m2) (harg1 : arg1.IsWhole) (arg2 : Memref sig .tc .vmem S1x1152 .f32) (harg2 : arg2.IsWhole) (arg3 : Memref sig .tc .vmem S8x1152x512 .bf16) (harg3 : arg3.IsWhole) (arg4 : Memref sig .tc .vmem S1x1x256 .f32) (harg4 : arg4.IsWhole) (arg5 : Memref sig .tc .vmem S4x32x4x8x128 .i32) (harg5 : arg5.IsWhole) (arg6 : Memref sig .tc .vmem S8x32x4x8x128 .f32) (harg6 : arg6.IsWhole) (arg7 : Memref sig .tc .vmem S1x1x256 .f32) (harg7 : arg7.IsWhole) (arg8 : Memref sig .tc .vmem S1152x128 .bf16) (harg8 : arg8.IsWhole)
    (hc0 : cond0_0 i) (x0 : Vec Ideal S1152x256 .fp8e5m2) (x1 : Vec Ideal S1x1152 .f32) (x2 : Vec Ideal S8x1152x512 .bf16) (x3 : Vec Ideal S1x1x256 .f32) (x4 : Vec Ideal S4x32x4x8x128 .i32) (k : Fin 1152) (l : Fin 128) :
    sout0_A_0 (F := Ideal) c i arg1 harg1 arg2 harg2 arg3 harg3 arg4 harg4 arg5 harg5 arg6 harg6 arg7 harg7 arg8 harg8 hc0 x0 x1 x2 x3 x4 (ix2 k l) = x1 (ix2 0 k) := by
  unfold sout0_A_0
  rw [View.read_writes_eq_canon _ _ _ (fun y => View.cover_of_tiledL _ ![1152, 128] (by sl_kernel_rfl) y)]
  unfold kernelRun0_A
  dsimp only
  sl_unfold_words
  simp only [View.readAt_eq_ld, harg2.read_unread]
  rw [View.ld_unit_zero (S := S1x1152) hz _ x1, View.canon_cons_unit_zero (S := S1152x128) hz]
  exact scale_apply x1 k l

/-- A later grid point leaves the scratch as it was. -/
theorem sout_B (c : Dev nD) (i : grid0.Coords) (arg1 : Memref sig .tc .vmem S1152x256 .fp8e5m2) (harg1 : arg1.IsWhole) (arg2 : Memref sig .tc .vmem S1x1152 .f32) (harg2 : arg2.IsWhole) (arg3 : Memref sig .tc .vmem S8x1152x512 .bf16) (harg3 : arg3.IsWhole) (arg4 : Memref sig .tc .vmem S1x1x256 .f32) (harg4 : arg4.IsWhole) (arg5 : Memref sig .tc .vmem S4x32x4x8x128 .i32) (harg5 : arg5.IsWhole) (arg6 : Memref sig .tc .vmem S8x32x4x8x128 .f32) (harg6 : arg6.IsWhole) (arg7 : Memref sig .tc .vmem S1x1x256 .f32) (harg7 : arg7.IsWhole) (arg8 : Memref sig .tc .vmem S1152x128 .bf16) (harg8 : arg8.IsWhole)
    (hc0 : ¬cond0_0 i) (x0 : Vec Ideal S1152x256 .fp8e5m2) (x1 : Vec Ideal S1x1152 .f32) (x2 : Vec Ideal S8x1152x512 .bf16) (x3 : Vec Ideal S1x1x256 .f32) (x4 : Vec Ideal S4x32x4x8x128 .i32) (xs0 : Vec Ideal S1152x128 .bf16) :
    sout0_B_0 (F := Ideal) c i arg1 harg1 arg2 harg2 arg3 harg3 arg4 harg4 arg5 harg5 arg6 harg6 arg7 harg7 arg8 harg8 hc0 x0 x1 x2 x3 x4 xs0 = xs0 := rfl

end Cert.KernelIdeal.Point
end
-- ==== Proof.Array.lean ====
/-
  What the two result arrays of the weight-gradient call hold after the run, entry by entry, as functions of the arguments.
-/
module

public import proofs.«01_k».proof.Proof.Point
public import Idealize.ShloMosaic.Lib.StableHlo.ReadAt

@[expose] public section

set_option maxRecDepth 16384

noncomputable section

namespace Cert.KernelIdeal.Array

open Cert.KernelIdeal Cert.KernelIdeal.Gen Cert.KernelIdeal.Value Cert.KernelIdeal.Point Cert.Block Cert.Half Idealize.ShloMosaic Idealize.ShloMosaic.TcCoe Idealize.SL.Sem

variable (m : (ℓ : Loc nD τ sig) → Buf (Elt Ideal) ℓ)

/-- The codes of the output gradient. -/
abbrev codes (c : Dev nD) : FVec Ideal S3x384x14336 .fp8e5m2 := m ((c : Thread nD τ).loc main_arg0)
/-- The scales of the tokens. -/
abbrev scales (c : Dev nD) : FVec Ideal S3x384 .f32 := m ((c : Thread nD τ).loc main_arg1)
/-- The features, plane by plane. -/
abbrev feats (c : Dev nD) : FVec Ideal S8x1152x512 .bf16 := m ((c : Thread nD τ).loc main_arg2)
/-- The scales of the rows. -/
abbrev rowScales (c : Dev nD) : FVec Ideal S14336 .f32 := m ((c : Thread nD τ).loc main_arg3)
/-- The decoded weights, two to a word. -/
abbrev wordsOf (c : Dev nD) : IVec S4x1024x4x8x128 32 := m ((c : Thread nD τ).loc main_arg4)

/-- The codes as the call reads them: one row per token. -/
theorem V_codes (c : Dev nD) (k : Fin 1152) (o : Fin 14336) :
    V m c main_v0 (ix2 k o) = codes m c (ix3 ⟨k.val / 384, by omega⟩ ⟨k.val % 384, by omega⟩ o) := by
  unfold V
  after_reads_at
/-- The token scales as the call reads them. -/
theorem V_scales (c : Dev nD) (k : Fin 1152) :
    V m c main_v1 (ix2 0 k) = scales m c (ix2 ⟨k.val / 384, by omega⟩ ⟨k.val % 384, by omega⟩) := by
  unfold V
  after_reads_at
/-- The row scales as the call reads them: 256 to a block. -/
theorem V_rs (c : Dev nD) (b : Fin 56) (r : Fin 256) :
    V m c main_v2 (ix3 b 0 r) = rowScales m c (ix1 ⟨b.val * 256 + r.val, by omega⟩) := by
  unfold V
  after_reads_at

/-- Which block of the codes a grid point reads. -/
theorem idx0 : ∀ t : Fin cfg0.N, win0_0.index t 0 = 0 ∧ win0_0.index t 1 = t.val + 24 :=
  (by decide +kernel : ∀ t : Fin grid0.N, win0_0.index t 0 = 0 ∧ win0_0.index t 1 = t.val + 24)
/-- Which block of the token scales a grid point reads. -/
theorem idx1 : ∀ t : Fin cfg0.N, win0_1.index t 0 = 0 ∧ win0_1.index t 1 = 0 :=
  (by decide +kernel : ∀ t : Fin grid0.N, win0_1.index t 0 = 0 ∧ win0_1.index t 1 = 0)
/-- Which block of the features a grid point reads. -/
theorem idx2 : ∀ t : Fin cfg0.N, win0_2.index t 0 = 0 ∧ win0_2.index t 1 = 0 ∧ win0_2.index t 2 = 0 :=
  (by decide +kernel : ∀ t : Fin grid0.N, win0_2.index t 0 = 0 ∧ win0_2.index t 1 = 0 ∧ win0_2.index t 2 = 0)
/-- Which block of the row scales a grid point reads. -/
theorem idx3 : ∀ t : Fin cfg0.N, win0_3.index t 0 = t.val + 24 ∧ win0_3.index t 1 = 0 ∧ win0_3.index t 2 = 0 :=
  (by decide +kernel : ∀ t : Fin grid0.N, win0_3.index t 0 = t.val + 24 ∧ win0_3.index t 1 = 0 ∧ win0_3.index t 2 = 0)
/-- Which block of the words a grid point reads. -/
theorem idx4 : ∀ t : Fin cfg0.N, win0_4.index t 0 = 0 ∧ win0_4.index t 1 = t.val + 0 ∧ win0_4.index t 2 = 0
    ∧ win0_4.index t 3 = 0 ∧ win0_4.index t 4 = 0 :=
  (by decide +kernel : ∀ t : Fin grid0.N, win0_4.index t 0 = 0 ∧ win0_4.index t 1 = t.val + 0 ∧ win0_4.index t 2 = 0
    ∧ win0_4.index t 3 = 0 ∧ win0_4.index t 4 = 0)

/-- The grid's length. -/
theorem lt_N (t : Fin cfg0.N) : t.val < 32 := lt_of_lt_of_eq t.isLt N_0

/-- The block of codes a grid point reads. -/
theorem blk0 (c : Dev nD) (t : Fin cfg0.N) (k : Fin 1152) (r : Fin 256) :
    (iblk m c 0 t : Vec Ideal S1152x256 .fp8e5m2) (ix2 k r)
      = codes m c (ix3 ⟨k.val / 384, by omega⟩ ⟨k.val % 384, by omega⟩ ⟨6144 + t.val * 256 + r.val, by have := lt_N t; omega⟩) := by
  refine Eq.trans ?_ (V_codes m c k _)
  unfold iblk
  rw [View.read_apply]
  show V m c main_v0 _ = V m c main_v0 _
  congr 1
  funext a
  apply Fin.ext
  match a with
  | ⟨0, _⟩ => show win0_0.index t 0 * 1152 + 1 * k.val = k.val; rw [(idx0 t).1]; omega
  | ⟨1, _⟩ => show win0_0.index t 1 * 256 + 1 * r.val = 6144 + t.val * 256 + r.val; rw [(idx0 t).2]; omega

/-- The block of scales a grid point reads: all of them. -/
theorem blk1 (c : Dev nD) (t : Fin cfg0.N) (k : Fin 1152) :
    (iblk m c 1 t : Vec Ideal S1x1152 .f32) (ix2 0 k) = scales m c (ix2 ⟨k.val / 384, by omega⟩ ⟨k.val % 384, by omega⟩) := by
  refine Eq.trans ?_ (V_scales m c k)
  unfold iblk
  rw [View.read_apply]
  show V m c main_v1 _ = V m c main_v1 _
  congr 1
  funext a
  apply Fin.ext
  match a with
  | ⟨0, _⟩ => show win0_1.index t 0 * 1 + 1 * 0 = 0; rw [(idx1 t).1]
  | ⟨1, _⟩ => show win0_1.index t 1 * 1152 + 1 * k.val = k.val; rw [(idx1 t).2]; omega

/-- The features a grid point reads: all of them. -/
theorem blk2 (c : Dev nD) (t : Fin cfg0.N) (j : Fin 8) (k : Fin 1152) (g : Fin 512) :
    (iblk m c 2 t : Vec Ideal S8x1152x512 .bf16) (ix3 j k g) = feats m c (ix3 j k g) := by
  unfold iblk
  rw [View.read_apply]
  show V m c main_arg2 _ = m (c.tc.loc main_arg2) _
  rw [V_main_arg2]
  congr 1
  funext a
  apply Fin.ext
  match a with
  | ⟨0, _⟩ => show win0_2.index t 0 * 8 + 1 * j.val = j.val; rw [(idx2 t).1]; omega
  | ⟨1, _⟩ => show win0_2.index t 1 * 1152 + 1 * k.val = k.val; rw [(idx2 t).2.1]; omega
  | ⟨2, _⟩ => show win0_2.index t 2 * 512 + 1 * g.val = g.val; rw [(idx2 t).2.2]; omega

/-- The row scales a grid point reads. -/
theorem blk3 (c : Dev nD) (t : Fin cfg0.N) (r : Fin 256) :
    (iblk m c 3 t : Vec Ideal S1x1x256 .f32) (ix3 0 0 r)
      = rowScales m c (ix1 ⟨6144 + t.val * 256 + r.val, by have := lt_N t; omega⟩) := by
  have e := V_rs m c ⟨t.val + 24, by have := lt_N t; omega⟩ r
  rw [show (⟨(⟨t.val + 24, by have := lt_N t; omega⟩ : Fin 56).val * 256 + r.val, by have := lt_N t; dsimp only; omega⟩ : Fin 14336)
    = ⟨6144 + t.val * 256 + r.val, by have := lt_N t; omega⟩ from Fin.ext (by dsimp only; omega)] at e
  refine Eq.trans ?_ e
  unfold iblk
  rw [View.read_apply]
  show V m c main_v2 _ = V m c main_v2 _
  congr 1
  funext a
  apply Fin.ext
  match a with
  | ⟨0, _⟩ => show win0_3.index t 0 * 1 + 1 * 0 = t.val + 24; rw [(idx3 t).1]; omega
  | ⟨1, _⟩ => show win0_3.index t 1 * 1 + 1 * 0 = 0; rw [(idx3 t).2.1]
  | ⟨2, _⟩ => show win0_3.index t 2 * 256 + 1 * r.val = r.val; rw [(idx3 t).2.2]; omega

/-- The words a grid point reads. -/
theorem blk4 (c : Dev nD) (t : Fin cfg0.N) (p : Fin 4) (a : Fin 32) (g : Fin 4) (b : Fin 8) (l : Fin 128) :
    (iblk m c 4 t : Vec Ideal S4x32x4x8x128 .i32) (ix5 p a g b l)
      = wordsOf m c (ix5 p ⟨0 + t.val * 32 + a.val, by have := lt_N t; omega⟩ g b l) := by
  unfold iblk
  rw [View.read_apply]
  show V m c main_arg4 _ = m (c.tc.loc main_arg4) _
  rw [V_main_arg4]
  congr 1
  funext i
  apply Fin.ext
  match i with
  | ⟨0, _⟩ => show win0_4.index t 0 * 4 + 1 * p.val = p.val; rw [(idx4 t).1]; omega
  | ⟨1, _⟩ => show win0_4.index t 1 * 32 + 1 * a.val = 0 + t.val * 32 + a.val; rw [(idx4 t).2.1]; omega
  | ⟨2, _⟩ => show win0_4.index t 2 * 4 + 1 * g.val = g.val; rw [(idx4 t).2.2.1]; omega
  | ⟨3, _⟩ => show win0_4.index t 3 * 8 + 1 * b.val = b.val; rw [(idx4 t).2.2.2.1]; omega
  | ⟨4, _⟩ => show win0_4.index t 4 * 128 + 1 * l.val = l.val; rw [(idx4 t).2.2.2.2]; omega

/-- The scale of a token. -/
abbrev scale (c : Dev nD) (k : Fin 1152) : EReal := scales m c (ix2 ⟨k.val / 384, by omega⟩ ⟨k.val % 384, by omega⟩)

/-- After every grid point the scratch holds each token's scale on every lane. -/
theorem scratch (c : Dev nD) : ∀ (n : ℕ) (hn : n < cfg0.N) (k : Fin 1152) (l : Fin 128),
    (outsAt0 m c n hn).2.2 (ix2 k l) = scale m c k
  | 0, hn, k, l => by
    have e := outsAt0_A m c ⟨0, hn⟩ (Nat.zero_mod _)
    dsimp only at e
    rw [e]
    dsimp only
    rw [sout_A, blk1]
  | n + 1, hn, k, l => by
    have hN : cfg0.N = 32 := N_0
    have e := outsAt0_B m c ⟨n + 1, hn⟩ (by dsimp only; omega)
    dsimp only at e
    rw [e]
    dsimp only
    rw [sout_B]
    exact scratch c n _ k l

/-- The scaled gradient of a block. -/
abbrev dyB (c : Dev nD) (t : Fin cfg0.N) (k : Fin 1152) (r : Fin 256) : EReal :=
  codes m c (ix3 ⟨k.val / 384, by omega⟩ ⟨k.val % 384, by omega⟩ ⟨6144 + t.val * 256 + r.val, by have := lt_N t; omega⟩) * scale m c k

/-- What a grid point leaves for the first result. -/
theorem outs5 (c : Dev nD) (t : Fin cfg0.N) :
    (outsAt0 m c t.val t.isLt).1 = wBlk (dyB m c t) (iblk m c 2 t) (iblk m c 3 t) := by
  by_cases h : t.val % 32 = 0
  · rw [outsAt0_A m c t h]
    dsimp only
    rw [out_A_5]
    refine congrArg (fun D => wBlk D _ _) (funext fun k => funext fun r => ?_)
    rw [blk0, blk1]
  · rw [outsAt0_B m c t h]
    dsimp only
    rw [out_B_5]
    refine congrArg (fun D => wBlk D _ _) (funext fun k => funext fun r => ?_)
    rw [blk0, scratch]

/-- What a grid point leaves for the second result. -/
theorem outs6 (c : Dev nD) (t : Fin cfg0.N) :
    (outsAt0 m c t.val t.isLt).2.1 = dsBlk (dyB m c t) (iblk m c 2 t) (iblk m c 4 t) := by
  by_cases h : t.val % 32 = 0
  · rw [outsAt0_A m c t h]
    dsimp only
    rw [out_A_6]
    refine congrArg (fun D => dsBlk D _ _) (funext fun k => funext fun r => ?_)
    rw [blk0, blk1]
  · rw [outsAt0_B m c t h]
    dsimp only
    rw [out_B_6]
    refine congrArg (fun D => dsBlk D _ _) (funext fun k => funext fun r => ?_)
    rw [blk0, scratch]

/-- The weight gradient of output feature `o`, plane `j`, group `g`: the tokens' scaled gradients times the features. -/
def grad (c : Dev nD) (j : Fin 8) (o : Fin 14336) (g : Fin 512) : EReal :=
  ∑ k : Fin 1152, codes m c (ix3 ⟨k.val / 384, by omega⟩ ⟨k.val % 384, by omega⟩ o) * scale m c k * feats m c (ix3 j k g)

/-- A block's rows are rows of the array. -/
theorem o_lt (t : Fin cfg0.N) (r : Fin 256) : 6144 + t.val * 256 + r.val < 14336 := by have := lt_N t; omega

/-- A block's weight gradient is the array's. -/
theorem dw_eq (c : Dev nD) (t : Fin cfg0.N) (j : Fin 8) (r : Fin 256) (g : Fin 512) (o : Fin 14336)
    (ho : 6144 + t.val * 256 + r.val = o.val) : dw (dyB m c t) (iblk m c 2 t) j r g = grad m c j o g := by
  obtain rfl : (⟨6144 + t.val * 256 + r.val, o_lt t r⟩ : Fin 14336) = o := Fin.ext ho
  exact Finset.sum_congr rfl fun k _ => by rw [blk2]

/-- A block's row scale is the array's. -/
theorem rs_eq (c : Dev nD) (t : Fin cfg0.N) (r : Fin 256) (o : Fin 14336)
    (ho : 6144 + t.val * 256 + r.val = o.val) :
    (iblk m c 3 t : Vec Ideal S1x1x256 .f32) (ix3 0 0 r) = rowScales m c (ix1 o) := by
  obtain rfl : (⟨6144 + t.val * 256 + r.val, o_lt t r⟩ : Fin 14336) = o := Fin.ext ho
  exact blk3 m c t r

/-- A block's decoded weights are the array's. -/
theorem dec_eq (c : Dev nD) (t : Fin cfg0.N) (j : Fin 8) (r : Fin 256) (g : Fin 512) (n : ℕ) (hn : n < 8192)
    (ho : 0 + t.val * 256 + r.val = n) :
    dec (iblk m c 4 t) j r g = half (j.val % 2) (wordsOf m c (ix5 ⟨j.val / 2, by omega⟩ ⟨n / 8, by omega⟩
      ⟨g.val / 128, by omega⟩ ⟨n % 8, by omega⟩ ⟨g.val % 128, by omega⟩)) := by
  unfold dec
  rw [blk4]
  refine congrArg (half _) (congrArg (wordsOf m c) ?_)
  rw [show (⟨0 + t.val * 32 + r.val / 8, by have := lt_N t; omega⟩ : Fin 1024) = ⟨n / 8, by omega⟩ from Fin.ext (by dsimp only; omega),
    show (⟨r.val % 8, by omega⟩ : Fin 8) = ⟨n % 8, by omega⟩ from Fin.ext (by dsimp only; omega)]

/-- The first result, entry by entry. -/
theorem G5_apply (c : Dev nD) (j : Fin 8) (a : Fin 1024) (t : Fin 4) (b : Fin 8) (l : Fin 128) :
    (G5 m c : Vec Ideal S8x1024x4x8x128 .f32) (ix5 j a t b l)
      = grad m c j ⟨6144 + (a.val * 8 + b.val), by omega⟩ (col t l) * rowScales m c (ix1 ⟨6144 + (a.val * 8 + b.val), by omega⟩) := by
  have hN : cfg0.N = 32 := N_0
  have hp : pt5Of (ix5 j a t b l) = a.val / 32 := by
    show 32 * (j.val / 8 - 0) + 1 * (a.val / 32 - 0) + 1 * (t.val / 4 - 0) + 1 * (b.val / 8 - 0) + 1 * (l.val / 128 - 0) = _
    omega
  have hl : loc5Of (ix5 j a t b l) = ix5 j ⟨a.val % 32, by omega⟩ t b l := by
    funext i
    apply Fin.ext
    match i with
    | ⟨0, _⟩ => exact Nat.mod_eq_of_lt j.isLt
    | ⟨1, _⟩ => rfl
    | ⟨2, _⟩ => exact Nat.mod_eq_of_lt t.isLt
    | ⟨3, _⟩ => exact Nat.mod_eq_of_lt b.isLt
    | ⟨4, _⟩ => exact Nat.mod_eq_of_lt l.isLt
  have hlt : a.val / 32 < cfg0.N := by omega
  unfold G5
  simp only [hp, hl, hlt, dif_pos]
  rw [← outsAt0_sweep m c _ hlt, outs5 m c ⟨a.val / 32, hlt⟩]
  rw [wBlk_apply, dw_eq m c _ j _ _ ⟨6144 + (a.val * 8 + b.val), by omega⟩ (by dsimp only; omega),
    rs_eq m c _ _ ⟨6144 + (a.val * 8 + b.val), by omega⟩ (by dsimp only; omega)]

/-- The second result, entry by entry. -/
theorem G6_apply (c : Dev nD) (a : Fin 32) (r : Fin 256) :
    (G6 m c : Vec Ideal S32x1x256 .f32) (ix3 a 0 r)
      = ∑ j : Fin 8, ∑ g : Fin 512, grad m c j ⟨6144 + (a.val * 256 + r.val), by omega⟩ g
          * half (j.val % 2) (wordsOf m c (ix5 ⟨j.val / 2, by omega⟩ ⟨(0 + (a.val * 256 + r.val)) / 8, by omega⟩
              ⟨g.val / 128, by omega⟩ ⟨(0 + (a.val * 256 + r.val)) % 8, by omega⟩ ⟨g.val % 128, by omega⟩)) := by
  have hN : cfg0.N = 32 := N_0
  have hp : pt6Of (ix3 a 0 r) = a.val := by
    show 1 * (a.val / 1 - 0) + 1 * (0 / 1 - 0) + 1 * (r.val / 256 - 0) = _
    omega
  have hl : loc6Of (ix3 a 0 r) = ix3 0 0 r := by
    funext i
    apply Fin.ext
    match i with
    | ⟨0, _⟩ => exact Nat.mod_one _
    | ⟨1, _⟩ => rfl
    | ⟨2, _⟩ => exact Nat.mod_eq_of_lt r.isLt
  have hlt : a.val < cfg0.N := by omega
  unfold G6
  simp only [hp, hl, hlt, dif_pos]
  rw [← outsAt0_sweep m c _ hlt, outs6 m c ⟨a.val, hlt⟩]
  refine (dsBlk_apply _ _ _ r).trans ?_
  refine Finset.sum_congr rfl fun j _ => Finset.sum_congr rfl fun g _ => ?_
  rw [dw_eq m c _ j _ _ ⟨6144 + (a.val * 256 + r.val), by omega⟩ (by dsimp only; omega),
    dec_eq m c _ j _ _ (0 + (a.val * 256 + r.val)) (by omega) (by dsimp only; omega)]

end Cert.KernelIdeal.Array
end
-- ==== Proof.Ref.lean ====
/-
  What the reference's two results hold after its run, entry by entry, as functions of the arguments.
-/
module

public import proofs.«01_k».proof.Proof.Gen.ReferenceIdeal.Frame
public import proofs.«01_k».proof.Proof.Half
public import Idealize.ShloMosaic.Lib.Pointwise
public import Idealize.ShloMosaic.Lib.Claim
public import Idealize.ShloMosaic.Lib.StableHlo.ReadAt
public import Idealize.ShloMosaic.Lib.Pipeline.ValueKit.Geometry

@[expose] public section

set_option maxRecDepth 16384

noncomputable section

namespace Cert.ReferenceIdeal.Plain

open Cert.ReferenceIdeal Cert.ReferenceIdeal.Gen Cert.Half Idealize.ShloMosaic Idealize.ShloMosaic.TcCoe Idealize.SL.Sem

/-- No offset. -/
theorem hz : (![0, 0] : Fin 2 → Nat) = fun _ => 0 := funext fun a => by fin_cases a <;> rfl

/-- No offset. -/
theorem hz3 : (![0, 0, 0] : Fin 3 → Nat) = fun _ => 0 := funext fun a => by fin_cases a <;> rfl

/-- The weight gradient as the reference writes it. -/
def dw (x0 : Vec Ideal S1152x8192 .fp8e5m2) (x1 : Vec Ideal S1152x1 .f32) (x2 : Vec Ideal S8x1152x512 .bf16)
    (j : Fin 8) (o : Fin 8192) (g : Fin 512) : EReal :=
  ∑ k : Fin 1152, x0 (ix2 k o) * x1 (ix2 k 0) * x2 (ix3 j k g)

/-- The matrix product, entry by entry. -/
theorem pay1_apply (x0 : Vec Ideal S1152x8192 .fp8e5m2) (x1 : Vec Ideal S1152x1 .f32) (x2 : Vec Ideal S8x1152x512 .bf16)
    (j : Fin 8) (o : Fin 8192) (g : Fin 512) :
    k0_pay1 (F := Ideal) x0 x1 x2 (ix3 j o g) = dw x0 x1 x2 j o g := by
  unfold k0_pay1 dw
  pointwise

/-- The first result of the call, entry by entry. -/
theorem out5_apply (x0 : Vec Ideal S1152x8192 .fp8e5m2) (x1 : Vec Ideal S1152x1 .f32) (x2 : Vec Ideal S8x1152x512 .bf16)
    (x3 : Vec Ideal S1x8192x1 .f32) (x4 : Vec Ideal S8x8192x512 .bf16) (j : Fin 8) (o : Fin 8192) (g : Fin 512) :
    out0_5 (F := Ideal) x0 x1 x2 x3 x4 (ix3 j o g) = x3 (ix3 0 o 0) * dw x0 x1 x2 j o g := by
  unfold out0_5
  rw [View.canon_cons_unit_zero (S := S8x8192x512) hz3, View.ld_unit_zero (S := S1152x8192) hz _ x0,
    View.ld_unit_zero (S := S1152x1) hz _ x1, View.ld_unit_zero (S := S8x1152x512) hz3 _ x2,
    View.ld_unit_zero (S := S1x8192x1) hz3 _ x3]
  unfold k0_pay2
  rw [← pay1_apply]
  pointwise

/-- The entries that a sum over the first and the last axis adds up. -/
theorem fiber (h : S8x8192x512.Reduces [0, 2] S8192) (o : Fin 8192) (i : S8x8192x512.Idx) :
    h.drop i = ix1 o ↔ ∃ k : Fin 8 × Fin 512, ix3 k.1 o k.2 = i := by
  constructor
  · intro e
    refine ⟨(i 0, i 2), ?_⟩
    funext a
    apply Fin.ext
    match a with
    | ⟨0, _⟩ => rfl
    | ⟨1, _⟩ => exact (congrArg Fin.val (congrFun e 0)).symm
    | ⟨2, _⟩ => rfl
  · rintro ⟨k, rfl⟩
    funext b
    apply Fin.ext
    match b with
    | ⟨0, _⟩ => rfl

/-- A sum over the first and the last axis, one axis after the other. -/
theorem reduce_apply (h : S8x8192x512.Reduces [0, 2] S8192) (v : S8x8192x512.Idx → EReal) (o : Fin 8192) :
    Ideal.reduceAdd h v (ix1 o) = ∑ j : Fin 8, ∑ g : Fin 512, v (ix3 j o g) := by
  refine (Finset.sum_filter_eq_sum_of_fiber _ (fun k : Fin 8 × Fin 512 => ix3 k.1 o k.2)
    (fun _ _ e => Prod.ext (congrFun e 0) (congrFun e 2)) (fiber h o) v).trans ?_
  exact Fintype.sum_prod_type _

/-- The second result of the call, entry by entry. -/
theorem out6_apply (x0 : Vec Ideal S1152x8192 .fp8e5m2) (x1 : Vec Ideal S1152x1 .f32) (x2 : Vec Ideal S8x1152x512 .bf16)
    (x3 : Vec Ideal S1x8192x1 .f32) (x4 : Vec Ideal S8x8192x512 .bf16) (o : Fin 8192) :
    out0_6 (F := Ideal) x0 x1 x2 x3 x4 (ix2 0 o) = ∑ j : Fin 8, ∑ g : Fin 512, dw x0 x1 x2 j o g * x4 (ix3 j o g) := by
  unfold out0_6
  rw [View.canon_cons_unit_zero (S := S1x8192) hz, View.ld_unit_zero (S := S1152x8192) hz _ x0,
    View.ld_unit_zero (S := S1152x1) hz _ x1, View.ld_unit_zero (S := S8x1152x512) hz3 _ x2,
    View.ld_unit_zero (S := S8x8192x512) hz3 _ x4]
  unfold k0_pay3
  simp only [← pay1_apply]
  pointwise
  rw [reduce_apply]
  pointwise

variable (m : (ℓ : Loc nD τ sig) → Buf (Elt Ideal) ℓ) (ρ : Dev nD → PrngReg)

/-- The codes of one token, of one row. -/
theorem V_codes (c : Dev nD) (k : Fin 1152) (o : Fin 8192) :
    (V m c main_v1 : Vec Ideal S1152x8192 .fp8e5m2) (ix2 k o)
      = (m ((c : Thread nD τ).loc main_arg0) : Vec Ideal S3x384x14336 .fp8e5m2) (ix3 ⟨k.val / 384, by omega⟩ ⟨k.val % 384, by omega⟩ ⟨6144 + o.val, by omega⟩) := by
  unfold V
  after_reads_at

/-- The scale of one token. -/
theorem V_scales (c : Dev nD) (k : Fin 1152) :
    (V m c main_v2 : Vec Ideal S1152x1 .f32) (ix2 k 0)
      = (m ((c : Thread nD τ).loc main_arg1) : Vec Ideal S3x384 .f32) (ix2 ⟨k.val / 384, by omega⟩ ⟨k.val % 384, by omega⟩) := by
  unfold V
  after_reads_at

/-- The scale of one row. -/
theorem V_rs (c : Dev nD) (o : Fin 8192) :
    (V m c main_v4 : Vec Ideal S1x8192x1 .f32) (ix3 0 o 0)
      = (m ((c : Thread nD τ).loc main_arg3) : Vec Ideal S14336 .f32) (ix1 ⟨6144 + o.val, by omega⟩) := by
  unfold V
  after_reads_at

/-- A half of a word, its place written the other way round. -/
theorem half_eq (p : ℕ) (w : BitVec 32) : half p w = Ideal.ofBits .bf16 (w.extractLsb' (p * 16) 16) := by
  rw [half, Nat.mul_comm]

/-- The decoded weight of plane `j`, of one row, of one group. -/
theorem V_dec (c : Dev nD) (j : Fin 8) (o : Fin 8192) (g : Fin 512) :
    (V m c main_v9 : Vec Ideal S8x8192x512 .bf16) (ix3 j o g)
      = half (j.val % 2) ((m ((c : Thread nD τ).loc main_arg4) : Vec Ideal S4x1024x4x8x128 .i32)
          (ix5 ⟨j.val / 2, by omega⟩ ⟨(0 + o.val) / 8, by omega⟩ ⟨g.val / 128, by omega⟩ ⟨(0 + o.val) % 8, by omega⟩ ⟨g.val % 128, by omega⟩)) := by
  rw [half_eq]
  unfold V
  after_reads_at
  refine congrArg (fun i => Ideal.ofBits .bf16 (BitVec.extractLsb' (j.val % 2 * 16) 16
    ((m ((c : Thread nD τ).loc main_arg4) : Vec Ideal S4x1024x4x8x128 .i32) i))) ?_
  funext a
  apply Fin.ext
  match a with
  | ⟨0, _⟩ => rfl
  | ⟨1, _⟩ => rfl
  | ⟨2, _⟩ => rfl
  | ⟨3, _⟩ => rfl
  | ⟨4, _⟩ => rfl

/-- Every input window's one block is at index zero. -/
theorem idx0 : ∀ a, (cfg0.win 0).index t0_0 a = 0 := by decide +kernel

/-- An entry of the one block of input 0 is the same entry of its array. -/
theorem emb0 (y : S1152x8192.Idx) : ((cfg0.win 0).blk t0_0).view.emb y = y := by
  funext a
  apply Fin.ext
  refine Pipeline.Window.rect_emb_val_of_index_zero (cfg0.win 0) t0_0 a ?_ y
  exact idx0 a

/-- The one block of input 0 is its array, the array named by its window. -/
theorem whole0 (c : Dev nD) : (iblk m c 0 t0_0 : Vec Ideal S1152x8192 .fp8e5m2) = V m c (Pipeline.arrRef spec0 0) := by
  unfold iblk
  funext y
  rw [View.read_apply, cast_eq]
  exact congrArg (V m c (Pipeline.arrRef spec0 0)) (emb0 y)

/-- The array of input 0 by its name. -/
theorem name0 (c : Dev nD) : (V m c (Pipeline.arrRef spec0 0) : Vec Ideal S1152x8192 .fp8e5m2) = V m c main_v1 := rfl

/-- The one block of input 0 is its array. -/
theorem blk0 (c : Dev nD) : (iblk m c 0 t0_0 : Vec Ideal S1152x8192 .fp8e5m2) = V m c main_v1 :=
  (whole0 m c).trans (name0 m c)

/-- The reference reads the scales whole. -/
theorem idx1 : ∀ a, (cfg0.win 1).index t0_0 a = 0 := by decide +kernel

/-- An entry of the one block of input 1 is the same entry of its array. -/
theorem emb1 (y : S1152x1.Idx) : ((cfg0.win 1).blk t0_0).view.emb y = y := by
  funext a
  apply Fin.ext
  refine Pipeline.Window.rect_emb_val_of_index_zero (cfg0.win 1) t0_0 a ?_ y
  exact idx1 a

/-- The one block of input 1 is its array, the array named by its window. -/
theorem whole1 (c : Dev nD) : (iblk m c 1 t0_0 : Vec Ideal S1152x1 .f32) = V m c (Pipeline.arrRef spec0 1) := by
  unfold iblk
  funext y
  rw [View.read_apply, cast_eq]
  exact congrArg (V m c (Pipeline.arrRef spec0 1)) (emb1 y)

/-- The array of input 1 by its name. -/
theorem name1 (c : Dev nD) : (V m c (Pipeline.arrRef spec0 1) : Vec Ideal S1152x1 .f32) = V m c main_v2 := rfl

/-- The one block of input 1 is its array. -/
theorem blk1 (c : Dev nD) : (iblk m c 1 t0_0 : Vec Ideal S1152x1 .f32) = V m c main_v2 :=
  (whole1 m c).trans (name1 m c)

/-- The reference reads the features whole. -/
theorem idx2 : ∀ a, (cfg0.win 2).index t0_0 a = 0 := by decide +kernel

/-- An entry of the one block of input 2 is the same entry of its array. -/
theorem emb2 (y : S8x1152x512.Idx) : ((cfg0.win 2).blk t0_0).view.emb y = y := by
  funext a
  apply Fin.ext
  refine Pipeline.Window.rect_emb_val_of_index_zero (cfg0.win 2) t0_0 a ?_ y
  exact idx2 a

/-- The one block of input 2 is its array, the array named by its window. -/
theorem whole2 (c : Dev nD) : (iblk m c 2 t0_0 : Vec Ideal S8x1152x512 .bf16) = V m c (Pipeline.arrRef spec0 2) := by
  unfold iblk
  funext y
  rw [View.read_apply, cast_eq]
  exact congrArg (V m c (Pipeline.arrRef spec0 2)) (emb2 y)

/-- The array of input 2 by its name. -/
theorem name2 (c : Dev nD) : (V m c (Pipeline.arrRef spec0 2) : Vec Ideal S8x1152x512 .bf16) = V m c main_arg2 := rfl

/-- The one block of input 2 is its array. -/
theorem blk2 (c : Dev nD) : (iblk m c 2 t0_0 : Vec Ideal S8x1152x512 .bf16) = V m c main_arg2 :=
  (whole2 m c).trans (name2 m c)

/-- The reference reads the row scales whole. -/
theorem idx3 : ∀ a, (cfg0.win 3).index t0_0 a = 0 := by decide +kernel

/-- An entry of the one block of input 3 is the same entry of its array. -/
theorem emb3 (y : S1x8192x1.Idx) : ((cfg0.win 3).blk t0_0).view.emb y = y := by
  funext a
  apply Fin.ext
  refine Pipeline.Window.rect_emb_val_of_index_zero (cfg0.win 3) t0_0 a ?_ y
  exact idx3 a

/-- The one block of input 3 is its array, the array named by its window. -/
theorem whole3 (c : Dev nD) : (iblk m c 3 t0_0 : Vec Ideal S1x8192x1 .f32) = V m c (Pipeline.arrRef spec0 3) := by
  unfold iblk
  funext y
  rw [View.read_apply, cast_eq]
  exact congrArg (V m c (Pipeline.arrRef spec0 3)) (emb3 y)

/-- The array of input 3 by its name. -/
theorem name3 (c : Dev nD) : (V m c (Pipeline.arrRef spec0 3) : Vec Ideal S1x8192x1 .f32) = V m c main_v4 := rfl

/-- The one block of input 3 is its array. -/
theorem blk3 (c : Dev nD) : (iblk m c 3 t0_0 : Vec Ideal S1x8192x1 .f32) = V m c main_v4 :=
  (whole3 m c).trans (name3 m c)

/-- The reference reads the decoded weights whole. -/
theorem idx4 : ∀ a, (cfg0.win 4).index t0_0 a = 0 := by decide +kernel

/-- An entry of the one block of input 4 is the same entry of its array. -/
theorem emb4 (y : S8x8192x512.Idx) : ((cfg0.win 4).blk t0_0).view.emb y = y := by
  funext a
  apply Fin.ext
  refine Pipeline.Window.rect_emb_val_of_index_zero (cfg0.win 4) t0_0 a ?_ y
  exact idx4 a

/-- The one block of input 4 is its array, the array named by its window. -/
theorem whole4 (c : Dev nD) : (iblk m c 4 t0_0 : Vec Ideal S8x8192x512 .bf16) = V m c (Pipeline.arrRef spec0 4) := by
  unfold iblk
  funext y
  rw [View.read_apply, cast_eq]
  exact congrArg (V m c (Pipeline.arrRef spec0 4)) (emb4 y)

/-- The array of input 4 by its name. -/
theorem name4 (c : Dev nD) : (V m c (Pipeline.arrRef spec0 4) : Vec Ideal S8x8192x512 .bf16) = V m c main_v9 := rfl

/-- The one block of input 4 is its array. -/
theorem blk4 (c : Dev nD) : (iblk m c 4 t0_0 : Vec Ideal S8x8192x512 .bf16) = V m c main_v9 :=
  (whole4 m c).trans (name4 m c)

/-- The array of the first result is the block its one point leaves. -/
theorem arr5 (c : Dev nD) : (dats m 0 c).arrAt 5 cfg0.N = (out0_5 (F := Ideal) (V m c main_v1) (V m c main_v2) (V m c main_arg2) (V m c main_v4) (V m c main_v9) : Vec Ideal S8x8192x512 .f32) := by
  refine (dats m 0 c).arrAt_eq_of_after_last 5 t0_0 (by decide +kernel) _ fun j => ?_
  blk_simp
  rw [after0_5, blk0, blk1, blk2, blk3, blk4]

/-- The array of the second result is the block its one point leaves. -/
theorem arr6 (c : Dev nD) : (dats m 0 c).arrAt 6 cfg0.N = (out0_6 (F := Ideal) (V m c main_v1) (V m c main_v2) (V m c main_arg2) (V m c main_v4) (V m c main_v9) : Vec Ideal S1x8192 .f32) := by
  refine (dats m 0 c).arrAt_eq_of_after_last 6 t0_0 (by decide +kernel) _ fun j => ?_
  blk_simp
  rw [after0_6, blk0, blk1, blk2, blk3, blk4]

/-- The first result as the run ends it. -/
abbrev res0 (c : Dev nD) : Vec Ideal S8x1024x4x8x128 .f32 := Pipeline.afterTail₀ cfgs (dats m) 0 (V0 m) [hostOps1] c main_v12

/-- The second result as the run ends it. -/
abbrev res1 (c : Dev nD) : Vec Ideal S32x1x256 .f32 := Pipeline.afterTail₀ cfgs (dats m) 0 (V0 m) [hostOps1] c main_v13

/-- The first result is the call's first output, tiled 8 by 128. -/
theorem res0_apply (c : Dev nD) (j : Fin 8) (a : Fin 1024) (t : Fin 4) (b : Fin 8) (l : Fin 128) :
    res0 m c (ix5 j a t b l) = ((dats m 0 c).arrAt 5 cfg0.N : Vec Ideal S8x8192x512 .f32) (ix3 j ⟨a.val * 8 + b.val, by omega⟩ ⟨t.val * 128 + l.val, by omega⟩) := by
  unfold res0 Pipeline.afterTail₀
  after_reads_at
  exact congrFun (Pipeline.withArrays_arr (cfgs 0).spec winFacts0.arr_inj c (V0 m c) (fun w => (dats m 0 c).arrAt w (cfgs 0).N) 5) _

/-- The second result is the call's second output, a row for each 256. -/
theorem res1_apply (c : Dev nD) (a : Fin 32) (r : Fin 256) :
    res1 m c (ix3 a 0 r) = ((dats m 0 c).arrAt 6 cfg0.N : Vec Ideal S1x8192 .f32) (ix2 0 ⟨a.val * 256 + r.val, by omega⟩) := by
  unfold res1 Pipeline.afterTail₀
  after_reads_at
  exact congrFun (Pipeline.withArrays_arr (cfgs 0).spec winFacts0.arr_inj c (V0 m c) (fun w => (dats m 0 c).arrAt w (cfgs 0).N) 6) _

/-- The codes of the output gradient. -/
abbrev codes (c : Dev nD) : FVec Ideal S3x384x14336 .fp8e5m2 := m ((c : Thread nD τ).loc main_arg0)
/-- The scales of the tokens. -/
abbrev scales (c : Dev nD) : FVec Ideal S3x384 .f32 := m ((c : Thread nD τ).loc main_arg1)
/-- The features, plane by plane. -/
abbrev feats (c : Dev nD) : FVec Ideal S8x1152x512 .bf16 := m ((c : Thread nD τ).loc main_arg2)
/-- The scales of the rows. -/
abbrev rowScales (c : Dev nD) : FVec Ideal S14336 .f32 := m ((c : Thread nD τ).loc main_arg3)
/-- The decoded weights, two to a word. -/
abbrev wordsOf (c : Dev nD) : IVec S4x1024x4x8x128 32 := m ((c : Thread nD τ).loc main_arg4)

/-- The weight gradient of plane `j`, of one row, of one group, from the arguments. -/
def grad (c : Dev nD) (j : Fin 8) (o : Fin 14336) (g : Fin 512) : EReal :=
  ∑ k : Fin 1152, codes m c (ix3 ⟨k.val / 384, by omega⟩ ⟨k.val % 384, by omega⟩ o)
    * scales m c (ix2 ⟨k.val / 384, by omega⟩ ⟨k.val % 384, by omega⟩) * feats m c (ix3 j k g)

/-- The call's weight gradient is that of the arguments. -/
theorem dw_eq (c : Dev nD) (j : Fin 8) (o : Fin 8192) (g : Fin 512) :
    dw (V m c main_v1) (V m c main_v2) (V m c main_arg2) j o g = grad m c j ⟨6144 + o.val, by omega⟩ g := by
  unfold dw grad
  refine Finset.sum_congr rfl fun k _ => ?_
  rw [V_codes, V_scales, V_main_arg2]

/-- The first result, entry by entry, from the arguments. -/
theorem res0_entry (c : Dev nD) (j : Fin 8) (a : Fin 1024) (t : Fin 4) (b : Fin 8) (l : Fin 128) :
    res0 m c (ix5 j a t b l)
      = rowScales m c (ix1 ⟨6144 + (a.val * 8 + b.val), by omega⟩)
        * grad m c j ⟨6144 + (a.val * 8 + b.val), by omega⟩ ⟨t.val * 128 + l.val, by omega⟩ := by
  rw [res0_apply, arr5, out5_apply, V_rs, dw_eq]

/-- The second result, entry by entry, from the arguments. -/
theorem res1_entry (c : Dev nD) (a : Fin 32) (r : Fin 256) :
    res1 m c (ix3 a 0 r)
      = ∑ j : Fin 8, ∑ g : Fin 512, grad m c j ⟨6144 + (a.val * 256 + r.val), by omega⟩ g
          * half (j.val % 2) (wordsOf m c (ix5 ⟨j.val / 2, by omega⟩ ⟨(0 + (a.val * 256 + r.val)) / 8, by omega⟩
                ⟨g.val / 128, by omega⟩ ⟨(0 + (a.val * 256 + r.val)) % 8, by omega⟩ ⟨g.val % 128, by omega⟩)) := by
  rw [res1_apply, arr6, out6_apply]
  refine Finset.sum_congr rfl fun j _ => Finset.sum_congr rfl fun g _ => ?_
  rw [dw_eq, V_dec]

/-- The run: the two results, the arguments unchanged. -/
theorem run : θ_run defs (onTc (τ := τ) (main (F := Ideal))) ⟨m, fun _ => 0, ρ⟩ fun r => ∀ c : Dev nD,
      r.2.mem ((c : Thread nD τ).loc main_v12) = res0 m c
      ∧ r.2.mem ((c : Thread nD τ).loc main_v13) = res1 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h.2 c).2 main_v12 (Pipeline.mem_restRefs_of main_v12 (by decide) (by decide)),
      (h.2 c).2 main_v13 (Pipeline.mem_restRefs_of main_v13 (by decide) (by decide)), h.1 c⟩)
    (θ_run_and (Gen.unchanged m ρ) (Gen.run_main m ρ))

end Cert.ReferenceIdeal.Plain

end
-- ==== Proof.Equal.lean ====
/-
  The weight-gradient call and the reference leave the same two results, from the same arguments.
-/
module

public import proofs.«01_k».proof.Proof.Array
public import proofs.«01_k».proof.Proof.Ref

@[expose] public section

set_option maxRecDepth 16384

noncomputable section

namespace Cert.Equal

open Idealize.ShloMosaic Idealize.SL.Sem Cert.Half

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
      (h : ∀ c : Dev Cert.KernelIdeal.nD, m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))

include h

/-- The two programs read the same codes. -/
theorem codes_eq (c : Dev Cert.KernelIdeal.nD) : Cert.ReferenceIdeal.Plain.codes m' c = Cert.KernelIdeal.Array.codes m c := (h c).1
/-- The two programs read the same token scales. -/
theorem scales_eq (c : Dev Cert.KernelIdeal.nD) : Cert.ReferenceIdeal.Plain.scales m' c = Cert.KernelIdeal.Array.scales m c := (h c).2.1
/-- The two programs read the same features. -/
theorem feats_eq (c : Dev Cert.KernelIdeal.nD) : Cert.ReferenceIdeal.Plain.feats m' c = Cert.KernelIdeal.Array.feats m c := (h c).2.2.1
/-- The two programs read the same row scales. -/
theorem rowScales_eq (c : Dev Cert.KernelIdeal.nD) : Cert.ReferenceIdeal.Plain.rowScales m' c = Cert.KernelIdeal.Array.rowScales m c := (h c).2.2.2.1
/-- The two programs read the same words. -/
theorem wordsOf_eq (c : Dev Cert.KernelIdeal.nD) : Cert.ReferenceIdeal.Plain.wordsOf m' c = Cert.KernelIdeal.Array.wordsOf m c := (h c).2.2.2.2

/-- The two weight gradients are one sum. -/
theorem grad_eq (c : Dev Cert.KernelIdeal.nD) (j : Fin 8) (o : Fin 14336) (g : Fin 512) :
    Cert.ReferenceIdeal.Plain.grad m' c j o g = Cert.KernelIdeal.Array.grad m c j o g := by
  unfold Cert.ReferenceIdeal.Plain.grad Cert.KernelIdeal.Array.grad
  rw [codes_eq m m' h, scales_eq m m' h, feats_eq m m' h]

/-- The first results agree: the row's scale stands on the other side of the product. -/
theorem first (c : Dev Cert.KernelIdeal.nD) :
    (Cert.ReferenceIdeal.Plain.res0 m' c : FVec Ideal Cert.KernelIdeal.S8x1024x4x8x128 .f32) = Cert.KernelIdeal.Value.G5 m c := by
  funext y
  idx_vars y
  refine (Cert.ReferenceIdeal.Plain.res0_entry m' c _ _ _ _ _).trans (Eq.trans ?_ (Cert.KernelIdeal.Array.G5_apply m c _ _ _ _ _).symm)
  rw [grad_eq m m' h, rowScales_eq m m' h]
  exact mul_comm _ _

/-- The second results agree. -/
theorem second (c : Dev Cert.KernelIdeal.nD) :
    (Cert.ReferenceIdeal.Plain.res1 m' c : FVec Ideal Cert.KernelIdeal.S32x1x256 .f32) = Cert.KernelIdeal.Value.G6 m c := by
  funext y
  idx_vars y
  obtain rfl : y1 = 0 := Subsingleton.elim _ _
  refine (Cert.ReferenceIdeal.Plain.res1_entry m' c _ _).trans (Eq.trans ?_ (Cert.KernelIdeal.Array.G6_apply m c _ _).symm)
  rw [wordsOf_eq m m' h]
  exact Finset.sum_congr rfl fun j _ => Finset.sum_congr rfl fun g _ => congrArg (· * _) (grad_eq m m' h c j _ g)

end Cert.Equal

end
-- ==== Proof.PointA.lean ====
/-
  What a grid point of the first weight-gradient call leaves in its two results and in its scratch.
-/
module

public import proofs.«01_k».proof.Proof.Gen.KernelAIdeal.Value
public import proofs.«01_k».proof.Proof.RowSum

@[expose] public section

set_option maxRecDepth 16384

noncomputable section

namespace Cert.KernelAIdeal.Point

open Cert.KernelAIdeal Cert.KernelAIdeal.Gen Cert.Block Cert.Half Idealize.ShloMosaic Idealize.ShloMosaic.TcCoe Idealize.SL.Sem

/-- The first result's block at the first grid point, which sets the scale scratch. -/
theorem out_A_5 (c : Dev nD) (i : grid0.Coords) (arg1 : Memref sig .tc .vmem S1152x256 .fp8e5m2) (harg1 : arg1.IsWhole) (arg2 : Memref sig .tc .vmem S1x1152 .f32) (harg2 : arg2.IsWhole) (arg3 : Memref sig .tc .vmem S8x1152x512 .bf16) (harg3 : arg3.IsWhole) (arg4 : Memref sig .tc .vmem S1x1x256 .f32) (harg4 : arg4.IsWhole) (arg5 : Memref sig .tc .vmem S4x32x4x8x128 .i32) (harg5 : arg5.IsWhole) (arg6 : Memref sig .tc .vmem S8x32x4x8x128 .f32) (harg6 : arg6.IsWhole) (arg7 : Memref sig .tc .vmem S1x1x256 .f32) (harg7 : arg7.IsWhole) (arg8 : Memref sig .tc .vmem S1152x128 .bf16) (harg8 : arg8.IsWhole)
    (hc0 : cond0_0 i)
    (x0 : Vec Ideal S1152x256 .fp8e5m2) (x1 : Vec Ideal S1x1152 .f32) (x2 : Vec Ideal S8x1152x512 .bf16) (x3 : Vec Ideal S1x1x256 .f32) (x4 : Vec Ideal S4x32x4x8x128 .i32) :
    out0_A_5 (F := Ideal) c i arg1 harg1 arg2 harg2 arg3 harg3 arg4 harg4 arg5 harg5 arg6 harg6 arg7 harg7 arg8 harg8 hc0 x0 x1 x2 x3 x4
      = wBlk (fun k r => x0 (ix2 k r) * x1 (ix2 0 k)) x2 x3 := by
  unfold out0_A_5
  rw [View.read_writes_eq_canon _ _ _ (cover0_A_5 c i arg1 harg1 arg2 harg2 arg3 harg3 arg4 harg4 arg5 harg5 arg6 harg6 arg7 harg7 arg8 harg8 hc0 x0 x1 x2 x3 x4)]
  unfold kernelRun0_A
  dsimp only
  sl_unfold_words
  simp only [View.readAt_eq_ld, harg2.read_unread, harg1.read_unread, harg3.read_unread, harg4.read_unread,
    harg5.read_unread, harg8.read_unread]
  rw [View.ld_unit_zero (S := S1x1x256) hz3 _ x3]
  rw [View.ld_unit_zero (S := S1x1152) hz _ x1, View.readCov_unit_zero (S := S1152x128) _ hz]
  refine (show _ = View.canon (pieces (dyv (k0_pay3 x1) x0) x3 x2) from rfl).trans ?_
  rw [canon_pieces]
  refine congrArg (fun D => wBlk D x2 x3) (funext fun k => funext fun r => ?_)
  rw [mat, dy_apply]
  exact congrArg (x0 (ix2 k r) * ·) (scale_apply x1 k (lane r))

/-- The first result's block at a later grid point, which reads the scale scratch. -/
theorem out_B_5 (c : Dev nD) (i : grid0.Coords) (arg1 : Memref sig .tc .vmem S1152x256 .fp8e5m2) (harg1 : arg1.IsWhole) (arg2 : Memref sig .tc .vmem S1x1152 .f32) (harg2 : arg2.IsWhole) (arg3 : Memref sig .tc .vmem S8x1152x512 .bf16) (harg3 : arg3.IsWhole) (arg4 : Memref sig .tc .vmem S1x1x256 .f32) (harg4 : arg4.IsWhole) (arg5 : Memref sig .tc .vmem S4x32x4x8x128 .i32) (harg5 : arg5.IsWhole) (arg6 : Memref sig .tc .vmem S8x32x4x8x128 .f32) (harg6 : arg6.IsWhole) (arg7 : Memref sig .tc .vmem S1x1x256 .f32) (harg7 : arg7.IsWhole) (arg8 : Memref sig .tc .vmem S1152x128 .bf16) (harg8 : arg8.IsWhole)
    (hc0 : ¬cond0_0 i)
    (x0 : Vec Ideal S1152x256 .fp8e5m2) (x1 : Vec Ideal S1x1152 .f32) (x2 : Vec Ideal S8x1152x512 .bf16) (x3 : Vec Ideal S1x1x256 .f32) (x4 : Vec Ideal S4x32x4x8x128 .i32) (xs0 : Vec Ideal S1152x128 .bf16) :
    out0_B_5 (F := Ideal) c i arg1 harg1 arg2 harg2 arg3 harg3 arg4 harg4 arg5 harg5 arg6 harg6 arg7 harg7 arg8 harg8 hc0 x0 x1 x2 x3 x4 xs0
      = wBlk (fun k r => x0 (ix2 k r) * xs0 (ix2 k (lane r))) x2 x3 := by
  unfold out0_B_5
  rw [View.read_writes_eq_canon _ _ _ (cover0_B_5 c i arg1 harg1 arg2 harg2 arg3 harg3 arg4 harg4 arg5 harg5 arg6 harg6 arg7 harg7 arg8 harg8 hc0 x0 x1 x2 x3 x4 xs0)]
  unfold kernelRun0_B
  dsimp only
  sl_unfold_words
  simp only [View.readAt_eq_ld, harg1.read_unread, harg3.read_unread, harg4.read_unread,
    harg5.read_unread, harg8.read_unread]
  rw [View.ld_unit_zero (S := S1x1x256) hz3 _ x3]
  rw [View.ld_unit_zero (S := S1152x128) hz _ xs0]
  refine (show _ = View.canon (pieces (dyv xs0 x0) x3 x2) from rfl).trans ?_
  rw [canon_pieces]
  refine congrArg (fun D => wBlk D x2 x3) (funext fun k => funext fun r => ?_)
  rw [mat, dy_apply]

/-- The second result's block at the first grid point, which sets the scale scratch. -/
theorem out_A_6 (c : Dev nD) (i : grid0.Coords) (arg1 : Memref sig .tc .vmem S1152x256 .fp8e5m2) (harg1 : arg1.IsWhole) (arg2 : Memref sig .tc .vmem S1x1152 .f32) (harg2 : arg2.IsWhole) (arg3 : Memref sig .tc .vmem S8x1152x512 .bf16) (harg3 : arg3.IsWhole) (arg4 : Memref sig .tc .vmem S1x1x256 .f32) (harg4 : arg4.IsWhole) (arg5 : Memref sig .tc .vmem S4x32x4x8x128 .i32) (harg5 : arg5.IsWhole) (arg6 : Memref sig .tc .vmem S8x32x4x8x128 .f32) (harg6 : arg6.IsWhole) (arg7 : Memref sig .tc .vmem S1x1x256 .f32) (harg7 : arg7.IsWhole) (arg8 : Memref sig .tc .vmem S1152x128 .bf16) (harg8 : arg8.IsWhole)
    (hc0 : cond0_0 i)
    (x0 : Vec Ideal S1152x256 .fp8e5m2) (x1 : Vec Ideal S1x1152 .f32) (x2 : Vec Ideal S8x1152x512 .bf16) (x3 : Vec Ideal S1x1x256 .f32) (x4 : Vec Ideal S4x32x4x8x128 .i32) :
    out0_A_6 (F := Ideal) c i arg1 harg1 arg2 harg2 arg3 harg3 arg4 harg4 arg5 harg5 arg6 harg6 arg7 harg7 arg8 harg8 hc0 x0 x1 x2 x3 x4
      = dsBlk (fun k r => x0 (ix2 k r) * x1 (ix2 0 k)) x2 x4 := by
  unfold out0_A_6
  rw [View.read_writes_eq_canon _ _ _ (cover0_A_6 c i arg1 harg1 arg2 harg2 arg3 harg3 arg4 harg4 arg5 harg5 arg6 harg6 arg7 harg7 arg8 harg8 hc0 x0 x1 x2 x3 x4)]
  unfold kernelRun0_A
  dsimp only
  sl_unfold_words
  simp only [View.readAt_eq_ld, harg2.read_unread, harg1.read_unread, harg3.read_unread, harg4.read_unread,
    harg5.read_unread, harg8.read_unread]
  rw [View.canon_cons_unit_zero (S := S1x1x256) hz3]
  rw [View.ld_unit_zero (S := S1x1152) hz _ x1, View.readCov_unit_zero (S := S1152x128) _ hz]
  refine (show _ = total (tower (dyv (k0_pay3 x1) x0) x2 x4) from rfl).trans ?_
  rw [total_tower]
  refine congrArg (fun D => dsBlk D x2 x4) (funext fun k => funext fun r => ?_)
  rw [mat, dy_apply]
  exact congrArg (x0 (ix2 k r) * ·) (scale_apply x1 k (lane r))

/-- The second result's block at a later grid point, which reads the scale scratch. -/
theorem out_B_6 (c : Dev nD) (i : grid0.Coords) (arg1 : Memref sig .tc .vmem S1152x256 .fp8e5m2) (harg1 : arg1.IsWhole) (arg2 : Memref sig .tc .vmem S1x1152 .f32) (harg2 : arg2.IsWhole) (arg3 : Memref sig .tc .vmem S8x1152x512 .bf16) (harg3 : arg3.IsWhole) (arg4 : Memref sig .tc .vmem S1x1x256 .f32) (harg4 : arg4.IsWhole) (arg5 : Memref sig .tc .vmem S4x32x4x8x128 .i32) (harg5 : arg5.IsWhole) (arg6 : Memref sig .tc .vmem S8x32x4x8x128 .f32) (harg6 : arg6.IsWhole) (arg7 : Memref sig .tc .vmem S1x1x256 .f32) (harg7 : arg7.IsWhole) (arg8 : Memref sig .tc .vmem S1152x128 .bf16) (harg8 : arg8.IsWhole)
    (hc0 : ¬cond0_0 i)
    (x0 : Vec Ideal S1152x256 .fp8e5m2) (x1 : Vec Ideal S1x1152 .f32) (x2 : Vec Ideal S8x1152x512 .bf16) (x3 : Vec Ideal S1x1x256 .f32) (x4 : Vec Ideal S4x32x4x8x128 .i32) (xs0 : Vec Ideal S1152x128 .bf16) :
    out0_B_6 (F := Ideal) c i arg1 harg1 arg2 harg2 arg3 harg3 arg4 harg4 arg5 harg5 arg6 harg6 arg7 harg7 arg8 harg8 hc0 x0 x1 x2 x3 x4 xs0
      = dsBlk (fun k r => x0 (ix2 k r) * xs0 (ix2 k (lane r))) x2 x4 := by
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 x4 xs0)]
  unfold kernelRun0_B
  dsimp only
  sl_unfold_words
  simp only [View.readAt_eq_ld, harg1.read_unread, harg3.read_unread, harg4.read_unread,
    harg5.read_unread, harg8.read_unread]
  rw [View.canon_cons_unit_zero (S := S1x1x256) hz3]
  rw [View.ld_unit_zero (S := S1152x128) hz _ xs0]
  refine (show _ = total (tower (dyv xs0 x0) x2 x4) from rfl).trans ?_
  rw [total_tower]
  refine congrArg (fun D => dsBlk D x2 x4) (funext fun k => funext fun r => ?_)
  rw [mat, dy_apply]

/-- The scratch after the first grid point: each token's scale on every lane. -/
theorem sout_A (c : Dev nD) (i : grid0.Coords) (arg1 : Memref sig .tc .vmem S1152x256 .fp8e5m2) (harg1 : arg1.IsWhole) (arg2 : Memref sig .tc .vmem S1x1152 .f32) (harg2 : arg2.IsWhole) (arg3 : Memref sig .tc .vmem S8x1152x512 .bf16) (harg3 : arg3.IsWhole) (arg4 : Memref sig .tc .vmem S1x1x256 .f32) (harg4 : arg4.IsWhole) (arg5 : Memref sig .tc .vmem S4x32x4x8x128 .i32) (harg5 : arg5.IsWhole) (arg6 : Memref sig .tc .vmem S8x32x4x8x128 .f32) (harg6 : arg6.IsWhole) (arg7 : Memref sig .tc .vmem S1x1x256 .f32) (harg7 : arg7.IsWhole) (arg8 : Memref sig .tc .vmem S1152x128 .bf16) (harg8 : arg8.IsWhole)
    (hc0 : cond0_0 i) (x0 : Vec Ideal S1152x256 .fp8e5m2) (x1 : Vec Ideal S1x1152 .f32) (x2 : Vec Ideal S8x1152x512 .bf16) (x3 : Vec Ideal S1x1x256 .f32) (x4 : Vec Ideal S4x32x4x8x128 .i32) (k : Fin 1152) (l : Fin 128) :
    sout0_A_0 (F := Ideal) c i arg1 harg1 arg2 harg2 arg3 harg3 arg4 harg4 arg5 harg5 arg6 harg6 arg7 harg7 arg8 harg8 hc0 x0 x1 x2 x3 x4 (ix2 k l) = x1 (ix2 0 k) := by
  unfold sout0_A_0
  rw [View.read_writes_eq_canon _ _ _ (fun y => View.cover_of_tiledL _ ![1152, 128] (by sl_kernel_rfl) y)]
  unfold kernelRun0_A
  dsimp only
  sl_unfold_words
  simp only [View.readAt_eq_ld, harg2.read_unread]
  rw [View.ld_unit_zero (S := S1x1152) hz _ x1, View.canon_cons_unit_zero (S := S1152x128) hz]
  exact scale_apply x1 k l

/-- A later grid point leaves the scratch as it was. -/
theorem sout_B (c : Dev nD) (i : grid0.Coords) (arg1 : Memref sig .tc .vmem S1152x256 .fp8e5m2) (harg1 : arg1.IsWhole) (arg2 : Memref sig .tc .vmem S1x1152 .f32) (harg2 : arg2.IsWhole) (arg3 : Memref sig .tc .vmem S8x1152x512 .bf16) (harg3 : arg3.IsWhole) (arg4 : Memref sig .tc .vmem S1x1x256 .f32) (harg4 : arg4.IsWhole) (arg5 : Memref sig .tc .vmem S4x32x4x8x128 .i32) (harg5 : arg5.IsWhole) (arg6 : Memref sig .tc .vmem S8x32x4x8x128 .f32) (harg6 : arg6.IsWhole) (arg7 : Memref sig .tc .vmem S1x1x256 .f32) (harg7 : arg7.IsWhole) (arg8 : Memref sig .tc .vmem S1152x128 .bf16) (harg8 : arg8.IsWhole)
    (hc0 : ¬cond0_0 i) (x0 : Vec Ideal S1152x256 .fp8e5m2) (x1 : Vec Ideal S1x1152 .f32) (x2 : Vec Ideal S8x1152x512 .bf16) (x3 : Vec Ideal S1x1x256 .f32) (x4 : Vec Ideal S4x32x4x8x128 .i32) (xs0 : Vec Ideal S1152x128 .bf16) :
    sout0_B_0 (F := Ideal) c i arg1 harg1 arg2 harg2 arg3 harg3 arg4 harg4 arg5 harg5 arg6 harg6 arg7 harg7 arg8 harg8 hc0 x0 x1 x2 x3 x4 xs0 = xs0 := rfl

end Cert.KernelAIdeal.Point
end
-- ==== Proof.ArrayA.lean ====
/-
  What the two result arrays of the weight-gradient call hold after the run, entry by entry, as functions of the arguments.
-/
module

public import proofs.«01_k».proof.Proof.PointA
public import Idealize.ShloMosaic.Lib.StableHlo.ReadAt

@[expose] public section

set_option maxRecDepth 16384

noncomputable section

namespace Cert.KernelAIdeal.Array

open Cert.KernelAIdeal Cert.KernelAIdeal.Gen Cert.KernelAIdeal.Value Cert.KernelAIdeal.Point Cert.Block Cert.Half Idealize.ShloMosaic Idealize.ShloMosaic.TcCoe Idealize.SL.Sem

variable (m : (ℓ : Loc nD τ sig) → Buf (Elt Ideal) ℓ)

/-- The codes of the output gradient. -/
abbrev codes (c : Dev nD) : FVec Ideal S3x384x14336 .fp8e5m2 := m ((c : Thread nD τ).loc main_arg0)
/-- The scales of the tokens. -/
abbrev scales (c : Dev nD) : FVec Ideal S3x384 .f32 := m ((c : Thread nD τ).loc main_arg1)
/-- The features, plane by plane. -/
abbrev feats (c : Dev nD) : FVec Ideal S8x1152x512 .bf16 := m ((c : Thread nD τ).loc main_arg2)
/-- The scales of the rows. -/
abbrev rowScales (c : Dev nD) : FVec Ideal S14336 .f32 := m ((c : Thread nD τ).loc main_arg3)
/-- The decoded weights, two to a word. -/
abbrev wordsOf (c : Dev nD) : IVec S4x768x4x8x128 32 := m ((c : Thread nD τ).loc main_arg4)

/-- The codes as the call reads them: one row per token. -/
theorem V_codes (c : Dev nD) (k : Fin 1152) (o : Fin 14336) :
    V m c main_v0 (ix2 k o) = codes m c (ix3 ⟨k.val / 384, by omega⟩ ⟨k.val % 384, by omega⟩ o) := by
  unfold V
  after_reads_at
/-- The token scales as the call reads them. -/
theorem V_scales (c : Dev nD) (k : Fin 1152) :
    V m c main_v1 (ix2 0 k) = scales m c (ix2 ⟨k.val / 384, by omega⟩ ⟨k.val % 384, by omega⟩) := by
  unfold V
  after_reads_at
/-- The row scales as the call reads them: 256 to a block. -/
theorem V_rs (c : Dev nD) (b : Fin 56) (r : Fin 256) :
    V m c main_v2 (ix3 b 0 r) = rowScales m c (ix1 ⟨b.val * 256 + r.val, by omega⟩) := by
  unfold V
  after_reads_at

/-- Which block of the codes a grid point reads. -/
theorem idx0 : ∀ t : Fin cfg0.N, win0_0.index t 0 = 0 ∧ win0_0.index t 1 = t.val + 0 :=
  (by decide +kernel : ∀ t : Fin grid0.N, win0_0.index t 0 = 0 ∧ win0_0.index t 1 = t.val + 0)
/-- Which block of the token scales a grid point reads. -/
theorem idx1 : ∀ t : Fin cfg0.N, win0_1.index t 0 = 0 ∧ win0_1.index t 1 = 0 :=
  (by decide +kernel : ∀ t : Fin grid0.N, win0_1.index t 0 = 0 ∧ win0_1.index t 1 = 0)
/-- Which block of the features a grid point reads. -/
theorem idx2 : ∀ t : Fin cfg0.N, win0_2.index t 0 = 0 ∧ win0_2.index t 1 = 0 ∧ win0_2.index t 2 = 0 :=
  (by decide +kernel : ∀ t : Fin grid0.N, win0_2.index t 0 = 0 ∧ win0_2.index t 1 = 0 ∧ win0_2.index t 2 = 0)
/-- Which block of the row scales a grid point reads. -/
theorem idx3 : ∀ t : Fin cfg0.N, win0_3.index t 0 = t.val + 0 ∧ win0_3.index t 1 = 0 ∧ win0_3.index t 2 = 0 :=
  (by decide +kernel : ∀ t : Fin grid0.N, win0_3.index t 0 = t.val + 0 ∧ win0_3.index t 1 = 0 ∧ win0_3.index t 2 = 0)
/-- Which block of the words a grid point reads. -/
theorem idx4 : ∀ t : Fin cfg0.N, win0_4.index t 0 = 0 ∧ win0_4.index t 1 = t.val + 0 ∧ win0_4.index t 2 = 0
    ∧ win0_4.index t 3 = 0 ∧ win0_4.index t 4 = 0 :=
  (by decide +kernel : ∀ t : Fin grid0.N, win0_4.index t 0 = 0 ∧ win0_4.index t 1 = t.val + 0 ∧ win0_4.index t 2 = 0
    ∧ win0_4.index t 3 = 0 ∧ win0_4.index t 4 = 0)

/-- The grid's length. -/
theorem lt_N (t : Fin cfg0.N) : t.val < 8 := lt_of_lt_of_eq t.isLt N_0

/-- The block of codes a grid point reads. -/
theorem blk0 (c : Dev nD) (t : Fin cfg0.N) (k : Fin 1152) (r : Fin 256) :
    (iblk m c 0 t : Vec Ideal S1152x256 .fp8e5m2) (ix2 k r)
      = codes m c (ix3 ⟨k.val / 384, by omega⟩ ⟨k.val % 384, by omega⟩ ⟨0 + t.val * 256 + r.val, by have := lt_N t; omega⟩) := by
  refine Eq.trans ?_ (V_codes m c k _)
  unfold iblk
  rw [View.read_apply]
  show V m c main_v0 _ = V m c main_v0 _
  congr 1
  funext a
  apply Fin.ext
  match a with
  | ⟨0, _⟩ => show win0_0.index t 0 * 1152 + 1 * k.val = k.val; rw [(idx0 t).1]; omega
  | ⟨1, _⟩ => show win0_0.index t 1 * 256 + 1 * r.val = 0 + t.val * 256 + r.val; rw [(idx0 t).2]; omega

/-- The block of scales a grid point reads: all of them. -/
theorem blk1 (c : Dev nD) (t : Fin cfg0.N) (k : Fin 1152) :
    (iblk m c 1 t : Vec Ideal S1x1152 .f32) (ix2 0 k) = scales m c (ix2 ⟨k.val / 384, by omega⟩ ⟨k.val % 384, by omega⟩) := by
  refine Eq.trans ?_ (V_scales m c k)
  unfold iblk
  rw [View.read_apply]
  show V m c main_v1 _ = V m c main_v1 _
  congr 1
  funext a
  apply Fin.ext
  match a with
  | ⟨0, _⟩ => show win0_1.index t 0 * 1 + 1 * 0 = 0; rw [(idx1 t).1]
  | ⟨1, _⟩ => show win0_1.index t 1 * 1152 + 1 * k.val = k.val; rw [(idx1 t).2]; omega

/-- The features a grid point reads: all of them. -/
theorem blk2 (c : Dev nD) (t : Fin cfg0.N) (j : Fin 8) (k : Fin 1152) (g : Fin 512) :
    (iblk m c 2 t : Vec Ideal S8x1152x512 .bf16) (ix3 j k g) = feats m c (ix3 j k g) := by
  unfold iblk
  rw [View.read_apply]
  show V m c main_arg2 _ = m (c.tc.loc main_arg2) _
  rw [V_main_arg2]
  congr 1
  funext a
  apply Fin.ext
  match a with
  | ⟨0, _⟩ => show win0_2.index t 0 * 8 + 1 * j.val = j.val; rw [(idx2 t).1]; omega
  | ⟨1, _⟩ => show win0_2.index t 1 * 1152 + 1 * k.val = k.val; rw [(idx2 t).2.1]; omega
  | ⟨2, _⟩ => show win0_2.index t 2 * 512 + 1 * g.val = g.val; rw [(idx2 t).2.2]; omega

/-- The row scales a grid point reads. -/
theorem blk3 (c : Dev nD) (t : Fin cfg0.N) (r : Fin 256) :
    (iblk m c 3 t : Vec Ideal S1x1x256 .f32) (ix3 0 0 r)
      = rowScales m c (ix1 ⟨0 + t.val * 256 + r.val, by have := lt_N t; omega⟩) := by
  have e := V_rs m c ⟨t.val + 0, by have := lt_N t; omega⟩ r
  rw [show (⟨(⟨t.val + 0, by have := lt_N t; omega⟩ : Fin 56).val * 256 + r.val, by have := lt_N t; dsimp only; omega⟩ : Fin 14336)
    = ⟨0 + t.val * 256 + r.val, by have := lt_N t; omega⟩ from Fin.ext (by dsimp only; omega)] at e
  refine Eq.trans ?_ e
  unfold iblk
  rw [View.read_apply]
  show V m c main_v2 _ = V m c main_v2 _
  congr 1
  funext a
  apply Fin.ext
  match a with
  | ⟨0, _⟩ => show win0_3.index t 0 * 1 + 1 * 0 = t.val + 0; rw [(idx3 t).1]; omega
  | ⟨1, _⟩ => show win0_3.index t 1 * 1 + 1 * 0 = 0; rw [(idx3 t).2.1]
  | ⟨2, _⟩ => show win0_3.index t 2 * 256 + 1 * r.val = r.val; rw [(idx3 t).2.2]; omega

/-- The words a grid point reads. -/
theorem blk4 (c : Dev nD) (t : Fin cfg0.N) (p : Fin 4) (a : Fin 32) (g : Fin 4) (b : Fin 8) (l : Fin 128) :
    (iblk m c 4 t : Vec Ideal S4x32x4x8x128 .i32) (ix5 p a g b l)
      = wordsOf m c (ix5 p ⟨0 + t.val * 32 + a.val, by have := lt_N t; omega⟩ g b l) := by
  unfold iblk
  rw [View.read_apply]
  show V m c main_arg4 _ = m (c.tc.loc main_arg4) _
  rw [V_main_arg4]
  congr 1
  funext i
  apply Fin.ext
  match i with
  | ⟨0, _⟩ => show win0_4.index t 0 * 4 + 1 * p.val = p.val; rw [(idx4 t).1]; omega
  | ⟨1, _⟩ => show win0_4.index t 1 * 32 + 1 * a.val = 0 + t.val * 32 + a.val; rw [(idx4 t).2.1]; omega
  | ⟨2, _⟩ => show win0_4.index t 2 * 4 + 1 * g.val = g.val; rw [(idx4 t).2.2.1]; omega
  | ⟨3, _⟩ => show win0_4.index t 3 * 8 + 1 * b.val = b.val; rw [(idx4 t).2.2.2.1]; omega
  | ⟨4, _⟩ => show win0_4.index t 4 * 128 + 1 * l.val = l.val; rw [(idx4 t).2.2.2.2]; omega

/-- The scale of a token. -/
abbrev scale (c : Dev nD) (k : Fin 1152) : EReal := scales m c (ix2 ⟨k.val / 384, by omega⟩ ⟨k.val % 384, by omega⟩)

/-- After every grid point the scratch holds each token's scale on every lane. -/
theorem scratch (c : Dev nD) : ∀ (n : ℕ) (hn : n < cfg0.N) (k : Fin 1152) (l : Fin 128),
    (outsAt0 m c n hn).2.2 (ix2 k l) = scale m c k
  | 0, hn, k, l => by
    have e := outsAt0_A m c ⟨0, hn⟩ (Nat.zero_mod _)
    dsimp only at e
    rw [e]
    dsimp only
    rw [sout_A, blk1]
  | n + 1, hn, k, l => by
    have hN : cfg0.N = 8 := N_0
    have e := outsAt0_B m c ⟨n + 1, hn⟩ (by dsimp only; omega)
    dsimp only at e
    rw [e]
    dsimp only
    rw [sout_B]
    exact scratch c n _ k l

/-- The scaled gradient of a block. -/
abbrev dyB (c : Dev nD) (t : Fin cfg0.N) (k : Fin 1152) (r : Fin 256) : EReal :=
  codes m c (ix3 ⟨k.val / 384, by omega⟩ ⟨k.val % 384, by omega⟩ ⟨0 + t.val * 256 + r.val, by have := lt_N t; omega⟩) * scale m c k

/-- What a grid point leaves for the first result. -/
theorem outs5 (c : Dev nD) (t : Fin cfg0.N) :
    (outsAt0 m c t.val t.isLt).1 = wBlk (dyB m c t) (iblk m c 2 t) (iblk m c 3 t) := by
  by_cases h : t.val % 8 = 0
  · rw [outsAt0_A m c t h]
    dsimp only
    rw [out_A_5]
    refine congrArg (fun D => wBlk D _ _) (funext fun k => funext fun r => ?_)
    rw [blk0, blk1]
  · rw [outsAt0_B m c t h]
    dsimp only
    rw [out_B_5]
    refine congrArg (fun D => wBlk D _ _) (funext fun k => funext fun r => ?_)
    rw [blk0, scratch]

/-- What a grid point leaves for the second result. -/
theorem outs6 (c : Dev nD) (t : Fin cfg0.N) :
    (outsAt0 m c t.val t.isLt).2.1 = dsBlk (dyB m c t) (iblk m c 2 t) (iblk m c 4 t) := by
  by_cases h : t.val % 8 = 0
  · rw [outsAt0_A m c t h]
    dsimp only
    rw [out_A_6]
    refine congrArg (fun D => dsBlk D _ _) (funext fun k => funext fun r => ?_)
    rw [blk0, blk1]
  · rw [outsAt0_B m c t h]
    dsimp only
    rw [out_B_6]
    refine congrArg (fun D => dsBlk D _ _) (funext fun k => funext fun r => ?_)
    rw [blk0, scratch]

/-- The weight gradient of output feature `o`, plane `j`, group `g`: the tokens' scaled gradients times the features. -/
def grad (c : Dev nD) (j : Fin 8) (o : Fin 14336) (g : Fin 512) : EReal :=
  ∑ k : Fin 1152, codes m c (ix3 ⟨k.val / 384, by omega⟩ ⟨k.val % 384, by omega⟩ o) * scale m c k * feats m c (ix3 j k g)

/-- A block's rows are rows of the array. -/
theorem o_lt (t : Fin cfg0.N) (r : Fin 256) : 0 + t.val * 256 + r.val < 14336 := by have := lt_N t; omega

/-- A block's weight gradient is the array's. -/
theorem dw_eq (c : Dev nD) (t : Fin cfg0.N) (j : Fin 8) (r : Fin 256) (g : Fin 512) (o : Fin 14336)
    (ho : 0 + t.val * 256 + r.val = o.val) : dw (dyB m c t) (iblk m c 2 t) j r g = grad m c j o g := by
  obtain rfl : (⟨0 + t.val * 256 + r.val, o_lt t r⟩ : Fin 14336) = o := Fin.ext ho
  exact Finset.sum_congr rfl fun k _ => by rw [blk2]

/-- A block's row scale is the array's. -/
theorem rs_eq (c : Dev nD) (t : Fin cfg0.N) (r : Fin 256) (o : Fin 14336)
    (ho : 0 + t.val * 256 + r.val = o.val) :
    (iblk m c 3 t : Vec Ideal S1x1x256 .f32) (ix3 0 0 r) = rowScales m c (ix1 o) := by
  obtain rfl : (⟨0 + t.val * 256 + r.val, o_lt t r⟩ : Fin 14336) = o := Fin.ext ho
  exact blk3 m c t r

/-- A block's decoded weights are the array's. -/
theorem dec_eq (c : Dev nD) (t : Fin cfg0.N) (j : Fin 8) (r : Fin 256) (g : Fin 512) (n : ℕ) (hn : n < 6144)
    (ho : 0 + t.val * 256 + r.val = n) :
    dec (iblk m c 4 t) j r g = half (j.val % 2) (wordsOf m c (ix5 ⟨j.val / 2, by omega⟩ ⟨n / 8, by omega⟩
      ⟨g.val / 128, by omega⟩ ⟨n % 8, by omega⟩ ⟨g.val % 128, by omega⟩)) := by
  unfold dec
  rw [blk4]
  refine congrArg (half _) (congrArg (wordsOf m c) ?_)
  rw [show (⟨0 + t.val * 32 + r.val / 8, by have := lt_N t; omega⟩ : Fin 768) = ⟨n / 8, by omega⟩ from Fin.ext (by dsimp only; omega),
    show (⟨r.val % 8, by omega⟩ : Fin 8) = ⟨n % 8, by omega⟩ from Fin.ext (by dsimp only; omega)]

/-- The first result, entry by entry. -/
theorem G5_apply (c : Dev nD) (j : Fin 8) (a : Fin 256) (t : Fin 4) (b : Fin 8) (l : Fin 128) :
    (G5 m c : Vec Ideal S8x256x4x8x128 .f32) (ix5 j a t b l)
      = grad m c j ⟨0 + (a.val * 8 + b.val), by omega⟩ (col t l) * rowScales m c (ix1 ⟨0 + (a.val * 8 + b.val), by omega⟩) := by
  have hN : cfg0.N = 8 := N_0
  have hp : pt5Of (ix5 j a t b l) = a.val / 32 := by
    show 8 * (j.val / 8 - 0) + 1 * (a.val / 32 - 0) + 1 * (t.val / 4 - 0) + 1 * (b.val / 8 - 0) + 1 * (l.val / 128 - 0) = _
    omega
  have hl : loc5Of (ix5 j a t b l) = ix5 j ⟨a.val % 32, by omega⟩ t b l := by
    funext i
    apply Fin.ext
    match i with
    | ⟨0, _⟩ => exact Nat.mod_eq_of_lt j.isLt
    | ⟨1, _⟩ => rfl
    | ⟨2, _⟩ => exact Nat.mod_eq_of_lt t.isLt
    | ⟨3, _⟩ => exact Nat.mod_eq_of_lt b.isLt
    | ⟨4, _⟩ => exact Nat.mod_eq_of_lt l.isLt
  have hlt : a.val / 32 < cfg0.N := by omega
  unfold G5
  simp only [hp, hl, hlt, dif_pos]
  rw [← outsAt0_sweep m c _ hlt, outs5 m c ⟨a.val / 32, hlt⟩]
  rw [wBlk_apply, dw_eq m c _ j _ _ ⟨0 + (a.val * 8 + b.val), by omega⟩ (by dsimp only; omega),
    rs_eq m c _ _ ⟨0 + (a.val * 8 + b.val), by omega⟩ (by dsimp only; omega)]

/-- The second result, entry by entry. -/
theorem G6_apply (c : Dev nD) (a : Fin 8) (r : Fin 256) :
    (G6 m c : Vec Ideal S8x1x256 .f32) (ix3 a 0 r)
      = ∑ j : Fin 8, ∑ g : Fin 512, grad m c j ⟨0 + (a.val * 256 + r.val), by omega⟩ g
          * half (j.val % 2) (wordsOf m c (ix5 ⟨j.val / 2, by omega⟩ ⟨(0 + (a.val * 256 + r.val)) / 8, by omega⟩
              ⟨g.val / 128, by omega⟩ ⟨(0 + (a.val * 256 + r.val)) % 8, by omega⟩ ⟨g.val % 128, by omega⟩)) := by
  have hN : cfg0.N = 8 := N_0
  have hp : pt6Of (ix3 a 0 r) = a.val := by
    show 1 * (a.val / 1 - 0) + 1 * (0 / 1 - 0) + 1 * (r.val / 256 - 0) = _
    omega
  have hl : loc6Of (ix3 a 0 r) = ix3 0 0 r := by
    funext i
    apply Fin.ext
    match i with
    | ⟨0, _⟩ => exact Nat.mod_one _
    | ⟨1, _⟩ => rfl
    | ⟨2, _⟩ => exact Nat.mod_eq_of_lt r.isLt
  have hlt : a.val < cfg0.N := by omega
  unfold G6
  simp only [hp, hl, hlt, dif_pos]
  rw [← outsAt0_sweep m c _ hlt, outs6 m c ⟨a.val, hlt⟩]
  refine (dsBlk_apply _ _ _ r).trans ?_
  refine Finset.sum_congr rfl fun j _ => Finset.sum_congr rfl fun g _ => ?_
  rw [dw_eq m c _ j _ _ ⟨0 + (a.val * 256 + r.val), by omega⟩ (by dsimp only; omega),
    dec_eq m c _ j _ _ (0 + (a.val * 256 + r.val)) (by omega) (by dsimp only; omega)]

end Cert.KernelAIdeal.Array
end
-- ==== Proof.RefA.lean ====
/-
  What the reference's two results hold after its run, entry by entry, as functions of the arguments.
-/
module

public import proofs.«01_k».proof.Proof.Gen.ReferenceAIdeal.Frame
public import proofs.«01_k».proof.Proof.Half
public import Idealize.ShloMosaic.Lib.Pointwise
public import Idealize.ShloMosaic.Lib.Claim
public import Idealize.ShloMosaic.Lib.StableHlo.ReadAt
public import Idealize.ShloMosaic.Lib.Pipeline.ValueKit.Geometry

@[expose] public section

set_option maxRecDepth 16384

noncomputable section

namespace Cert.ReferenceAIdeal.Plain

open Cert.ReferenceAIdeal Cert.ReferenceAIdeal.Gen Cert.Half Idealize.ShloMosaic Idealize.ShloMosaic.TcCoe Idealize.SL.Sem

/-- No offset. -/
theorem hz : (![0, 0] : Fin 2 → Nat) = fun _ => 0 := funext fun a => by fin_cases a <;> rfl

/-- No offset. -/
theorem hz3 : (![0, 0, 0] : Fin 3 → Nat) = fun _ => 0 := funext fun a => by fin_cases a <;> rfl

/-- The weight gradient as the reference writes it. -/
def dw (x0 : Vec Ideal S1152x2048 .fp8e5m2) (x1 : Vec Ideal S1152x1 .f32) (x2 : Vec Ideal S8x1152x512 .bf16)
    (j : Fin 8) (o : Fin 2048) (g : Fin 512) : EReal :=
  ∑ k : Fin 1152, x0 (ix2 k o) * x1 (ix2 k 0) * x2 (ix3 j k g)

/-- The matrix product, entry by entry. -/
theorem pay1_apply (x0 : Vec Ideal S1152x2048 .fp8e5m2) (x1 : Vec Ideal S1152x1 .f32) (x2 : Vec Ideal S8x1152x512 .bf16)
    (j : Fin 8) (o : Fin 2048) (g : Fin 512) :
    k0_pay1 (F := Ideal) x0 x1 x2 (ix3 j o g) = dw x0 x1 x2 j o g := by
  unfold k0_pay1 dw
  pointwise

/-- The first result of the call, entry by entry. -/
theorem out5_apply (x0 : Vec Ideal S1152x2048 .fp8e5m2) (x1 : Vec Ideal S1152x1 .f32) (x2 : Vec Ideal S8x1152x512 .bf16)
    (x3 : Vec Ideal S1x2048x1 .f32) (x4 : Vec Ideal S8x2048x512 .bf16) (j : Fin 8) (o : Fin 2048) (g : Fin 512) :
    out0_5 (F := Ideal) x0 x1 x2 x3 x4 (ix3 j o g) = x3 (ix3 0 o 0) * dw x0 x1 x2 j o g := by
  unfold out0_5
  rw [View.canon_cons_unit_zero (S := S8x2048x512) hz3, View.ld_unit_zero (S := S1152x2048) hz _ x0,
    View.ld_unit_zero (S := S1152x1) hz _ x1, View.ld_unit_zero (S := S8x1152x512) hz3 _ x2,
    View.ld_unit_zero (S := S1x2048x1) hz3 _ x3]
  unfold k0_pay2
  rw [← pay1_apply]
  pointwise

/-- The entries that a sum over the first and the last axis adds up. -/
theorem fiber (h : S8x2048x512.Reduces [0, 2] S2048) (o : Fin 2048) (i : S8x2048x512.Idx) :
    h.drop i = ix1 o ↔ ∃ k : Fin 8 × Fin 512, ix3 k.1 o k.2 = i := by
  constructor
  · intro e
    refine ⟨(i 0, i 2), ?_⟩
    funext a
    apply Fin.ext
    match a with
    | ⟨0, _⟩ => rfl
    | ⟨1, _⟩ => exact (congrArg Fin.val (congrFun e 0)).symm
    | ⟨2, _⟩ => rfl
  · rintro ⟨k, rfl⟩
    funext b
    apply Fin.ext
    match b with
    | ⟨0, _⟩ => rfl

/-- A sum over the first and the last axis, one axis after the other. -/
theorem reduce_apply (h : S8x2048x512.Reduces [0, 2] S2048) (v : S8x2048x512.Idx → EReal) (o : Fin 2048) :
    Ideal.reduceAdd h v (ix1 o) = ∑ j : Fin 8, ∑ g : Fin 512, v (ix3 j o g) := by
  refine (Finset.sum_filter_eq_sum_of_fiber _ (fun k : Fin 8 × Fin 512 => ix3 k.1 o k.2)
    (fun _ _ e => Prod.ext (congrFun e 0) (congrFun e 2)) (fiber h o) v).trans ?_
  exact Fintype.sum_prod_type _

/-- The second result of the call, entry by entry. -/
theorem out6_apply (x0 : Vec Ideal S1152x2048 .fp8e5m2) (x1 : Vec Ideal S1152x1 .f32) (x2 : Vec Ideal S8x1152x512 .bf16)
    (x3 : Vec Ideal S1x2048x1 .f32) (x4 : Vec Ideal S8x2048x512 .bf16) (o : Fin 2048) :
    out0_6 (F := Ideal) x0 x1 x2 x3 x4 (ix2 0 o) = ∑ j : Fin 8, ∑ g : Fin 512, dw x0 x1 x2 j o g * x4 (ix3 j o g) := by
  unfold out0_6
  rw [View.canon_cons_unit_zero (S := S1x2048) hz, View.ld_unit_zero (S := S1152x2048) hz _ x0,
    View.ld_unit_zero (S := S1152x1) hz _ x1, View.ld_unit_zero (S := S8x1152x512) hz3 _ x2,
    View.ld_unit_zero (S := S8x2048x512) hz3 _ x4]
  unfold k0_pay3
  simp only [← pay1_apply]
  pointwise
  rw [reduce_apply]
  pointwise

variable (m : (ℓ : Loc nD τ sig) → Buf (Elt Ideal) ℓ) (ρ : Dev nD → PrngReg)

/-- The codes of one token, of one row. -/
theorem V_codes (c : Dev nD) (k : Fin 1152) (o : Fin 2048) :
    (V m c main_v1 : Vec Ideal S1152x2048 .fp8e5m2) (ix2 k o)
      = (m ((c : Thread nD τ).loc main_arg0) : Vec Ideal S3x384x14336 .fp8e5m2) (ix3 ⟨k.val / 384, by omega⟩ ⟨k.val % 384, by omega⟩ ⟨0 + o.val, by omega⟩) := by
  unfold V
  after_reads_at

/-- The scale of one token. -/
theorem V_scales (c : Dev nD) (k : Fin 1152) :
    (V m c main_v2 : Vec Ideal S1152x1 .f32) (ix2 k 0)
      = (m ((c : Thread nD τ).loc main_arg1) : Vec Ideal S3x384 .f32) (ix2 ⟨k.val / 384, by omega⟩ ⟨k.val % 384, by omega⟩) := by
  unfold V
  after_reads_at

/-- The scale of one row. -/
theorem V_rs (c : Dev nD) (o : Fin 2048) :
    (V m c main_v4 : Vec Ideal S1x2048x1 .f32) (ix3 0 o 0)
      = (m ((c : Thread nD τ).loc main_arg3) : Vec Ideal S14336 .f32) (ix1 ⟨0 + o.val, by omega⟩) := by
  unfold V
  after_reads_at

/-- A half of a word, its place written the other way round. -/
theorem half_eq (p : ℕ) (w : BitVec 32) : half p w = Ideal.ofBits .bf16 (w.extractLsb' (p * 16) 16) := by
  rw [half, Nat.mul_comm]

/-- The decoded weight of plane `j`, of one row, of one group. -/
theorem V_dec (c : Dev nD) (j : Fin 8) (o : Fin 2048) (g : Fin 512) :
    (V m c main_v10 : Vec Ideal S8x2048x512 .bf16) (ix3 j o g)
      = half (j.val % 2) ((m ((c : Thread nD τ).loc main_arg4) : Vec Ideal S4x768x4x8x128 .i32)
          (ix5 ⟨j.val / 2, by omega⟩ ⟨(0 + o.val) / 8, by omega⟩ ⟨g.val / 128, by omega⟩ ⟨(0 + o.val) % 8, by omega⟩ ⟨g.val % 128, by omega⟩)) := by
  rw [half_eq]
  unfold V
  after_reads_at

/-- Every input window's one block is at index zero. -/
theorem idx0 : ∀ a, (cfg0.win 0).index t0_0 a = 0 := by decide +kernel

/-- An entry of the one block of input 0 is the same entry of its array. -/
theorem emb0 (y : S1152x2048.Idx) : ((cfg0.win 0).blk t0_0).view.emb y = y := by
  funext a
  apply Fin.ext
  refine Pipeline.Window.rect_emb_val_of_index_zero (cfg0.win 0) t0_0 a ?_ y
  exact idx0 a

/-- The one block of input 0 is its array, the array named by its window. -/
theorem whole0 (c : Dev nD) : (iblk m c 0 t0_0 : Vec Ideal S1152x2048 .fp8e5m2) = V m c (Pipeline.arrRef spec0 0) := by
  unfold iblk
  funext y
  rw [View.read_apply, cast_eq]
  exact congrArg (V m c (Pipeline.arrRef spec0 0)) (emb0 y)

/-- The array of input 0 by its name. -/
theorem name0 (c : Dev nD) : (V m c (Pipeline.arrRef spec0 0) : Vec Ideal S1152x2048 .fp8e5m2) = V m c main_v1 := rfl

/-- The one block of input 0 is its array. -/
theorem blk0 (c : Dev nD) : (iblk m c 0 t0_0 : Vec Ideal S1152x2048 .fp8e5m2) = V m c main_v1 :=
  (whole0 m c).trans (name0 m c)

/-- The reference reads the scales whole. -/
theorem idx1 : ∀ a, (cfg0.win 1).index t0_0 a = 0 := by decide +kernel

/-- An entry of the one block of input 1 is the same entry of its array. -/
theorem emb1 (y : S1152x1.Idx) : ((cfg0.win 1).blk t0_0).view.emb y = y := by
  funext a
  apply Fin.ext
  refine Pipeline.Window.rect_emb_val_of_index_zero (cfg0.win 1) t0_0 a ?_ y
  exact idx1 a

/-- The one block of input 1 is its array, the array named by its window. -/
theorem whole1 (c : Dev nD) : (iblk m c 1 t0_0 : Vec Ideal S1152x1 .f32) = V m c (Pipeline.arrRef spec0 1) := by
  unfold iblk
  funext y
  rw [View.read_apply, cast_eq]
  exact congrArg (V m c (Pipeline.arrRef spec0 1)) (emb1 y)

/-- The array of input 1 by its name. -/
theorem name1 (c : Dev nD) : (V m c (Pipeline.arrRef spec0 1) : Vec Ideal S1152x1 .f32) = V m c main_v2 := rfl

/-- The one block of input 1 is its array. -/
theorem blk1 (c : Dev nD) : (iblk m c 1 t0_0 : Vec Ideal S1152x1 .f32) = V m c main_v2 :=
  (whole1 m c).trans (name1 m c)

/-- The reference reads the features whole. -/
theorem idx2 : ∀ a, (cfg0.win 2).index t0_0 a = 0 := by decide +kernel

/-- An entry of the one block of input 2 is the same entry of its array. -/
theorem emb2 (y : S8x1152x512.Idx) : ((cfg0.win 2).blk t0_0).view.emb y = y := by
  funext a
  apply Fin.ext
  refine Pipeline.Window.rect_emb_val_of_index_zero (cfg0.win 2) t0_0 a ?_ y
  exact idx2 a

/-- The one block of input 2 is its array, the array named by its window. -/
theorem whole2 (c : Dev nD) : (iblk m c 2 t0_0 : Vec Ideal S8x1152x512 .bf16) = V m c (Pipeline.arrRef spec0 2) := by
  unfold iblk
  funext y
  rw [View.read_apply, cast_eq]
  exact congrArg (V m c (Pipeline.arrRef spec0 2)) (emb2 y)

/-- The array of input 2 by its name. -/
theorem name2 (c : Dev nD) : (V m c (Pipeline.arrRef spec0 2) : Vec Ideal S8x1152x512 .bf16) = V m c main_arg2 := rfl

/-- The one block of input 2 is its array. -/
theorem blk2 (c : Dev nD) : (iblk m c 2 t0_0 : Vec Ideal S8x1152x512 .bf16) = V m c main_arg2 :=
  (whole2 m c).trans (name2 m c)

/-- The reference reads the row scales whole. -/
theorem idx3 : ∀ a, (cfg0.win 3).index t0_0 a = 0 := by decide +kernel

/-- An entry of the one block of input 3 is the same entry of its array. -/
theorem emb3 (y : S1x2048x1.Idx) : ((cfg0.win 3).blk t0_0).view.emb y = y := by
  funext a
  apply Fin.ext
  refine Pipeline.Window.rect_emb_val_of_index_zero (cfg0.win 3) t0_0 a ?_ y
  exact idx3 a

/-- The one block of input 3 is its array, the array named by its window. -/
theorem whole3 (c : Dev nD) : (iblk m c 3 t0_0 : Vec Ideal S1x2048x1 .f32) = V m c (Pipeline.arrRef spec0 3) := by
  unfold iblk
  funext y
  rw [View.read_apply, cast_eq]
  exact congrArg (V m c (Pipeline.arrRef spec0 3)) (emb3 y)

/-- The array of input 3 by its name. -/
theorem name3 (c : Dev nD) : (V m c (Pipeline.arrRef spec0 3) : Vec Ideal S1x2048x1 .f32) = V m c main_v4 := rfl

/-- The one block of input 3 is its array. -/
theorem blk3 (c : Dev nD) : (iblk m c 3 t0_0 : Vec Ideal S1x2048x1 .f32) = V m c main_v4 :=
  (whole3 m c).trans (name3 m c)

/-- The reference reads the decoded weights whole. -/
theorem idx4 : ∀ a, (cfg0.win 4).index t0_0 a = 0 := by decide +kernel

/-- An entry of the one block of input 4 is the same entry of its array. -/
theorem emb4 (y : S8x2048x512.Idx) : ((cfg0.win 4).blk t0_0).view.emb y = y := by
  funext a
  apply Fin.ext
  refine Pipeline.Window.rect_emb_val_of_index_zero (cfg0.win 4) t0_0 a ?_ y
  exact idx4 a

/-- The one block of input 4 is its array, the array named by its window. -/
theorem whole4 (c : Dev nD) : (iblk m c 4 t0_0 : Vec Ideal S8x2048x512 .bf16) = V m c (Pipeline.arrRef spec0 4) := by
  unfold iblk
  funext y
  rw [View.read_apply, cast_eq]
  exact congrArg (V m c (Pipeline.arrRef spec0 4)) (emb4 y)

/-- The array of input 4 by its name. -/
theorem name4 (c : Dev nD) : (V m c (Pipeline.arrRef spec0 4) : Vec Ideal S8x2048x512 .bf16) = V m c main_v10 := rfl

/-- The one block of input 4 is its array. -/
theorem blk4 (c : Dev nD) : (iblk m c 4 t0_0 : Vec Ideal S8x2048x512 .bf16) = V m c main_v10 :=
  (whole4 m c).trans (name4 m c)

/-- The array of the first result is the block its one point leaves. -/
theorem arr5 (c : Dev nD) : (dats m 0 c).arrAt 5 cfg0.N = (out0_5 (F := Ideal) (V m c main_v1) (V m c main_v2) (V m c main_arg2) (V m c main_v4) (V m c main_v10) : Vec Ideal S8x2048x512 .f32) := by
  refine (dats m 0 c).arrAt_eq_of_after_last 5 t0_0 (by decide +kernel) _ fun j => ?_
  blk_simp
  rw [after0_5, blk0, blk1, blk2, blk3, blk4]

/-- The array of the second result is the block its one point leaves. -/
theorem arr6 (c : Dev nD) : (dats m 0 c).arrAt 6 cfg0.N = (out0_6 (F := Ideal) (V m c main_v1) (V m c main_v2) (V m c main_arg2) (V m c main_v4) (V m c main_v10) : Vec Ideal S1x2048 .f32) := by
  refine (dats m 0 c).arrAt_eq_of_after_last 6 t0_0 (by decide +kernel) _ fun j => ?_
  blk_simp
  rw [after0_6, blk0, blk1, blk2, blk3, blk4]

/-- The first result as the run ends it. -/
abbrev res0 (c : Dev nD) : Vec Ideal S8x256x4x8x128 .f32 := Pipeline.afterTail₀ cfgs (dats m) 0 (V0 m) [hostOps1] c main_v13

/-- The second result as the run ends it. -/
abbrev res1 (c : Dev nD) : Vec Ideal S8x1x256 .f32 := Pipeline.afterTail₀ cfgs (dats m) 0 (V0 m) [hostOps1] c main_v14

/-- The first result is the call's first output, tiled 8 by 128. -/
theorem res0_apply (c : Dev nD) (j : Fin 8) (a : Fin 256) (t : Fin 4) (b : Fin 8) (l : Fin 128) :
    res0 m c (ix5 j a t b l) = ((dats m 0 c).arrAt 5 cfg0.N : Vec Ideal S8x2048x512 .f32) (ix3 j ⟨a.val * 8 + b.val, by omega⟩ ⟨t.val * 128 + l.val, by omega⟩) := by
  unfold res0 Pipeline.afterTail₀
  after_reads_at
  exact congrFun (Pipeline.withArrays_arr (cfgs 0).spec winFacts0.arr_inj c (V0 m c) (fun w => (dats m 0 c).arrAt w (cfgs 0).N) 5) _

/-- The second result is the call's second output, a row for each 256. -/
theorem res1_apply (c : Dev nD) (a : Fin 8) (r : Fin 256) :
    res1 m c (ix3 a 0 r) = ((dats m 0 c).arrAt 6 cfg0.N : Vec Ideal S1x2048 .f32) (ix2 0 ⟨a.val * 256 + r.val, by omega⟩) := by
  unfold res1 Pipeline.afterTail₀
  after_reads_at
  exact congrFun (Pipeline.withArrays_arr (cfgs 0).spec winFacts0.arr_inj c (V0 m c) (fun w => (dats m 0 c).arrAt w (cfgs 0).N) 6) _

/-- The codes of the output gradient. -/
abbrev codes (c : Dev nD) : FVec Ideal S3x384x14336 .fp8e5m2 := m ((c : Thread nD τ).loc main_arg0)
/-- The scales of the tokens. -/
abbrev scales (c : Dev nD) : FVec Ideal S3x384 .f32 := m ((c : Thread nD τ).loc main_arg1)
/-- The features, plane by plane. -/
abbrev feats (c : Dev nD) : FVec Ideal S8x1152x512 .bf16 := m ((c : Thread nD τ).loc main_arg2)
/-- The scales of the rows. -/
abbrev rowScales (c : Dev nD) : FVec Ideal S14336 .f32 := m ((c : Thread nD τ).loc main_arg3)
/-- The decoded weights, two to a word. -/
abbrev wordsOf (c : Dev nD) : IVec S4x768x4x8x128 32 := m ((c : Thread nD τ).loc main_arg4)

/-- The weight gradient of plane `j`, of one row, of one group, from the arguments. -/
def grad (c : Dev nD) (j : Fin 8) (o : Fin 14336) (g : Fin 512) : EReal :=
  ∑ k : Fin 1152, codes m c (ix3 ⟨k.val / 384, by omega⟩ ⟨k.val % 384, by omega⟩ o)
    * scales m c (ix2 ⟨k.val / 384, by omega⟩ ⟨k.val % 384, by omega⟩) * feats m c (ix3 j k g)

/-- The call's weight gradient is that of the arguments. -/
theorem dw_eq (c : Dev nD) (j : Fin 8) (o : Fin 2048) (g : Fin 512) :
    dw (V m c main_v1) (V m c main_v2) (V m c main_arg2) j o g = grad m c j ⟨0 + o.val, by omega⟩ g := by
  unfold dw grad
  refine Finset.sum_congr rfl fun k _ => ?_
  rw [V_codes, V_scales, V_main_arg2]

/-- The first result, entry by entry, from the arguments. -/
theorem res0_entry (c : Dev nD) (j : Fin 8) (a : Fin 256) (t : Fin 4) (b : Fin 8) (l : Fin 128) :
    res0 m c (ix5 j a t b l)
      = rowScales m c (ix1 ⟨0 + (a.val * 8 + b.val), by omega⟩)
        * grad m c j ⟨0 + (a.val * 8 + b.val), by omega⟩ ⟨t.val * 128 + l.val, by omega⟩ := by
  rw [res0_apply, arr5, out5_apply, V_rs, dw_eq]

/-- The second result, entry by entry, from the arguments. -/
theorem res1_entry (c : Dev nD) (a : Fin 8) (r : Fin 256) :
    res1 m c (ix3 a 0 r)
      = ∑ j : Fin 8, ∑ g : Fin 512, grad m c j ⟨0 + (a.val * 256 + r.val), by omega⟩ g
          * half (j.val % 2) (wordsOf m c (ix5 ⟨j.val / 2, by omega⟩ ⟨(0 + (a.val * 256 + r.val)) / 8, by omega⟩
                ⟨g.val / 128, by omega⟩ ⟨(0 + (a.val * 256 + r.val)) % 8, by omega⟩ ⟨g.val % 128, by omega⟩)) := by
  rw [res1_apply, arr6, out6_apply]
  refine Finset.sum_congr rfl fun j _ => Finset.sum_congr rfl fun g _ => ?_
  rw [dw_eq, V_dec]

/-- The run: the two results, the arguments unchanged. -/
theorem run : θ_run defs (onTc (τ := τ) (main (F := Ideal))) ⟨m, fun _ => 0, ρ⟩ fun r => ∀ c : Dev nD,
      r.2.mem ((c : Thread nD τ).loc main_v13) = res0 m c
      ∧ r.2.mem ((c : Thread nD τ).loc main_v14) = res1 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h.2 c).2 main_v13 (Pipeline.mem_restRefs_of main_v13 (by decide) (by decide)),
      (h.2 c).2 main_v14 (Pipeline.mem_restRefs_of main_v14 (by decide) (by decide)), h.1 c⟩)
    (θ_run_and (Gen.unchanged m ρ) (Gen.run_main m ρ))

end Cert.ReferenceAIdeal.Plain

end
-- ==== Proof.EqualA.lean ====
/-
  The weight-gradient call and the reference leave the same two results, from the same arguments.
-/
module

public import proofs.«01_k».proof.Proof.ArrayA
public import proofs.«01_k».proof.Proof.RefA

@[expose] public section

set_option maxRecDepth 16384

noncomputable section

namespace Cert.EqualA

open Idealize.ShloMosaic Idealize.SL.Sem Cert.Half

variable (m : (ℓ : Loc Cert.KernelAIdeal.nD Cert.KernelAIdeal.τ Cert.KernelAIdeal.sig) → Buf (Elt Ideal) ℓ)
  (m' : (ℓ : Loc Cert.ReferenceAIdeal.nD Cert.ReferenceAIdeal.τ Cert.ReferenceAIdeal.sig) → Buf (Elt Ideal) ℓ)
      (h : ∀ c : Dev Cert.KernelAIdeal.nD, m' ((c.tc : Thread Cert.ReferenceAIdeal.nD Cert.ReferenceAIdeal.τ).loc Cert.ReferenceAIdeal.main_arg0) = m ((c.tc : Thread Cert.KernelAIdeal.nD Cert.KernelAIdeal.τ).loc Cert.KernelAIdeal.main_arg0)
      ∧ m' ((c.tc : Thread Cert.ReferenceAIdeal.nD Cert.ReferenceAIdeal.τ).loc Cert.ReferenceAIdeal.main_arg1) = m ((c.tc : Thread Cert.KernelAIdeal.nD Cert.KernelAIdeal.τ).loc Cert.KernelAIdeal.main_arg1)
      ∧ m' ((c.tc : Thread Cert.ReferenceAIdeal.nD Cert.ReferenceAIdeal.τ).loc Cert.ReferenceAIdeal.main_arg2) = m ((c.tc : Thread Cert.KernelAIdeal.nD Cert.KernelAIdeal.τ).loc Cert.KernelAIdeal.main_arg2)
      ∧ m' ((c.tc : Thread Cert.ReferenceAIdeal.nD Cert.ReferenceAIdeal.τ).loc Cert.ReferenceAIdeal.main_arg3) = m ((c.tc : Thread Cert.KernelAIdeal.nD Cert.KernelAIdeal.τ).loc Cert.KernelAIdeal.main_arg3)
      ∧ m' ((c.tc : Thread Cert.ReferenceAIdeal.nD Cert.ReferenceAIdeal.τ).loc Cert.ReferenceAIdeal.main_arg4) = m ((c.tc : Thread Cert.KernelAIdeal.nD Cert.KernelAIdeal.τ).loc Cert.KernelAIdeal.main_arg4))

include h

/-- The two programs read the same codes. -/
theorem codes_eq (c : Dev Cert.KernelAIdeal.nD) : Cert.ReferenceAIdeal.Plain.codes m' c = Cert.KernelAIdeal.Array.codes m c := (h c).1
/-- The two programs read the same token scales. -/
theorem scales_eq (c : Dev Cert.KernelAIdeal.nD) : Cert.ReferenceAIdeal.Plain.scales m' c = Cert.KernelAIdeal.Array.scales m c := (h c).2.1
/-- The two programs read the same features. -/
theorem feats_eq (c : Dev Cert.KernelAIdeal.nD) : Cert.ReferenceAIdeal.Plain.feats m' c = Cert.KernelAIdeal.Array.feats m c := (h c).2.2.1
/-- The two programs read the same row scales. -/
theorem rowScales_eq (c : Dev Cert.KernelAIdeal.nD) : Cert.ReferenceAIdeal.Plain.rowScales m' c = Cert.KernelAIdeal.Array.rowScales m c := (h c).2.2.2.1
/-- The two programs read the same words. -/
theorem wordsOf_eq (c : Dev Cert.KernelAIdeal.nD) : Cert.ReferenceAIdeal.Plain.wordsOf m' c = Cert.KernelAIdeal.Array.wordsOf m c := (h c).2.2.2.2

/-- The two weight gradients are one sum. -/
theorem grad_eq (c : Dev Cert.KernelAIdeal.nD) (j : Fin 8) (o : Fin 14336) (g : Fin 512) :
    Cert.ReferenceAIdeal.Plain.grad m' c j o g = Cert.KernelAIdeal.Array.grad m c j o g := by
  unfold Cert.ReferenceAIdeal.Plain.grad Cert.KernelAIdeal.Array.grad
  rw [codes_eq m m' h, scales_eq m m' h, feats_eq m m' h]

/-- The first results agree: the row's scale stands on the other side of the product. -/
theorem first (c : Dev Cert.KernelAIdeal.nD) :
    (Cert.ReferenceAIdeal.Plain.res0 m' c : FVec Ideal Cert.KernelAIdeal.S8x256x4x8x128 .f32) = Cert.KernelAIdeal.Value.G5 m c := by
  funext y
  idx_vars y
  refine (Cert.ReferenceAIdeal.Plain.res0_entry m' c _ _ _ _ _).trans (Eq.trans ?_ (Cert.KernelAIdeal.Array.G5_apply m c _ _ _ _ _).symm)
  rw [grad_eq m m' h, rowScales_eq m m' h]
  exact mul_comm _ _

/-- The second results agree. -/
theorem second (c : Dev Cert.KernelAIdeal.nD) :
    (Cert.ReferenceAIdeal.Plain.res1 m' c : FVec Ideal Cert.KernelAIdeal.S8x1x256 .f32) = Cert.KernelAIdeal.Value.G6 m c := by
  funext y
  idx_vars y
  obtain rfl : y1 = 0 := Subsingleton.elim _ _
  refine (Cert.ReferenceAIdeal.Plain.res1_entry m' c _ _).trans (Eq.trans ?_ (Cert.KernelAIdeal.Array.G6_apply m c _ _).symm)
  rw [wordsOf_eq m m' h]
  exact Finset.sum_congr rfl fun j _ => Finset.sum_congr rfl fun g _ => congrArg (· * _) (grad_eq m m' h c j _ g)

end Cert.EqualA

end
-- ==== Proof.PointB.lean ====
/-
  What a grid point of the second weight-gradient call leaves in its two results and in its scratch.
-/
module

public import proofs.«01_k».proof.Proof.Gen.KernelBIdeal.Value
public import proofs.«01_k».proof.Proof.RowSum

@[expose] public section

set_option maxRecDepth 16384

noncomputable section

namespace Cert.KernelBIdeal.Point

open Cert.KernelBIdeal Cert.KernelBIdeal.Gen Cert.Block Cert.Half Idealize.ShloMosaic Idealize.ShloMosaic.TcCoe Idealize.SL.Sem

/-- The first result's block at the first grid point, which sets the scale scratch. -/
theorem out_A_5 (c : Dev nD) (i : grid0.Coords) (arg1 : Memref sig .tc .vmem S1152x256 .fp8e5m2) (harg1 : arg1.IsWhole) (arg2 : Memref sig .tc .vmem S1x1152 .f32) (harg2 : arg2.IsWhole) (arg3 : Memref sig .tc .vmem S8x1152x512 .bf16) (harg3 : arg3.IsWhole) (arg4 : Memref sig .tc .vmem S1x1x256 .f32) (harg4 : arg4.IsWhole) (arg5 : Memref sig .tc .vmem S4x32x4x8x128 .i32) (harg5 : arg5.IsWhole) (arg6 : Memref sig .tc .vmem S8x32x4x8x128 .f32) (harg6 : arg6.IsWhole) (arg7 : Memref sig .tc .vmem S1x1x256 .f32) (harg7 : arg7.IsWhole) (arg8 : Memref sig .tc .vmem S1152x128 .bf16) (harg8 : arg8.IsWhole)
    (hc0 : cond0_0 i)
    (x0 : Vec Ideal S1152x256 .fp8e5m2) (x1 : Vec Ideal S1x1152 .f32) (x2 : Vec Ideal S8x1152x512 .bf16) (x3 : Vec Ideal S1x1x256 .f32) (x4 : Vec Ideal S4x32x4x8x128 .i32) :
    out0_A_5 (F := Ideal) c i arg1 harg1 arg2 harg2 arg3 harg3 arg4 harg4 arg5 harg5 arg6 harg6 arg7 harg7 arg8 harg8 hc0 x0 x1 x2 x3 x4
      = wBlk (fun k r => x0 (ix2 k r) * x1 (ix2 0 k)) x2 x3 := by
  unfold out0_A_5
  rw [View.read_writes_eq_canon _ _ _ (cover0_A_5 c i arg1 harg1 arg2 harg2 arg3 harg3 arg4 harg4 arg5 harg5 arg6 harg6 arg7 harg7 arg8 harg8 hc0 x0 x1 x2 x3 x4)]
  unfold kernelRun0_A
  dsimp only
  sl_unfold_words
  simp only [View.readAt_eq_ld, harg2.read_unread, harg1.read_unread, harg3.read_unread, harg4.read_unread,
    harg5.read_unread, harg8.read_unread]
  rw [View.ld_unit_zero (S := S1x1x256) hz3 _ x3]
  rw [View.ld_unit_zero (S := S1x1152) hz _ x1, View.readCov_unit_zero (S := S1152x128) _ hz]
  refine (show _ = View.canon (pieces (dyv (k0_pay3 x1) x0) x3 x2) from rfl).trans ?_
  rw [canon_pieces]
  refine congrArg (fun D => wBlk D x2 x3) (funext fun k => funext fun r => ?_)
  rw [mat, dy_apply]
  exact congrArg (x0 (ix2 k r) * ·) (scale_apply x1 k (lane r))

/-- The first result's block at a later grid point, which reads the scale scratch. -/
theorem out_B_5 (c : Dev nD) (i : grid0.Coords) (arg1 : Memref sig .tc .vmem S1152x256 .fp8e5m2) (harg1 : arg1.IsWhole) (arg2 : Memref sig .tc .vmem S1x1152 .f32) (harg2 : arg2.IsWhole) (arg3 : Memref sig .tc .vmem S8x1152x512 .bf16) (harg3 : arg3.IsWhole) (arg4 : Memref sig .tc .vmem S1x1x256 .f32) (harg4 : arg4.IsWhole) (arg5 : Memref sig .tc .vmem S4x32x4x8x128 .i32) (harg5 : arg5.IsWhole) (arg6 : Memref sig .tc .vmem S8x32x4x8x128 .f32) (harg6 : arg6.IsWhole) (arg7 : Memref sig .tc .vmem S1x1x256 .f32) (harg7 : arg7.IsWhole) (arg8 : Memref sig .tc .vmem S1152x128 .bf16) (harg8 : arg8.IsWhole)
    (hc0 : ¬cond0_0 i)
    (x0 : Vec Ideal S1152x256 .fp8e5m2) (x1 : Vec Ideal S1x1152 .f32) (x2 : Vec Ideal S8x1152x512 .bf16) (x3 : Vec Ideal S1x1x256 .f32) (x4 : Vec Ideal S4x32x4x8x128 .i32) (xs0 : Vec Ideal S1152x128 .bf16) :
    out0_B_5 (F := Ideal) c i arg1 harg1 arg2 harg2 arg3 harg3 arg4 harg4 arg5 harg5 arg6 harg6 arg7 harg7 arg8 harg8 hc0 x0 x1 x2 x3 x4 xs0
      = wBlk (fun k r => x0 (ix2 k r) * xs0 (ix2 k (lane r))) x2 x3 := by
  unfold out0_B_5
  rw [View.read_writes_eq_canon _ _ _ (cover0_B_5 c i arg1 harg1 arg2 harg2 arg3 harg3 arg4 harg4 arg5 harg5 arg6 harg6 arg7 harg7 arg8 harg8 hc0 x0 x1 x2 x3 x4 xs0)]
  unfold kernelRun0_B
  dsimp only
  sl_unfold_words
  simp only [View.readAt_eq_ld, harg1.read_unread, harg3.read_unread, harg4.read_unread,
    harg5.read_unread, harg8.read_unread]
  rw [View.ld_unit_zero (S := S1x1x256) hz3 _ x3]
  rw [View.ld_unit_zero (S := S1152x128) hz _ xs0]
  refine (show _ = View.canon (pieces (dyv xs0 x0) x3 x2) from rfl).trans ?_
  rw [canon_pieces]
  refine congrArg (fun D => wBlk D x2 x3) (funext fun k => funext fun r => ?_)
  rw [mat, dy_apply]

/-- The second result's block at the first grid point, which sets the scale scratch. -/
theorem out_A_6 (c : Dev nD) (i : grid0.Coords) (arg1 : Memref sig .tc .vmem S1152x256 .fp8e5m2) (harg1 : arg1.IsWhole) (arg2 : Memref sig .tc .vmem S1x1152 .f32) (harg2 : arg2.IsWhole) (arg3 : Memref sig .tc .vmem S8x1152x512 .bf16) (harg3 : arg3.IsWhole) (arg4 : Memref sig .tc .vmem S1x1x256 .f32) (harg4 : arg4.IsWhole) (arg5 : Memref sig .tc .vmem S4x32x4x8x128 .i32) (harg5 : arg5.IsWhole) (arg6 : Memref sig .tc .vmem S8x32x4x8x128 .f32) (harg6 : arg6.IsWhole) (arg7 : Memref sig .tc .vmem S1x1x256 .f32) (harg7 : arg7.IsWhole) (arg8 : Memref sig .tc .vmem S1152x128 .bf16) (harg8 : arg8.IsWhole)
    (hc0 : cond0_0 i)
    (x0 : Vec Ideal S1152x256 .fp8e5m2) (x1 : Vec Ideal S1x1152 .f32) (x2 : Vec Ideal S8x1152x512 .bf16) (x3 : Vec Ideal S1x1x256 .f32) (x4 : Vec Ideal S4x32x4x8x128 .i32) :
    out0_A_6 (F := Ideal) c i arg1 harg1 arg2 harg2 arg3 harg3 arg4 harg4 arg5 harg5 arg6 harg6 arg7 harg7 arg8 harg8 hc0 x0 x1 x2 x3 x4
      = dsBlk (fun k r => x0 (ix2 k r) * x1 (ix2 0 k)) x2 x4 := by
  unfold out0_A_6
  rw [View.read_writes_eq_canon _ _ _ (cover0_A_6 c i arg1 harg1 arg2 harg2 arg3 harg3 arg4 harg4 arg5 harg5 arg6 harg6 arg7 harg7 arg8 harg8 hc0 x0 x1 x2 x3 x4)]
  unfold kernelRun0_A
  dsimp only
  sl_unfold_words
  simp only [View.readAt_eq_ld, harg2.read_unread, harg1.read_unread, harg3.read_unread, harg4.read_unread,
    harg5.read_unread, harg8.read_unread]
  rw [View.canon_cons_unit_zero (S := S1x1x256) hz3]
  rw [View.ld_unit_zero (S := S1x1152) hz _ x1, View.readCov_unit_zero (S := S1152x128) _ hz]
  refine (show _ = total (tower (dyv (k0_pay3 x1) x0) x2 x4) from rfl).trans ?_
  rw [total_tower]
  refine congrArg (fun D => dsBlk D x2 x4) (funext fun k => funext fun r => ?_)
  rw [mat, dy_apply]
  exact congrArg (x0 (ix2 k r) * ·) (scale_apply x1 k (lane r))

/-- The second result's block at a later grid point, which reads the scale scratch. -/
theorem out_B_6 (c : Dev nD) (i : grid0.Coords) (arg1 : Memref sig .tc .vmem S1152x256 .fp8e5m2) (harg1 : arg1.IsWhole) (arg2 : Memref sig .tc .vmem S1x1152 .f32) (harg2 : arg2.IsWhole) (arg3 : Memref sig .tc .vmem S8x1152x512 .bf16) (harg3 : arg3.IsWhole) (arg4 : Memref sig .tc .vmem S1x1x256 .f32) (harg4 : arg4.IsWhole) (arg5 : Memref sig .tc .vmem S4x32x4x8x128 .i32) (harg5 : arg5.IsWhole) (arg6 : Memref sig .tc .vmem S8x32x4x8x128 .f32) (harg6 : arg6.IsWhole) (arg7 : Memref sig .tc .vmem S1x1x256 .f32) (harg7 : arg7.IsWhole) (arg8 : Memref sig .tc .vmem S1152x128 .bf16) (harg8 : arg8.IsWhole)
    (hc0 : ¬cond0_0 i)
    (x0 : Vec Ideal S1152x256 .fp8e5m2) (x1 : Vec Ideal S1x1152 .f32) (x2 : Vec Ideal S8x1152x512 .bf16) (x3 : Vec Ideal S1x1x256 .f32) (x4 : Vec Ideal S4x32x4x8x128 .i32) (xs0 : Vec Ideal S1152x128 .bf16) :
    out0_B_6 (F := Ideal) c i arg1 harg1 arg2 harg2 arg3 harg3 arg4 harg4 arg5 harg5 arg6 harg6 arg7 harg7 arg8 harg8 hc0 x0 x1 x2 x3 x4 xs0
      = dsBlk (fun k r => x0 (ix2 k r) * xs0 (ix2 k (lane r))) x2 x4 := by
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 x4 xs0)]
  unfold kernelRun0_B
  dsimp only
  sl_unfold_words
  simp only [View.readAt_eq_ld, harg1.read_unread, harg3.read_unread, harg4.read_unread,
    harg5.read_unread, harg8.read_unread]
  rw [View.canon_cons_unit_zero (S := S1x1x256) hz3]
  rw [View.ld_unit_zero (S := S1152x128) hz _ xs0]
  refine (show _ = total (tower (dyv xs0 x0) x2 x4) from rfl).trans ?_
  rw [total_tower]
  refine congrArg (fun D => dsBlk D x2 x4) (funext fun k => funext fun r => ?_)
  rw [mat, dy_apply]

/-- The scratch after the first grid point: each token's scale on every lane. -/
theorem sout_A (c : Dev nD) (i : grid0.Coords) (arg1 : Memref sig .tc .vmem S1152x256 .fp8e5m2) (harg1 : arg1.IsWhole) (arg2 : Memref sig .tc .vmem S1x1152 .f32) (harg2 : arg2.IsWhole) (arg3 : Memref sig .tc .vmem S8x1152x512 .bf16) (harg3 : arg3.IsWhole) (arg4 : Memref sig .tc .vmem S1x1x256 .f32) (harg4 : arg4.IsWhole) (arg5 : Memref sig .tc .vmem S4x32x4x8x128 .i32) (harg5 : arg5.IsWhole) (arg6 : Memref sig .tc .vmem S8x32x4x8x128 .f32) (harg6 : arg6.IsWhole) (arg7 : Memref sig .tc .vmem S1x1x256 .f32) (harg7 : arg7.IsWhole) (arg8 : Memref sig .tc .vmem S1152x128 .bf16) (harg8 : arg8.IsWhole)
    (hc0 : cond0_0 i) (x0 : Vec Ideal S1152x256 .fp8e5m2) (x1 : Vec Ideal S1x1152 .f32) (x2 : Vec Ideal S8x1152x512 .bf16) (x3 : Vec Ideal S1x1x256 .f32) (x4 : Vec Ideal S4x32x4x8x128 .i32) (k : Fin 1152) (l : Fin 128) :
    sout0_A_0 (F := Ideal) c i arg1 harg1 arg2 harg2 arg3 harg3 arg4 harg4 arg5 harg5 arg6 harg6 arg7 harg7 arg8 harg8 hc0 x0 x1 x2 x3 x4 (ix2 k l) = x1 (ix2 0 k) := by
  unfold sout0_A_0
  rw [View.read_writes_eq_canon _ _ _ (fun y => View.cover_of_tiledL _ ![1152, 128] (by sl_kernel_rfl) y)]
  unfold kernelRun0_A
  dsimp only
  sl_unfold_words
  simp only [View.readAt_eq_ld, harg2.read_unread]
  rw [View.ld_unit_zero (S := S1x1152) hz _ x1, View.canon_cons_unit_zero (S := S1152x128) hz]
  exact scale_apply x1 k l

/-- A later grid point leaves the scratch as it was. -/
theorem sout_B (c : Dev nD) (i : grid0.Coords) (arg1 : Memref sig .tc .vmem S1152x256 .fp8e5m2) (harg1 : arg1.IsWhole) (arg2 : Memref sig .tc .vmem S1x1152 .f32) (harg2 : arg2.IsWhole) (arg3 : Memref sig .tc .vmem S8x1152x512 .bf16) (harg3 : arg3.IsWhole) (arg4 : Memref sig .tc .vmem S1x1x256 .f32) (harg4 : arg4.IsWhole) (arg5 : Memref sig .tc .vmem S4x32x4x8x128 .i32) (harg5 : arg5.IsWhole) (arg6 : Memref sig .tc .vmem S8x32x4x8x128 .f32) (harg6 : arg6.IsWhole) (arg7 : Memref sig .tc .vmem S1x1x256 .f32) (harg7 : arg7.IsWhole) (arg8 : Memref sig .tc .vmem S1152x128 .bf16) (harg8 : arg8.IsWhole)
    (hc0 : ¬cond0_0 i) (x0 : Vec Ideal S1152x256 .fp8e5m2) (x1 : Vec Ideal S1x1152 .f32) (x2 : Vec Ideal S8x1152x512 .bf16) (x3 : Vec Ideal S1x1x256 .f32) (x4 : Vec Ideal S4x32x4x8x128 .i32) (xs0 : Vec Ideal S1152x128 .bf16) :
    sout0_B_0 (F := Ideal) c i arg1 harg1 arg2 harg2 arg3 harg3 arg4 harg4 arg5 harg5 arg6 harg6 arg7 harg7 arg8 harg8 hc0 x0 x1 x2 x3 x4 xs0 = xs0 := rfl

end Cert.KernelBIdeal.Point
end
-- ==== Proof.ArrayB.lean ====
/-
  What the two result arrays of the weight-gradient call hold after the run, entry by entry, as functions of the arguments.
-/
module

public import proofs.«01_k».proof.Proof.PointB
public import Idealize.ShloMosaic.Lib.StableHlo.ReadAt

@[expose] public section

set_option maxRecDepth 16384

noncomputable section

namespace Cert.KernelBIdeal.Array

open Cert.KernelBIdeal Cert.KernelBIdeal.Gen Cert.KernelBIdeal.Value Cert.KernelBIdeal.Point Cert.Block Cert.Half Idealize.ShloMosaic Idealize.ShloMosaic.TcCoe Idealize.SL.Sem

variable (m : (ℓ : Loc nD τ sig) → Buf (Elt Ideal) ℓ)

/-- The codes of the output gradient. -/
abbrev codes (c : Dev nD) : FVec Ideal S3x384x14336 .fp8e5m2 := m ((c : Thread nD τ).loc main_arg0)
/-- The scales of the tokens. -/
abbrev scales (c : Dev nD) : FVec Ideal S3x384 .f32 := m ((c : Thread nD τ).loc main_arg1)
/-- The features, plane by plane. -/
abbrev feats (c : Dev nD) : FVec Ideal S8x1152x512 .bf16 := m ((c : Thread nD τ).loc main_arg2)
/-- The scales of the rows. -/
abbrev rowScales (c : Dev nD) : FVec Ideal S14336 .f32 := m ((c : Thread nD τ).loc main_arg3)
/-- The decoded weights, two to a word. -/
abbrev wordsOf (c : Dev nD) : IVec S4x768x4x8x128 32 := m ((c : Thread nD τ).loc main_arg4)

/-- The codes as the call reads them: one row per token. -/
theorem V_codes (c : Dev nD) (k : Fin 1152) (o : Fin 14336) :
    V m c main_v0 (ix2 k o) = codes m c (ix3 ⟨k.val / 384, by omega⟩ ⟨k.val % 384, by omega⟩ o) := by
  unfold V
  after_reads_at
/-- The token scales as the call reads them. -/
theorem V_scales (c : Dev nD) (k : Fin 1152) :
    V m c main_v1 (ix2 0 k) = scales m c (ix2 ⟨k.val / 384, by omega⟩ ⟨k.val % 384, by omega⟩) := by
  unfold V
  after_reads_at
/-- The row scales as the call reads them: 256 to a block. -/
theorem V_rs (c : Dev nD) (b : Fin 56) (r : Fin 256) :
    V m c main_v2 (ix3 b 0 r) = rowScales m c (ix1 ⟨b.val * 256 + r.val, by omega⟩) := by
  unfold V
  after_reads_at

/-- Which block of the codes a grid point reads. -/
theorem idx0 : ∀ t : Fin cfg0.N, win0_0.index t 0 = 0 ∧ win0_0.index t 1 = t.val + 8 :=
  (by decide +kernel : ∀ t : Fin grid0.N, win0_0.index t 0 = 0 ∧ win0_0.index t 1 = t.val + 8)
/-- Which block of the token scales a grid point reads. -/
theorem idx1 : ∀ t : Fin cfg0.N, win0_1.index t 0 = 0 ∧ win0_1.index t 1 = 0 :=
  (by decide +kernel : ∀ t : Fin grid0.N, win0_1.index t 0 = 0 ∧ win0_1.index t 1 = 0)
/-- Which block of the features a grid point reads. -/
theorem idx2 : ∀ t : Fin cfg0.N, win0_2.index t 0 = 0 ∧ win0_2.index t 1 = 0 ∧ win0_2.index t 2 = 0 :=
  (by decide +kernel : ∀ t : Fin grid0.N, win0_2.index t 0 = 0 ∧ win0_2.index t 1 = 0 ∧ win0_2.index t 2 = 0)
/-- Which block of the row scales a grid point reads. -/
theorem idx3 : ∀ t : Fin cfg0.N, win0_3.index t 0 = t.val + 8 ∧ win0_3.index t 1 = 0 ∧ win0_3.index t 2 = 0 :=
  (by decide +kernel : ∀ t : Fin grid0.N, win0_3.index t 0 = t.val + 8 ∧ win0_3.index t 1 = 0 ∧ win0_3.index t 2 = 0)
/-- Which block of the words a grid point reads. -/
theorem idx4 : ∀ t : Fin cfg0.N, win0_4.index t 0 = 0 ∧ win0_4.index t 1 = t.val + 8 ∧ win0_4.index t 2 = 0
    ∧ win0_4.index t 3 = 0 ∧ win0_4.index t 4 = 0 :=
  (by decide +kernel : ∀ t : Fin grid0.N, win0_4.index t 0 = 0 ∧ win0_4.index t 1 = t.val + 8 ∧ win0_4.index t 2 = 0
    ∧ win0_4.index t 3 = 0 ∧ win0_4.index t 4 = 0)

/-- The grid's length. -/
theorem lt_N (t : Fin cfg0.N) : t.val < 16 := lt_of_lt_of_eq t.isLt N_0

/-- The block of codes a grid point reads. -/
theorem blk0 (c : Dev nD) (t : Fin cfg0.N) (k : Fin 1152) (r : Fin 256) :
    (iblk m c 0 t : Vec Ideal S1152x256 .fp8e5m2) (ix2 k r)
      = codes m c (ix3 ⟨k.val / 384, by omega⟩ ⟨k.val % 384, by omega⟩ ⟨2048 + t.val * 256 + r.val, by have := lt_N t; omega⟩) := by
  refine Eq.trans ?_ (V_codes m c k _)
  unfold iblk
  rw [View.read_apply]
  show V m c main_v0 _ = V m c main_v0 _
  congr 1
  funext a
  apply Fin.ext
  match a with
  | ⟨0, _⟩ => show win0_0.index t 0 * 1152 + 1 * k.val = k.val; rw [(idx0 t).1]; omega
  | ⟨1, _⟩ => show win0_0.index t 1 * 256 + 1 * r.val = 2048 + t.val * 256 + r.val; rw [(idx0 t).2]; omega

/-- The block of scales a grid point reads: all of them. -/
theorem blk1 (c : Dev nD) (t : Fin cfg0.N) (k : Fin 1152) :
    (iblk m c 1 t : Vec Ideal S1x1152 .f32) (ix2 0 k) = scales m c (ix2 ⟨k.val / 384, by omega⟩ ⟨k.val % 384, by omega⟩) := by
  refine Eq.trans ?_ (V_scales m c k)
  unfold iblk
  rw [View.read_apply]
  show V m c main_v1 _ = V m c main_v1 _
  congr 1
  funext a
  apply Fin.ext
  match a with
  | ⟨0, _⟩ => show win0_1.index t 0 * 1 + 1 * 0 = 0; rw [(idx1 t).1]
  | ⟨1, _⟩ => show win0_1.index t 1 * 1152 + 1 * k.val = k.val; rw [(idx1 t).2]; omega

/-- The features a grid point reads: all of them. -/
theorem blk2 (c : Dev nD) (t : Fin cfg0.N) (j : Fin 8) (k : Fin 1152) (g : Fin 512) :
    (iblk m c 2 t : Vec Ideal S8x1152x512 .bf16) (ix3 j k g) = feats m c (ix3 j k g) := by
  unfold iblk
  rw [View.read_apply]
  show V m c main_arg2 _ = m (c.tc.loc main_arg2) _
  rw [V_main_arg2]
  congr 1
  funext a
  apply Fin.ext
  match a with
  | ⟨0, _⟩ => show win0_2.index t 0 * 8 + 1 * j.val = j.val; rw [(idx2 t).1]; omega
  | ⟨1, _⟩ => show win0_2.index t 1 * 1152 + 1 * k.val = k.val; rw [(idx2 t).2.1]; omega
  | ⟨2, _⟩ => show win0_2.index t 2 * 512 + 1 * g.val = g.val; rw [(idx2 t).2.2]; omega

/-- The row scales a grid point reads. -/
theorem blk3 (c : Dev nD) (t : Fin cfg0.N) (r : Fin 256) :
    (iblk m c 3 t : Vec Ideal S1x1x256 .f32) (ix3 0 0 r)
      = rowScales m c (ix1 ⟨2048 + t.val * 256 + r.val, by have := lt_N t; omega⟩) := by
  have e := V_rs m c ⟨t.val + 8, by have := lt_N t; omega⟩ r
  rw [show (⟨(⟨t.val + 8, by have := lt_N t; omega⟩ : Fin 56).val * 256 + r.val, by have := lt_N t; dsimp only; omega⟩ : Fin 14336)
    = ⟨2048 + t.val * 256 + r.val, by have := lt_N t; omega⟩ from Fin.ext (by dsimp only; omega)] at e
  refine Eq.trans ?_ e
  unfold iblk
  rw [View.read_apply]
  show V m c main_v2 _ = V m c main_v2 _
  congr 1
  funext a
  apply Fin.ext
  match a with
  | ⟨0, _⟩ => show win0_3.index t 0 * 1 + 1 * 0 = t.val + 8; rw [(idx3 t).1]; omega
  | ⟨1, _⟩ => show win0_3.index t 1 * 1 + 1 * 0 = 0; rw [(idx3 t).2.1]
  | ⟨2, _⟩ => show win0_3.index t 2 * 256 + 1 * r.val = r.val; rw [(idx3 t).2.2]; omega

/-- The words a grid point reads. -/
theorem blk4 (c : Dev nD) (t : Fin cfg0.N) (p : Fin 4) (a : Fin 32) (g : Fin 4) (b : Fin 8) (l : Fin 128) :
    (iblk m c 4 t : Vec Ideal S4x32x4x8x128 .i32) (ix5 p a g b l)
      = wordsOf m c (ix5 p ⟨256 + t.val * 32 + a.val, by have := lt_N t; omega⟩ g b l) := by
  unfold iblk
  rw [View.read_apply]
  show V m c main_arg4 _ = m (c.tc.loc main_arg4) _
  rw [V_main_arg4]
  congr 1
  funext i
  apply Fin.ext
  match i with
  | ⟨0, _⟩ => show win0_4.index t 0 * 4 + 1 * p.val = p.val; rw [(idx4 t).1]; omega
  | ⟨1, _⟩ => show win0_4.index t 1 * 32 + 1 * a.val = 256 + t.val * 32 + a.val; rw [(idx4 t).2.1]; omega
  | ⟨2, _⟩ => show win0_4.index t 2 * 4 + 1 * g.val = g.val; rw [(idx4 t).2.2.1]; omega
  | ⟨3, _⟩ => show win0_4.index t 3 * 8 + 1 * b.val = b.val; rw [(idx4 t).2.2.2.1]; omega
  | ⟨4, _⟩ => show win0_4.index t 4 * 128 + 1 * l.val = l.val; rw [(idx4 t).2.2.2.2]; omega

/-- The scale of a token. -/
abbrev scale (c : Dev nD) (k : Fin 1152) : EReal := scales m c (ix2 ⟨k.val / 384, by omega⟩ ⟨k.val % 384, by omega⟩)

/-- After every grid point the scratch holds each token's scale on every lane. -/
theorem scratch (c : Dev nD) : ∀ (n : ℕ) (hn : n < cfg0.N) (k : Fin 1152) (l : Fin 128),
    (outsAt0 m c n hn).2.2 (ix2 k l) = scale m c k
  | 0, hn, k, l => by
    have e := outsAt0_A m c ⟨0, hn⟩ (Nat.zero_mod _)
    dsimp only at e
    rw [e]
    dsimp only
    rw [sout_A, blk1]
  | n + 1, hn, k, l => by
    have hN : cfg0.N = 16 := N_0
    have e := outsAt0_B m c ⟨n + 1, hn⟩ (by dsimp only; omega)
    dsimp only at e
    rw [e]
    dsimp only
    rw [sout_B]
    exact scratch c n _ k l

/-- The scaled gradient of a block. -/
abbrev dyB (c : Dev nD) (t : Fin cfg0.N) (k : Fin 1152) (r : Fin 256) : EReal :=
  codes m c (ix3 ⟨k.val / 384, by omega⟩ ⟨k.val % 384, by omega⟩ ⟨2048 + t.val * 256 + r.val, by have := lt_N t; omega⟩) * scale m c k

/-- What a grid point leaves for the first result. -/
theorem outs5 (c : Dev nD) (t : Fin cfg0.N) :
    (outsAt0 m c t.val t.isLt).1 = wBlk (dyB m c t) (iblk m c 2 t) (iblk m c 3 t) := by
  by_cases h : t.val % 16 = 0
  · rw [outsAt0_A m c t h]
    dsimp only
    rw [out_A_5]
    refine congrArg (fun D => wBlk D _ _) (funext fun k => funext fun r => ?_)
    rw [blk0, blk1]
  · rw [outsAt0_B m c t h]
    dsimp only
    rw [out_B_5]
    refine congrArg (fun D => wBlk D _ _) (funext fun k => funext fun r => ?_)
    rw [blk0, scratch]

/-- What a grid point leaves for the second result. -/
theorem outs6 (c : Dev nD) (t : Fin cfg0.N) :
    (outsAt0 m c t.val t.isLt).2.1 = dsBlk (dyB m c t) (iblk m c 2 t) (iblk m c 4 t) := by
  by_cases h : t.val % 16 = 0
  · rw [outsAt0_A m c t h]
    dsimp only
    rw [out_A_6]
    refine congrArg (fun D => dsBlk D _ _) (funext fun k => funext fun r => ?_)
    rw [blk0, blk1]
  · rw [outsAt0_B m c t h]
    dsimp only
    rw [out_B_6]
    refine congrArg (fun D => dsBlk D _ _) (funext fun k => funext fun r => ?_)
    rw [blk0, scratch]

/-- The weight gradient of output feature `o`, plane `j`, group `g`: the tokens' scaled gradients times the features. -/
def grad (c : Dev nD) (j : Fin 8) (o : Fin 14336) (g : Fin 512) : EReal :=
  ∑ k : Fin 1152, codes m c (ix3 ⟨k.val / 384, by omega⟩ ⟨k.val % 384, by omega⟩ o) * scale m c k * feats m c (ix3 j k g)

/-- A block's rows are rows of the array. -/
theorem o_lt (t : Fin cfg0.N) (r : Fin 256) : 2048 + t.val * 256 + r.val < 14336 := by have := lt_N t; omega

/-- A block's weight gradient is the array's. -/
theorem dw_eq (c : Dev nD) (t : Fin cfg0.N) (j : Fin 8) (r : Fin 256) (g : Fin 512) (o : Fin 14336)
    (ho : 2048 + t.val * 256 + r.val = o.val) : dw (dyB m c t) (iblk m c 2 t) j r g = grad m c j o g := by
  obtain rfl : (⟨2048 + t.val * 256 + r.val, o_lt t r⟩ : Fin 14336) = o := Fin.ext ho
  exact Finset.sum_congr rfl fun k _ => by rw [blk2]

/-- A block's row scale is the array's. -/
theorem rs_eq (c : Dev nD) (t : Fin cfg0.N) (r : Fin 256) (o : Fin 14336)
    (ho : 2048 + t.val * 256 + r.val = o.val) :
    (iblk m c 3 t : Vec Ideal S1x1x256 .f32) (ix3 0 0 r) = rowScales m c (ix1 o) := by
  obtain rfl : (⟨2048 + t.val * 256 + r.val, o_lt t r⟩ : Fin 14336) = o := Fin.ext ho
  exact blk3 m c t r

/-- A block's decoded weights are the array's. -/
theorem dec_eq (c : Dev nD) (t : Fin cfg0.N) (j : Fin 8) (r : Fin 256) (g : Fin 512) (n : ℕ) (hn : n < 6144)
    (ho : 2048 + t.val * 256 + r.val = n) :
    dec (iblk m c 4 t) j r g = half (j.val % 2) (wordsOf m c (ix5 ⟨j.val / 2, by omega⟩ ⟨n / 8, by omega⟩
      ⟨g.val / 128, by omega⟩ ⟨n % 8, by omega⟩ ⟨g.val % 128, by omega⟩)) := by
  unfold dec
  rw [blk4]
  refine congrArg (half _) (congrArg (wordsOf m c) ?_)
  rw [show (⟨256 + t.val * 32 + r.val / 8, by have := lt_N t; omega⟩ : Fin 768) = ⟨n / 8, by omega⟩ from Fin.ext (by dsimp only; omega),
    show (⟨r.val % 8, by omega⟩ : Fin 8) = ⟨n % 8, by omega⟩ from Fin.ext (by dsimp only; omega)]

/-- The first result, entry by entry. -/
theorem G5_apply (c : Dev nD) (j : Fin 8) (a : Fin 512) (t : Fin 4) (b : Fin 8) (l : Fin 128) :
    (G5 m c : Vec Ideal S8x512x4x8x128 .f32) (ix5 j a t b l)
      = grad m c j ⟨2048 + (a.val * 8 + b.val), by omega⟩ (col t l) * rowScales m c (ix1 ⟨2048 + (a.val * 8 + b.val), by omega⟩) := by
  have hN : cfg0.N = 16 := N_0
  have hp : pt5Of (ix5 j a t b l) = a.val / 32 := by
    show 16 * (j.val / 8 - 0) + 1 * (a.val / 32 - 0) + 1 * (t.val / 4 - 0) + 1 * (b.val / 8 - 0) + 1 * (l.val / 128 - 0) = _
    omega
  have hl : loc5Of (ix5 j a t b l) = ix5 j ⟨a.val % 32, by omega⟩ t b l := by
    funext i
    apply Fin.ext
    match i with
    | ⟨0, _⟩ => exact Nat.mod_eq_of_lt j.isLt
    | ⟨1, _⟩ => rfl
    | ⟨2, _⟩ => exact Nat.mod_eq_of_lt t.isLt
    | ⟨3, _⟩ => exact Nat.mod_eq_of_lt b.isLt
    | ⟨4, _⟩ => exact Nat.mod_eq_of_lt l.isLt
  have hlt : a.val / 32 < cfg0.N := by omega
  unfold G5
  simp only [hp, hl, hlt, dif_pos]
  rw [← outsAt0_sweep m c _ hlt, outs5 m c ⟨a.val / 32, hlt⟩]
  rw [wBlk_apply, dw_eq m c _ j _ _ ⟨2048 + (a.val * 8 + b.val), by omega⟩ (by dsimp only; omega),
    rs_eq m c _ _ ⟨2048 + (a.val * 8 + b.val), by omega⟩ (by dsimp only; omega)]

/-- The second result, entry by entry. -/
theorem G6_apply (c : Dev nD) (a : Fin 16) (r : Fin 256) :
    (G6 m c : Vec Ideal S16x1x256 .f32) (ix3 a 0 r)
      = ∑ j : Fin 8, ∑ g : Fin 512, grad m c j ⟨2048 + (a.val * 256 + r.val), by omega⟩ g
          * half (j.val % 2) (wordsOf m c (ix5 ⟨j.val / 2, by omega⟩ ⟨(2048 + (a.val * 256 + r.val)) / 8, by omega⟩
              ⟨g.val / 128, by omega⟩ ⟨(2048 + (a.val * 256 + r.val)) % 8, by omega⟩ ⟨g.val % 128, by omega⟩)) := by
  have hN : cfg0.N = 16 := N_0
  have hp : pt6Of (ix3 a 0 r) = a.val := by
    show 1 * (a.val / 1 - 0) + 1 * (0 / 1 - 0) + 1 * (r.val / 256 - 0) = _
    omega
  have hl : loc6Of (ix3 a 0 r) = ix3 0 0 r := by
    funext i
    apply Fin.ext
    match i with
    | ⟨0, _⟩ => exact Nat.mod_one _
    | ⟨1, _⟩ => rfl
    | ⟨2, _⟩ => exact Nat.mod_eq_of_lt r.isLt
  have hlt : a.val < cfg0.N := by omega
  unfold G6
  simp only [hp, hl, hlt, dif_pos]
  rw [← outsAt0_sweep m c _ hlt, outs6 m c ⟨a.val, hlt⟩]
  refine (dsBlk_apply _ _ _ r).trans ?_
  refine Finset.sum_congr rfl fun j _ => Finset.sum_congr rfl fun g _ => ?_
  rw [dw_eq m c _ j _ _ ⟨2048 + (a.val * 256 + r.val), by omega⟩ (by dsimp only; omega),
    dec_eq m c _ j _ _ (2048 + (a.val * 256 + r.val)) (by omega) (by dsimp only; omega)]

end Cert.KernelBIdeal.Array
end
-- ==== Proof.RefB.lean ====
/-
  What the reference's two results hold after its run, entry by entry, as functions of the arguments.
-/
module

public import proofs.«01_k».proof.Proof.Gen.ReferenceBIdeal.Frame
public import proofs.«01_k».proof.Proof.Half
public import Idealize.ShloMosaic.Lib.Pointwise
public import Idealize.ShloMosaic.Lib.Claim
public import Idealize.ShloMosaic.Lib.StableHlo.ReadAt
public import Idealize.ShloMosaic.Lib.Pipeline.ValueKit.Geometry

@[expose] public section

set_option maxRecDepth 16384

noncomputable section

namespace Cert.ReferenceBIdeal.Plain

open Cert.ReferenceBIdeal Cert.ReferenceBIdeal.Gen Cert.Half Idealize.ShloMosaic Idealize.ShloMosaic.TcCoe Idealize.SL.Sem

/-- No offset. -/
theorem hz : (![0, 0] : Fin 2 → Nat) = fun _ => 0 := funext fun a => by fin_cases a <;> rfl

/-- No offset. -/
theorem hz3 : (![0, 0, 0] : Fin 3 → Nat) = fun _ => 0 := funext fun a => by fin_cases a <;> rfl

/-- The weight gradient as the reference writes it. -/
def dw (x0 : Vec Ideal S1152x4096 .fp8e5m2) (x1 : Vec Ideal S1152x1 .f32) (x2 : Vec Ideal S8x1152x512 .bf16)
    (j : Fin 8) (o : Fin 4096) (g : Fin 512) : EReal :=
  ∑ k : Fin 1152, x0 (ix2 k o) * x1 (ix2 k 0) * x2 (ix3 j k g)

/-- The matrix product, entry by entry. -/
theorem pay1_apply (x0 : Vec Ideal S1152x4096 .fp8e5m2) (x1 : Vec Ideal S1152x1 .f32) (x2 : Vec Ideal S8x1152x512 .bf16)
    (j : Fin 8) (o : Fin 4096) (g : Fin 512) :
    k0_pay1 (F := Ideal) x0 x1 x2 (ix3 j o g) = dw x0 x1 x2 j o g := by
  unfold k0_pay1 dw
  pointwise

/-- The first result of the call, entry by entry. -/
theorem out5_apply (x0 : Vec Ideal S1152x4096 .fp8e5m2) (x1 : Vec Ideal S1152x1 .f32) (x2 : Vec Ideal S8x1152x512 .bf16)
    (x3 : Vec Ideal S1x4096x1 .f32) (x4 : Vec Ideal S8x4096x512 .bf16) (j : Fin 8) (o : Fin 4096) (g : Fin 512) :
    out0_5 (F := Ideal) x0 x1 x2 x3 x4 (ix3 j o g) = x3 (ix3 0 o 0) * dw x0 x1 x2 j o g := by
  unfold out0_5
  rw [View.canon_cons_unit_zero (S := S8x4096x512) hz3, View.ld_unit_zero (S := S1152x4096) hz _ x0,
    View.ld_unit_zero (S := S1152x1) hz _ x1, View.ld_unit_zero (S := S8x1152x512) hz3 _ x2,
    View.ld_unit_zero (S := S1x4096x1) hz3 _ x3]
  unfold k0_pay2
  rw [← pay1_apply]
  pointwise

/-- The entries that a sum over the first and the last axis adds up. -/
theorem fiber (h : S8x4096x512.Reduces [0, 2] S4096) (o : Fin 4096) (i : S8x4096x512.Idx) :
    h.drop i = ix1 o ↔ ∃ k : Fin 8 × Fin 512, ix3 k.1 o k.2 = i := by
  constructor
  · intro e
    refine ⟨(i 0, i 2), ?_⟩
    funext a
    apply Fin.ext
    match a with
    | ⟨0, _⟩ => rfl
    | ⟨1, _⟩ => exact (congrArg Fin.val (congrFun e 0)).symm
    | ⟨2, _⟩ => rfl
  · rintro ⟨k, rfl⟩
    funext b
    apply Fin.ext
    match b with
    | ⟨0, _⟩ => rfl

/-- A sum over the first and the last axis, one axis after the other. -/
theorem reduce_apply (h : S8x4096x512.Reduces [0, 2] S4096) (v : S8x4096x512.Idx → EReal) (o : Fin 4096) :
    Ideal.reduceAdd h v (ix1 o) = ∑ j : Fin 8, ∑ g : Fin 512, v (ix3 j o g) := by
  refine (Finset.sum_filter_eq_sum_of_fiber _ (fun k : Fin 8 × Fin 512 => ix3 k.1 o k.2)
    (fun _ _ e => Prod.ext (congrFun e 0) (congrFun e 2)) (fiber h o) v).trans ?_
  exact Fintype.sum_prod_type _

/-- The second result of the call, entry by entry. -/
theorem out6_apply (x0 : Vec Ideal S1152x4096 .fp8e5m2) (x1 : Vec Ideal S1152x1 .f32) (x2 : Vec Ideal S8x1152x512 .bf16)
    (x3 : Vec Ideal S1x4096x1 .f32) (x4 : Vec Ideal S8x4096x512 .bf16) (o : Fin 4096) :
    out0_6 (F := Ideal) x0 x1 x2 x3 x4 (ix2 0 o) = ∑ j : Fin 8, ∑ g : Fin 512, dw x0 x1 x2 j o g * x4 (ix3 j o g) := by
  unfold out0_6
  rw [View.canon_cons_unit_zero (S := S1x4096) hz, View.ld_unit_zero (S := S1152x4096) hz _ x0,
    View.ld_unit_zero (S := S1152x1) hz _ x1, View.ld_unit_zero (S := S8x1152x512) hz3 _ x2,
    View.ld_unit_zero (S := S8x4096x512) hz3 _ x4]
  unfold k0_pay3
  simp only [← pay1_apply]
  pointwise
  rw [reduce_apply]
  pointwise

variable (m : (ℓ : Loc nD τ sig) → Buf (Elt Ideal) ℓ) (ρ : Dev nD → PrngReg)

/-- The codes of one token, of one row. -/
theorem V_codes (c : Dev nD) (k : Fin 1152) (o : Fin 4096) :
    (V m c main_v1 : Vec Ideal S1152x4096 .fp8e5m2) (ix2 k o)
      = (m ((c : Thread nD τ).loc main_arg0) : Vec Ideal S3x384x14336 .fp8e5m2) (ix3 ⟨k.val / 384, by omega⟩ ⟨k.val % 384, by omega⟩ ⟨2048 + o.val, by omega⟩) := by
  unfold V
  after_reads_at

/-- The scale of one token. -/
theorem V_scales (c : Dev nD) (k : Fin 1152) :
    (V m c main_v2 : Vec Ideal S1152x1 .f32) (ix2 k 0)
      = (m ((c : Thread nD τ).loc main_arg1) : Vec Ideal S3x384 .f32) (ix2 ⟨k.val / 384, by omega⟩ ⟨k.val % 384, by omega⟩) := by
  unfold V
  after_reads_at

/-- The scale of one row. -/
theorem V_rs (c : Dev nD) (o : Fin 4096) :
    (V m c main_v4 : Vec Ideal S1x4096x1 .f32) (ix3 0 o 0)
      = (m ((c : Thread nD τ).loc main_arg3) : Vec Ideal S14336 .f32) (ix1 ⟨2048 + o.val, by omega⟩) := by
  unfold V
  after_reads_at

/-- A half of a word, its place written the other way round. -/
theorem half_eq (p : ℕ) (w : BitVec 32) : half p w = Ideal.ofBits .bf16 (w.extractLsb' (p * 16) 16) := by
  rw [half, Nat.mul_comm]

/-- The decoded weight of plane `j`, of one row, of one group. -/
theorem V_dec (c : Dev nD) (j : Fin 8) (o : Fin 4096) (g : Fin 512) :
    (V m c main_v10 : Vec Ideal S8x4096x512 .bf16) (ix3 j o g)
      = half (j.val % 2) ((m ((c : Thread nD τ).loc main_arg4) : Vec Ideal S4x768x4x8x128 .i32)
          (ix5 ⟨j.val / 2, by omega⟩ ⟨(2048 + o.val) / 8, by omega⟩ ⟨g.val / 128, by omega⟩ ⟨(2048 + o.val) % 8, by omega⟩ ⟨g.val % 128, by omega⟩)) := by
  rw [half_eq]
  unfold V
  after_reads_at

/-- Every input window's one block is at index zero. -/
theorem idx0 : ∀ a, (cfg0.win 0).index t0_0 a = 0 := by decide +kernel

/-- An entry of the one block of input 0 is the same entry of its array. -/
theorem emb0 (y : S1152x4096.Idx) : ((cfg0.win 0).blk t0_0).view.emb y = y := by
  funext a
  apply Fin.ext
  refine Pipeline.Window.rect_emb_val_of_index_zero (cfg0.win 0) t0_0 a ?_ y
  exact idx0 a

/-- The one block of input 0 is its array, the array named by its window. -/
theorem whole0 (c : Dev nD) : (iblk m c 0 t0_0 : Vec Ideal S1152x4096 .fp8e5m2) = V m c (Pipeline.arrRef spec0 0) := by
  unfold iblk
  funext y
  rw [View.read_apply, cast_eq]
  exact congrArg (V m c (Pipeline.arrRef spec0 0)) (emb0 y)

/-- The array of input 0 by its name. -/
theorem name0 (c : Dev nD) : (V m c (Pipeline.arrRef spec0 0) : Vec Ideal S1152x4096 .fp8e5m2) = V m c main_v1 := rfl

/-- The one block of input 0 is its array. -/
theorem blk0 (c : Dev nD) : (iblk m c 0 t0_0 : Vec Ideal S1152x4096 .fp8e5m2) = V m c main_v1 :=
  (whole0 m c).trans (name0 m c)

/-- The reference reads the scales whole. -/
theorem idx1 : ∀ a, (cfg0.win 1).index t0_0 a = 0 := by decide +kernel

/-- An entry of the one block of input 1 is the same entry of its array. -/
theorem emb1 (y : S1152x1.Idx) : ((cfg0.win 1).blk t0_0).view.emb y = y := by
  funext a
  apply Fin.ext
  refine Pipeline.Window.rect_emb_val_of_index_zero (cfg0.win 1) t0_0 a ?_ y
  exact idx1 a

/-- The one block of input 1 is its array, the array named by its window. -/
theorem whole1 (c : Dev nD) : (iblk m c 1 t0_0 : Vec Ideal S1152x1 .f32) = V m c (Pipeline.arrRef spec0 1) := by
  unfold iblk
  funext y
  rw [View.read_apply, cast_eq]
  exact congrArg (V m c (Pipeline.arrRef spec0 1)) (emb1 y)

/-- The array of input 1 by its name. -/
theorem name1 (c : Dev nD) : (V m c (Pipeline.arrRef spec0 1) : Vec Ideal S1152x1 .f32) = V m c main_v2 := rfl

/-- The one block of input 1 is its array. -/
theorem blk1 (c : Dev nD) : (iblk m c 1 t0_0 : Vec Ideal S1152x1 .f32) = V m c main_v2 :=
  (whole1 m c).trans (name1 m c)

/-- The reference reads the features whole. -/
theorem idx2 : ∀ a, (cfg0.win 2).index t0_0 a = 0 := by decide +kernel

/-- An entry of the one block of input 2 is the same entry of its array. -/
theorem emb2 (y : S8x1152x512.Idx) : ((cfg0.win 2).blk t0_0).view.emb y = y := by
  funext a
  apply Fin.ext
  refine Pipeline.Window.rect_emb_val_of_index_zero (cfg0.win 2) t0_0 a ?_ y
  exact idx2 a

/-- The one block of input 2 is its array, the array named by its window. -/
theorem whole2 (c : Dev nD) : (iblk m c 2 t0_0 : Vec Ideal S8x1152x512 .bf16) = V m c (Pipeline.arrRef spec0 2) := by
  unfold iblk
  funext y
  rw [View.read_apply, cast_eq]
  exact congrArg (V m c (Pipeline.arrRef spec0 2)) (emb2 y)

/-- The array of input 2 by its name. -/
theorem name2 (c : Dev nD) : (V m c (Pipeline.arrRef spec0 2) : Vec Ideal S8x1152x512 .bf16) = V m c main_arg2 := rfl

/-- The one block of input 2 is its array. -/
theorem blk2 (c : Dev nD) : (iblk m c 2 t0_0 : Vec Ideal S8x1152x512 .bf16) = V m c main_arg2 :=
  (whole2 m c).trans (name2 m c)

/-- The reference reads the row scales whole. -/
theorem idx3 : ∀ a, (cfg0.win 3).index t0_0 a = 0 := by decide +kernel

/-- An entry of the one block of input 3 is the same entry of its array. -/
theorem emb3 (y : S1x4096x1.Idx) : ((cfg0.win 3).blk t0_0).view.emb y = y := by
  funext a
  apply Fin.ext
  refine Pipeline.Window.rect_emb_val_of_index_zero (cfg0.win 3) t0_0 a ?_ y
  exact idx3 a

/-- The one block of input 3 is its array, the array named by its window. -/
theorem whole3 (c : Dev nD) : (iblk m c 3 t0_0 : Vec Ideal S1x4096x1 .f32) = V m c (Pipeline.arrRef spec0 3) := by
  unfold iblk
  funext y
  rw [View.read_apply, cast_eq]
  exact congrArg (V m c (Pipeline.arrRef spec0 3)) (emb3 y)

/-- The array of input 3 by its name. -/
theorem name3 (c : Dev nD) : (V m c (Pipeline.arrRef spec0 3) : Vec Ideal S1x4096x1 .f32) = V m c main_v4 := rfl

/-- The one block of input 3 is its array. -/
theorem blk3 (c : Dev nD) : (iblk m c 3 t0_0 : Vec Ideal S1x4096x1 .f32) = V m c main_v4 :=
  (whole3 m c).trans (name3 m c)

/-- The reference reads the decoded weights whole. -/
theorem idx4 : ∀ a, (cfg0.win 4).index t0_0 a = 0 := by decide +kernel

/-- An entry of the one block of input 4 is the same entry of its array. -/
theorem emb4 (y : S8x4096x512.Idx) : ((cfg0.win 4).blk t0_0).view.emb y = y := by
  funext a
  apply Fin.ext
  refine Pipeline.Window.rect_emb_val_of_index_zero (cfg0.win 4) t0_0 a ?_ y
  exact idx4 a

/-- The one block of input 4 is its array, the array named by its window. -/
theorem whole4 (c : Dev nD) : (iblk m c 4 t0_0 : Vec Ideal S8x4096x512 .bf16) = V m c (Pipeline.arrRef spec0 4) := by
  unfold iblk
  funext y
  rw [View.read_apply, cast_eq]
  exact congrArg (V m c (Pipeline.arrRef spec0 4)) (emb4 y)

/-- The array of input 4 by its name. -/
theorem name4 (c : Dev nD) : (V m c (Pipeline.arrRef spec0 4) : Vec Ideal S8x4096x512 .bf16) = V m c main_v10 := rfl

/-- The one block of input 4 is its array. -/
theorem blk4 (c : Dev nD) : (iblk m c 4 t0_0 : Vec Ideal S8x4096x512 .bf16) = V m c main_v10 :=
  (whole4 m c).trans (name4 m c)

/-- The array of the first result is the block its one point leaves. -/
theorem arr5 (c : Dev nD) : (dats m 0 c).arrAt 5 cfg0.N = (out0_5 (F := Ideal) (V m c main_v1) (V m c main_v2) (V m c main_arg2) (V m c main_v4) (V m c main_v10) : Vec Ideal S8x4096x512 .f32) := by
  refine (dats m 0 c).arrAt_eq_of_after_last 5 t0_0 (by decide +kernel) _ fun j => ?_
  blk_simp
  rw [after0_5, blk0, blk1, blk2, blk3, blk4]

/-- The array of the second result is the block its one point leaves. -/
theorem arr6 (c : Dev nD) : (dats m 0 c).arrAt 6 cfg0.N = (out0_6 (F := Ideal) (V m c main_v1) (V m c main_v2) (V m c main_arg2) (V m c main_v4) (V m c main_v10) : Vec Ideal S1x4096 .f32) := by
  refine (dats m 0 c).arrAt_eq_of_after_last 6 t0_0 (by decide +kernel) _ fun j => ?_
  blk_simp
  rw [after0_6, blk0, blk1, blk2, blk3, blk4]

/-- The first result as the run ends it. -/
abbrev res0 (c : Dev nD) : Vec Ideal S8x512x4x8x128 .f32 := Pipeline.afterTail₀ cfgs (dats m) 0 (V0 m) [hostOps1] c main_v13

/-- The second result as the run ends it. -/
abbrev res1 (c : Dev nD) : Vec Ideal S16x1x256 .f32 := Pipeline.afterTail₀ cfgs (dats m) 0 (V0 m) [hostOps1] c main_v14

/-- The first result is the call's first output, tiled 8 by 128. -/
theorem res0_apply (c : Dev nD) (j : Fin 8) (a : Fin 512) (t : Fin 4) (b : Fin 8) (l : Fin 128) :
    res0 m c (ix5 j a t b l) = ((dats m 0 c).arrAt 5 cfg0.N : Vec Ideal S8x4096x512 .f32) (ix3 j ⟨a.val * 8 + b.val, by omega⟩ ⟨t.val * 128 + l.val, by omega⟩) := by
  unfold res0 Pipeline.afterTail₀
  after_reads_at
  exact congrFun (Pipeline.withArrays_arr (cfgs 0).spec winFacts0.arr_inj c (V0 m c) (fun w => (dats m 0 c).arrAt w (cfgs 0).N) 5) _

/-- The second result is the call's second output, a row for each 256. -/
theorem res1_apply (c : Dev nD) (a : Fin 16) (r : Fin 256) :
    res1 m c (ix3 a 0 r) = ((dats m 0 c).arrAt 6 cfg0.N : Vec Ideal S1x4096 .f32) (ix2 0 ⟨a.val * 256 + r.val, by omega⟩) := by
  unfold res1 Pipeline.afterTail₀
  after_reads_at
  exact congrFun (Pipeline.withArrays_arr (cfgs 0).spec winFacts0.arr_inj c (V0 m c) (fun w => (dats m 0 c).arrAt w (cfgs 0).N) 6) _

/-- The codes of the output gradient. -/
abbrev codes (c : Dev nD) : FVec Ideal S3x384x14336 .fp8e5m2 := m ((c : Thread nD τ).loc main_arg0)
/-- The scales of the tokens. -/
abbrev scales (c : Dev nD) : FVec Ideal S3x384 .f32 := m ((c : Thread nD τ).loc main_arg1)
/-- The features, plane by plane. -/
abbrev feats (c : Dev nD) : FVec Ideal S8x1152x512 .bf16 := m ((c : Thread nD τ).loc main_arg2)
/-- The scales of the rows. -/
abbrev rowScales (c : Dev nD) : FVec Ideal S14336 .f32 := m ((c : Thread nD τ).loc main_arg3)
/-- The decoded weights, two to a word. -/
abbrev wordsOf (c : Dev nD) : IVec S4x768x4x8x128 32 := m ((c : Thread nD τ).loc main_arg4)

/-- The weight gradient of plane `j`, of one row, of one group, from the arguments. -/
def grad (c : Dev nD) (j : Fin 8) (o : Fin 14336) (g : Fin 512) : EReal :=
  ∑ k : Fin 1152, codes m c (ix3 ⟨k.val / 384, by omega⟩ ⟨k.val % 384, by omega⟩ o)
    * scales m c (ix2 ⟨k.val / 384, by omega⟩ ⟨k.val % 384, by omega⟩) * feats m c (ix3 j k g)

/-- The call's weight gradient is that of the arguments. -/
theorem dw_eq (c : Dev nD) (j : Fin 8) (o : Fin 4096) (g : Fin 512) :
    dw (V m c main_v1) (V m c main_v2) (V m c main_arg2) j o g = grad m c j ⟨2048 + o.val, by omega⟩ g := by
  unfold dw grad
  refine Finset.sum_congr rfl fun k _ => ?_
  rw [V_codes, V_scales, V_main_arg2]

/-- The first result, entry by entry, from the arguments. -/
theorem res0_entry (c : Dev nD) (j : Fin 8) (a : Fin 512) (t : Fin 4) (b : Fin 8) (l : Fin 128) :
    res0 m c (ix5 j a t b l)
      = rowScales m c (ix1 ⟨2048 + (a.val * 8 + b.val), by omega⟩)
        * grad m c j ⟨2048 + (a.val * 8 + b.val), by omega⟩ ⟨t.val * 128 + l.val, by omega⟩ := by
  rw [res0_apply, arr5, out5_apply, V_rs, dw_eq]

/-- The second result, entry by entry, from the arguments. -/
theorem res1_entry (c : Dev nD) (a : Fin 16) (r : Fin 256) :
    res1 m c (ix3 a 0 r)
      = ∑ j : Fin 8, ∑ g : Fin 512, grad m c j ⟨2048 + (a.val * 256 + r.val), by omega⟩ g
          * half (j.val % 2) (wordsOf m c (ix5 ⟨j.val / 2, by omega⟩ ⟨(2048 + (a.val * 256 + r.val)) / 8, by omega⟩
                ⟨g.val / 128, by omega⟩ ⟨(2048 + (a.val * 256 + r.val)) % 8, by omega⟩ ⟨g.val % 128, by omega⟩)) := by
  rw [res1_apply, arr6, out6_apply]
  refine Finset.sum_congr rfl fun j _ => Finset.sum_congr rfl fun g _ => ?_
  rw [dw_eq, V_dec]

/-- The run: the two results, the arguments unchanged. -/
theorem run : θ_run defs (onTc (τ := τ) (main (F := Ideal))) ⟨m, fun _ => 0, ρ⟩ fun r => ∀ c : Dev nD,
      r.2.mem ((c : Thread nD τ).loc main_v13) = res0 m c
      ∧ r.2.mem ((c : Thread nD τ).loc main_v14) = res1 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h.2 c).2 main_v13 (Pipeline.mem_restRefs_of main_v13 (by decide) (by decide)),
      (h.2 c).2 main_v14 (Pipeline.mem_restRefs_of main_v14 (by decide) (by decide)), h.1 c⟩)
    (θ_run_and (Gen.unchanged m ρ) (Gen.run_main m ρ))

end Cert.ReferenceBIdeal.Plain

end
-- ==== Proof.EqualB.lean ====
/-
  The weight-gradient call and the reference leave the same two results, from the same arguments.
-/
module

public import proofs.«01_k».proof.Proof.ArrayB
public import proofs.«01_k».proof.Proof.RefB

@[expose] public section

set_option maxRecDepth 16384

noncomputable section

namespace Cert.EqualB

open Idealize.ShloMosaic Idealize.SL.Sem Cert.Half

variable (m : (ℓ : Loc Cert.KernelBIdeal.nD Cert.KernelBIdeal.τ Cert.KernelBIdeal.sig) → Buf (Elt Ideal) ℓ)
  (m' : (ℓ : Loc Cert.ReferenceBIdeal.nD Cert.ReferenceBIdeal.τ Cert.ReferenceBIdeal.sig) → Buf (Elt Ideal) ℓ)
      (h : ∀ c : Dev Cert.KernelBIdeal.nD, m' ((c.tc : Thread Cert.ReferenceBIdeal.nD Cert.ReferenceBIdeal.τ).loc Cert.ReferenceBIdeal.main_arg0) = m ((c.tc : Thread Cert.KernelBIdeal.nD Cert.KernelBIdeal.τ).loc Cert.KernelBIdeal.main_arg0)
      ∧ m' ((c.tc : Thread Cert.ReferenceBIdeal.nD Cert.ReferenceBIdeal.τ).loc Cert.ReferenceBIdeal.main_arg1) = m ((c.tc : Thread Cert.KernelBIdeal.nD Cert.KernelBIdeal.τ).loc Cert.KernelBIdeal.main_arg1)
      ∧ m' ((c.tc : Thread Cert.ReferenceBIdeal.nD Cert.ReferenceBIdeal.τ).loc Cert.ReferenceBIdeal.main_arg2) = m ((c.tc : Thread Cert.KernelBIdeal.nD Cert.KernelBIdeal.τ).loc Cert.KernelBIdeal.main_arg2)
      ∧ m' ((c.tc : Thread Cert.ReferenceBIdeal.nD Cert.ReferenceBIdeal.τ).loc Cert.ReferenceBIdeal.main_arg3) = m ((c.tc : Thread Cert.KernelBIdeal.nD Cert.KernelBIdeal.τ).loc Cert.KernelBIdeal.main_arg3)
      ∧ m' ((c.tc : Thread Cert.ReferenceBIdeal.nD Cert.ReferenceBIdeal.τ).loc Cert.ReferenceBIdeal.main_arg4) = m ((c.tc : Thread Cert.KernelBIdeal.nD Cert.KernelBIdeal.τ).loc Cert.KernelBIdeal.main_arg4))

include h

/-- The two programs read the same codes. -/
theorem codes_eq (c : Dev Cert.KernelBIdeal.nD) : Cert.ReferenceBIdeal.Plain.codes m' c = Cert.KernelBIdeal.Array.codes m c := (h c).1
/-- The two programs read the same token scales. -/
theorem scales_eq (c : Dev Cert.KernelBIdeal.nD) : Cert.ReferenceBIdeal.Plain.scales m' c = Cert.KernelBIdeal.Array.scales m c := (h c).2.1
/-- The two programs read the same features. -/
theorem feats_eq (c : Dev Cert.KernelBIdeal.nD) : Cert.ReferenceBIdeal.Plain.feats m' c = Cert.KernelBIdeal.Array.feats m c := (h c).2.2.1
/-- The two programs read the same row scales. -/
theorem rowScales_eq (c : Dev Cert.KernelBIdeal.nD) : Cert.ReferenceBIdeal.Plain.rowScales m' c = Cert.KernelBIdeal.Array.rowScales m c := (h c).2.2.2.1
/-- The two programs read the same words. -/
theorem wordsOf_eq (c : Dev Cert.KernelBIdeal.nD) : Cert.ReferenceBIdeal.Plain.wordsOf m' c = Cert.KernelBIdeal.Array.wordsOf m c := (h c).2.2.2.2

/-- The two weight gradients are one sum. -/
theorem grad_eq (c : Dev Cert.KernelBIdeal.nD) (j : Fin 8) (o : Fin 14336) (g : Fin 512) :
    Cert.ReferenceBIdeal.Plain.grad m' c j o g = Cert.KernelBIdeal.Array.grad m c j o g := by
  unfold Cert.ReferenceBIdeal.Plain.grad Cert.KernelBIdeal.Array.grad
  rw [codes_eq m m' h, scales_eq m m' h, feats_eq m m' h]

/-- The first results agree: the row's scale stands on the other side of the product. -/
theorem first (c : Dev Cert.KernelBIdeal.nD) :
    (Cert.ReferenceBIdeal.Plain.res0 m' c : FVec Ideal Cert.KernelBIdeal.S8x512x4x8x128 .f32) = Cert.KernelBIdeal.Value.G5 m c := by
  funext y
  idx_vars y
  refine (Cert.ReferenceBIdeal.Plain.res0_entry m' c _ _ _ _ _).trans (Eq.trans ?_ (Cert.KernelBIdeal.Array.G5_apply m c _ _ _ _ _).symm)
  rw [grad_eq m m' h, rowScales_eq m m' h]
  exact mul_comm _ _

/-- The second results agree. -/
theorem second (c : Dev Cert.KernelBIdeal.nD) :
    (Cert.ReferenceBIdeal.Plain.res1 m' c : FVec Ideal Cert.KernelBIdeal.S16x1x256 .f32) = Cert.KernelBIdeal.Value.G6 m c := by
  funext y
  idx_vars y
  obtain rfl : y1 = 0 := Subsingleton.elim _ _
  refine (Cert.ReferenceBIdeal.Plain.res1_entry m' c _ _).trans (Eq.trans ?_ (Cert.KernelBIdeal.Array.G6_apply m c _ _).symm)
  rw [wordsOf_eq m m' h]
  exact Finset.sum_congr rfl fun j _ => Finset.sum_congr rfl fun g _ => congrArg (· * _) (grad_eq m m' h c j _ g)

end Cert.EqualB

end
-- ==== Proof.Planes.lean ====
/-
  One grid point of the call that splits the features into planes: the product with the permutation it builds.
-/
module

public import proofs.«01_k».proof.Proof.Gen.KernelPlanesIdeal.Value
public import proofs.«01_k».proof.Proof.Gen.ReferencePlanesIdeal.Run
public import Idealize.ShloMosaic.Lib.Pointwise
public import Idealize.ShloMosaic.Lib.Pipeline.ValueKit.Tiles
public import Idealize.ShloMosaic.Lib.StableHlo.ReadAt

@[expose] public section

set_option maxRecDepth 16384

noncomputable section

namespace Cert.KernelPlanesIdeal.Split

open Cert.KernelPlanesIdeal Cert.KernelPlanesIdeal.Gen Cert.KernelPlanesIdeal.Value Idealize.ShloMosaic Idealize.ShloMosaic.TcCoe Idealize.SL.Sem

/-- The column of the block's product that source column `a` of the features goes to, read backwards: column `b` takes source
column `8 (b mod 128) + b / 128`. -/
abbrev src (b : Fin 1024) : ℕ := b.val % 128 * 8 + b.val / 128

/-- The positions the permutation is one at. -/
theorem mask_apply (a b : Fin 1024) :
    k0_pay4 (ix2 a b) = IntOp.cmpi CmpIPredicate.eq (BitVec.ofNat 32 a.val) (BitVec.ofNat 32 (src b)) := by
  unfold k0_pay4
  pointwise
  refine congrArg (IntOp.cmpi CmpIPredicate.eq (BitVec.ofNat 32 a.val)) ?_
  clear a
  revert b
  decide +kernel

/-- The permutation the first grid point leaves in the scratch. -/
theorem perm_apply (a b : Fin 1024) :
    k0_pay5 (F := Ideal) k0_pay4 (ix2 a b) = if a.val = src b then 1 else 0 := by
  unfold k0_pay5
  pointwise
  rw [mask_apply]
  have hs : src b < 1024 := by show b.val % 128 * 8 + b.val / 128 < 1024; omega
  split
  · next h =>
    rw [h, show BitVec.setWidth 32 (IntOp.cmpi CmpIPredicate.eq (BitVec.ofNat 32 (src b)) (BitVec.ofNat 32 (src b))) = 1#32 from by
      simp [IntOp.cmpi]]
    show (((1#32 : BitVec 32).toInt : ℝ) : EReal) = 1
    norm_num
  · next h =>
    have hne : BitVec.ofNat 32 a.val ≠ BitVec.ofNat 32 (src b) := fun e => h (by
      have e' := congrArg BitVec.toNat e
      rw [BitVec.toNat_ofNat, BitVec.toNat_ofNat] at e'
      have ha := a.isLt
      omega)
    rw [show BitVec.setWidth 32 (IntOp.cmpi CmpIPredicate.eq (BitVec.ofNat 32 a.val) (BitVec.ofNat 32 (src b))) = 0#32 from by
      show BitVec.setWidth 32 (BitVec.ofBool (BitVec.ofNat 32 a.val == BitVec.ofNat 32 (src b))) = 0#32
      rw [beq_eq_false_iff_ne.2 hne]
      rfl]
    show (((0#32 : BitVec 32).toInt : ℝ) : EReal) = 0
    norm_num

/-- One plane's block: column `l` of plane `j` is the product's column `128 j + l`. -/
def blk (x : FVec Ideal S1152x1024 .bf16) (P : FVec Ideal S1024x1024 .bf16) : FVec Ideal S8x1152x128 .bf16 :=
  fun y => ∑ s : Fin 1024, x (ix2 (y 1) s) * P (ix2 s ⟨(y 0).val * 128 + (y 2).val, by
    have h0 : (y 0).val < 8 := (y 0).isLt
    have h2 : (y 2).val < 128 := (y 2).isLt
    omega⟩)

/-- One stored plane is that plane of the block. -/
theorem piece_eq (x : FVec Ideal S1152x1024 .bf16) (P : FVec Ideal S1024x1024 .bf16) (j o : ℕ) (hj : j < 8) (ho : o = j * 128)
    (inb : ∀ a : Fin S8x1152x128.rank, (![j, 0, 0] : Fin 3 → ℕ) a + (![1, 1152, 128] : Fin 3 → ℕ) a ≤ S8x1152x128.size a)
    (hs : S1152x1024.Slices ![0, o] S1152x128) (y : S1x1152x128.Idx) :
    shapeCast S1x1152x128 (truncf .bf16 (extractStridedSlice S1152x128 ![0, o] (k0_pay6 (F := Ideal) x P) hs) bitsLt_bf16_f32)
      shapeCasts_S1152x128_S1x1152x128 y
    = blk x P ((Rect.unit (s := S8x1152x128) ![j, 0, 0] ![1, 1152, 128] inb).emb y) := by
  subst ho
  unfold k0_pay6
  idx_vars y
  pointwise
  have e : (Rect.unit (s := S8x1152x128) ![j, 0, 0] ![1, 1152, 128] inb).emb (ix3 y0 y1 y2) = ix3 ⟨j, hj⟩ y1 y2 := by
    funext a
    refine Fin.ext ((Rect.idx_unit_val _ _ inb _ a).trans ?_)
    match a with
    | ⟨0, _⟩ => show j + y0.val = j; omega
    | ⟨1, _⟩ => exact Nat.zero_add _
    | ⟨2, _⟩ => exact Nat.zero_add _
  rw [e]
  rfl

/-- One stored plane. -/
abbrev piece (x : FVec Ideal S1152x1024 .bf16) (P : FVec Ideal S1024x1024 .bf16) (j o : ℕ)
    (inb : ∀ a : Fin S8x1152x128.rank, (![j, 0, 0] : Fin 3 → ℕ) a + (![1, 1152, 128] : Fin 3 → ℕ) a ≤ S8x1152x128.size a)
    (hs : S1152x1024.Slices ![0, o] S1152x128) : View.Piece (Elt Ideal) S8x1152x128 .bf16 :=
  ⟨Rect.unit (s := S8x1152x128) ![j, 0, 0] ![1, 1152, 128] inb,
    shapeCast S1x1152x128 (truncf .bf16 (extractStridedSlice S1152x128 ![0, o] (k0_pay6 (F := Ideal) x P) hs) bitsLt_bf16_f32)
      shapeCasts_S1152x128_S1x1152x128⟩

/-- A stored plane is that plane of the block. -/
theorem piece_ok (x : FVec Ideal S1152x1024 .bf16) (P : FVec Ideal S1024x1024 .bf16) (j o : ℕ) (hj : j < 8) (ho : o = j * 128)
    (inb : ∀ a : Fin S8x1152x128.rank, (![j, 0, 0] : Fin 3 → ℕ) a + (![1, 1152, 128] : Fin 3 → ℕ) a ≤ S8x1152x128.size a)
    (hs : S1152x1024.Slices ![0, o] S1152x128) (y : S1x1152x128.Idx) :
    (piece x P j o inb hs).2 y = blk x P ((piece x P j o inb hs).1.emb y) :=
  piece_eq x P j o hj ho inb hs y

/-- The eight stored planes, the last stored first. -/
abbrev pieces (x : FVec Ideal S1152x1024 .bf16) (P : FVec Ideal S1024x1024 .bf16) : List (View.Piece (Elt Ideal) S8x1152x128 .bf16) :=
  [piece x P 7 896 inb_S8x1152x128_S1x1152x128_7_0_0 slices_S1152x1024_o0_896_S1152x128,
    piece x P 6 768 inb_S8x1152x128_S1x1152x128_6_0_0 slices_S1152x1024_o0_768_S1152x128,
    piece x P 5 640 inb_S8x1152x128_S1x1152x128_5_0_0 slices_S1152x1024_o0_640_S1152x128,
    piece x P 4 512 inb_S8x1152x128_S1x1152x128_4_0_0 slices_S1152x1024_o0_512_S1152x128,
    piece x P 3 384 inb_S8x1152x128_S1x1152x128_3_0_0 slices_S1152x1024_o0_384_S1152x128,
    piece x P 2 256 inb_S8x1152x128_S1x1152x128_2_0_0 slices_S1152x1024_o0_256_S1152x128,
    piece x P 1 128 inb_S8x1152x128_S1x1152x128_1_0_0 slices_S1152x1024_o0_128_S1152x128,
    piece x P 0 0 inb_S8x1152x128_S1x1152x128_0_0_0 slices_S1152x1024_o0_0_S1152x128]

/-- The eight stored planes make up the block. -/
theorem canon_pieces (x : FVec Ideal S1152x1024 .bf16) (P : FVec Ideal S1024x1024 .bf16) :
    View.canon (pieces x P) = blk x P := by
  funext y
  refine View.canon_apply_of_pieces (Val := Elt Ideal) (e := .bf16) (blk x P) _ ?_ y ?_
  · refine List.forall_mem_cons.2 ⟨piece_ok x P 7 896 (by norm_num) rfl _ _, ?_⟩
    refine List.forall_mem_cons.2 ⟨piece_ok x P 6 768 (by norm_num) rfl _ _, ?_⟩
    refine List.forall_mem_cons.2 ⟨piece_ok x P 5 640 (by norm_num) rfl _ _, ?_⟩
    refine List.forall_mem_cons.2 ⟨piece_ok x P 4 512 (by norm_num) rfl _ _, ?_⟩
    refine List.forall_mem_cons.2 ⟨piece_ok x P 3 384 (by norm_num) rfl _ _, ?_⟩
    refine List.forall_mem_cons.2 ⟨piece_ok x P 2 256 (by norm_num) rfl _ _, ?_⟩
    refine List.forall_mem_cons.2 ⟨piece_ok x P 1 128 (by norm_num) rfl _ _, ?_⟩
    refine List.forall_mem_cons.2 ⟨piece_ok x P 0 0 (by norm_num) rfl _ _, ?_⟩
    exact List.forall_mem_nil _
  · refine View.cover_of_tiledL _ ![1, 1152, 128] ?_ y
    sl_kernel_rfl

/-- No offset. -/
theorem hz : (![0, 0] : Fin 2 → Nat) = fun _ => 0 := funext fun a => by fin_cases a <;> rfl

/-- The block at the first grid point, which sets the permutation. -/
theorem out_A (c : Dev nD) (i : grid0.Coords) (arg1 : Memref sig .tc .vmem S1152x1024 .bf16) (harg1 : arg1.IsWhole) (arg2 : Memref sig .tc .vmem S8x1152x128 .bf16) (harg2 : arg2.IsWhole) (arg3 : Memref sig .tc .vmem S1024x1024 .bf16) (harg3 : arg3.IsWhole)
    (hc0 : cond0_0 i) (x0 : Vec Ideal S1152x1024 .bf16) :
    out0_A_1 (F := Ideal) c i arg1 harg1 arg2 harg2 arg3 harg3 hc0 x0 = blk x0 (k0_pay5 (F := Ideal) k0_pay4) := by
  unfold out0_A_1
  rw [View.read_writes_eq_canon _ _ _ (cover0_A_1 c i arg1 harg1 arg2 harg2 arg3 harg3 hc0 x0)]
  unfold kernelRun0_A
  dsimp only
  sl_unfold_words
  simp only [View.readAt_eq_ld, harg1.read_unread, harg3.read_unread]
  rw [View.ld_unit_zero (S := S1152x1024) hz _ x0, View.readCov_unit_zero (S := S1024x1024) _ hz]
  exact (show _ = View.canon (pieces x0 (k0_pay5 (F := Ideal) k0_pay4)) from rfl).trans (canon_pieces _ _)

/-- The block at a later grid point, which reads the permutation. -/
theorem out_B (c : Dev nD) (i : grid0.Coords) (arg1 : Memref sig .tc .vmem S1152x1024 .bf16) (harg1 : arg1.IsWhole) (arg2 : Memref sig .tc .vmem S8x1152x128 .bf16) (harg2 : arg2.IsWhole) (arg3 : Memref sig .tc .vmem S1024x1024 .bf16) (harg3 : arg3.IsWhole)
    (hc0 : ¬cond0_0 i) (x0 : Vec Ideal S1152x1024 .bf16) (xs0 : Vec Ideal S1024x1024 .bf16) :
    out0_B_1 (F := Ideal) c i arg1 harg1 arg2 harg2 arg3 harg3 hc0 x0 xs0 = blk x0 xs0 := by
  unfold out0_B_1
  rw [View.read_writes_eq_canon _ _ _ (cover0_B_1 c i arg1 harg1 arg2 harg2 arg3 harg3 hc0 x0 xs0)]
  unfold kernelRun0_B
  dsimp only
  sl_unfold_words
  simp only [View.readAt_eq_ld, harg1.read_unread, harg3.read_unread]
  rw [View.ld_unit_zero (S := S1152x1024) hz _ x0, View.ld_unit_zero (S := S1024x1024) hz _ xs0]
  exact (show _ = View.canon (pieces x0 xs0) from rfl).trans (canon_pieces _ _)

/-- The scratch after the first grid point: the permutation. -/
theorem sout_A (c : Dev nD) (i : grid0.Coords) (arg1 : Memref sig .tc .vmem S1152x1024 .bf16) (harg1 : arg1.IsWhole) (arg2 : Memref sig .tc .vmem S8x1152x128 .bf16) (harg2 : arg2.IsWhole) (arg3 : Memref sig .tc .vmem S1024x1024 .bf16) (harg3 : arg3.IsWhole)
    (hc0 : cond0_0 i) (x0 : Vec Ideal S1152x1024 .bf16) :
    sout0_A_0 (F := Ideal) c i arg1 harg1 arg2 harg2 arg3 harg3 hc0 x0 = k0_pay5 (F := Ideal) k0_pay4 := by
  unfold sout0_A_0
  rw [View.read_writes_eq_canon _ _ _ (scover0_A_0 c i arg1 harg1 arg2 harg2 arg3 harg3 hc0 x0)]
  unfold kernelRun0_A
  dsimp only
  sl_unfold_words
  rw [View.canon_cons_unit_zero (S := S1024x1024) hz]
  rfl

/-- A later grid point leaves the scratch as it was. -/
theorem sout_B (c : Dev nD) (i : grid0.Coords) (arg1 : Memref sig .tc .vmem S1152x1024 .bf16) (harg1 : arg1.IsWhole) (arg2 : Memref sig .tc .vmem S8x1152x128 .bf16) (harg2 : arg2.IsWhole) (arg3 : Memref sig .tc .vmem S1024x1024 .bf16) (harg3 : arg3.IsWhole)
    (hc0 : ¬cond0_0 i) (x0 : Vec Ideal S1152x1024 .bf16) (xs0 : Vec Ideal S1024x1024 .bf16) :
    sout0_B_0 (F := Ideal) c i arg1 harg1 arg2 harg2 arg3 harg3 hc0 x0 xs0 = xs0 := rfl

variable (m : (ℓ : Loc nD τ sig) → Buf (Elt Ideal) ℓ)

/-- The features as launched. -/
abbrev feats (c : Dev nD) : FVec Ideal S3x384x4096 .bf16 := m ((c : Thread nD τ).loc main_arg0)

/-- The features as the call reads them: one row per token. -/
theorem V_feats (c : Dev nD) (k : Fin 1152) (o : Fin 4096) :
    V m c main_v0 (ix2 k o) = feats m c (ix3 ⟨k.val / 384, by omega⟩ ⟨k.val % 384, by omega⟩ o) := by
  unfold V
  after_reads_at

/-- Which block of the features a grid point reads. -/
theorem idx0 : ∀ t : Fin cfg0.N, win0_0.index t 0 = 0 ∧ win0_0.index t 1 = t.val :=
  (by decide +kernel : ∀ t : Fin grid0.N, win0_0.index t 0 = 0 ∧ win0_0.index t 1 = t.val)

/-- The grid's length. -/
theorem lt_N (t : Fin cfg0.N) : t.val < 4 := lt_of_lt_of_eq t.isLt N_0

/-- The block of features a grid point reads. -/
theorem blk0 (c : Dev nD) (t : Fin cfg0.N) (k : Fin 1152) (s : Fin 1024) :
    (iblk m c 0 t : Vec Ideal S1152x1024 .bf16) (ix2 k s)
      = feats m c (ix3 ⟨k.val / 384, by omega⟩ ⟨k.val % 384, by omega⟩ ⟨t.val * 1024 + s.val, by have := lt_N t; omega⟩) := by
  refine Eq.trans ?_ (V_feats m c k _)
  unfold iblk
  rw [View.read_apply]
  show V m c main_v0 _ = V m c main_v0 _
  congr 1
  funext a
  apply Fin.ext
  match a with
  | ⟨0, _⟩ => show win0_0.index t 0 * 1152 + 1 * k.val = k.val; rw [(idx0 t).1]; omega
  | ⟨1, _⟩ => show win0_0.index t 1 * 1024 + 1 * s.val = t.val * 1024 + s.val; rw [(idx0 t).2]; omega

/-- After every grid point the scratch holds the permutation. -/
theorem scratch (c : Dev nD) : ∀ (n : ℕ) (hn : n < cfg0.N), (outsAt0 m c n hn).2 = k0_pay5 (F := Ideal) k0_pay4
  | 0, hn => by
    have e := outsAt0_A m c ⟨0, hn⟩ (Nat.zero_mod _)
    dsimp only at e
    rw [e]
    dsimp only
    rw [sout_A]
  | n + 1, hn => by
    have hN : cfg0.N = 4 := N_0
    have e := outsAt0_B m c ⟨n + 1, hn⟩ (by dsimp only; omega)
    dsimp only at e
    rw [e]
    dsimp only
    rw [sout_B]
    exact scratch c n _

/-- What a grid point leaves for the result. -/
theorem outs (c : Dev nD) (t : Fin cfg0.N) :
    (outsAt0 m c t.val t.isLt).1 = blk (iblk m c 0 t) (k0_pay5 (F := Ideal) k0_pay4) := by
  by_cases h : t.val % 4 = 0
  · rw [outsAt0_A m c t h]
    dsimp only
    rw [out_A]
  · rw [outsAt0_B m c t h]
    dsimp only
    rw [out_B, scratch]

/-- The product with the permutation is a reading of the source column. -/
theorem blk_apply (x : FVec Ideal S1152x1024 .bf16) (j : Fin 8) (k : Fin 1152) (l : Fin 128) :
    blk x (k0_pay5 (F := Ideal) k0_pay4) (ix3 j k l) = x (ix2 k ⟨l.val * 8 + j.val, by omega⟩) := by
  have hb : ∀ s : Fin 1024, (s.val = src ⟨j.val * 128 + l.val, by omega⟩) ↔ s = ⟨l.val * 8 + j.val, by omega⟩ := fun s => by
    rw [Fin.ext_iff]
    show s.val = (j.val * 128 + l.val) % 128 * 8 + (j.val * 128 + l.val) / 128 ↔ s.val = l.val * 8 + j.val
    omega
  show ∑ s : Fin 1024, x (ix2 k s) * k0_pay5 (F := Ideal) k0_pay4 (ix2 s ⟨j.val * 128 + l.val, by omega⟩) = _
  rw [Finset.sum_eq_single (⟨l.val * 8 + j.val, by omega⟩ : Fin 1024)]
  · rw [perm_apply, if_pos ((hb _).2 rfl)]
    exact mul_one _
  · intro s _ hs
    rw [perm_apply, if_neg (fun h => hs ((hb s).1 h))]
    exact mul_zero _
  · exact fun h => absurd (Finset.mem_univ _) h

/-- The result, entry by entry: plane `j` holds feature `8 g + j` of each token. -/
theorem G1_apply (c : Dev nD) (j : Fin 8) (k : Fin 1152) (g : Fin 512) :
    (G1 m c : Vec Ideal S8x1152x512 .bf16) (ix3 j k g)
      = feats m c (ix3 ⟨k.val / 384, by omega⟩ ⟨k.val % 384, by omega⟩ ⟨g.val * 8 + j.val, by omega⟩) := by
  have hN : cfg0.N = 4 := N_0
  have hp : pt1Of (ix3 j k g) = g.val / 128 := by
    show 4 * (j.val / 8 - 0) + 4 * (k.val / 1152 - 0) + 1 * (g.val / 128 - 0) = _
    omega
  have hl : loc1Of (ix3 j k g) = ix3 j k ⟨g.val % 128, by omega⟩ := by
    funext i
    apply Fin.ext
    match i with
    | ⟨0, _⟩ => exact Nat.mod_eq_of_lt j.isLt
    | ⟨1, _⟩ => exact Nat.mod_eq_of_lt k.isLt
    | ⟨2, _⟩ => rfl
  have hlt : g.val / 128 < cfg0.N := by omega
  unfold G1
  simp only [hp, hl, hlt, dif_pos]
  rw [← outsAt0_sweep m c _ hlt, outs m c ⟨g.val / 128, hlt⟩]
  refine (blk_apply _ j k _).trans ?_
  rw [blk0]
  refine congrArg (feats m c) (congrArg (ix3 _ _) (Fin.ext ?_))
  dsimp only
  omega

end Cert.KernelPlanesIdeal.Split

namespace Cert.EqualPlanes

open Cert.ReferencePlanesIdeal Cert.ReferencePlanesIdeal.Gen Idealize.ShloMosaic Idealize.SL.Sem

/-- The reference's result. -/
abbrev plain (x : FVec Ideal S3x384x4096 .bf16) : FVec Ideal S8x1152x512 .bf16 :=
  transpose S8x1152x512 [2, 0, 1] (shapeCast S1152x512x8 x shapeCasts_S3x384x4096_S1152x512x8) transposes_S1152x512x8_S8x1152x512_2_0_1

/-- The reference's result, entry by entry. -/
theorem plain_apply (x : FVec Ideal S3x384x4096 .bf16) (j : Fin 8) (k : Fin 1152) (g : Fin 512) :
    plain x (ix3 j k g) = x (ix3 ⟨k.val / 384, by omega⟩ ⟨k.val % 384, by omega⟩ ⟨g.val * 8 + j.val, by omega⟩) := by
  unfold plain
  pointwise

/-- The call and the reference leave the same planes, from the same features. -/
theorem equal (m : (ℓ : Loc Cert.KernelPlanesIdeal.nD Cert.KernelPlanesIdeal.τ Cert.KernelPlanesIdeal.sig) → Buf (Elt Ideal) ℓ)
    (x : FVec Ideal S3x384x4096 .bf16) (c : Dev Cert.KernelPlanesIdeal.nD) (h : x = Cert.KernelPlanesIdeal.Split.feats m c) :
    (plain x : FVec Ideal Cert.KernelPlanesIdeal.S8x1152x512 .bf16) = Cert.KernelPlanesIdeal.Value.G1 m c := by
  subst h
  funext y
  idx_vars y
  exact (plain_apply _ _ _ _).trans (Cert.KernelPlanesIdeal.Split.G1_apply m c _ _ _).symm

end Cert.EqualPlanes

end
-- ==== Proof.Combine.lean ====
/-
  The call that adds the four shares of the bins, and its reference: entry by entry both are the sum of the four shares.
-/
module

public import proofs.«01_k».proof.Proof.Gen.KernelCombineIdeal.Value
public import proofs.«01_k».proof.Proof.Gen.ReferenceCombineIdeal.Run
public import Idealize.ShloMosaic.Lib.Pointwise
public import Idealize.ShloMosaic.Lib.StableHlo.ReadAt

@[expose] public section

set_option maxRecDepth 16384

noncomputable section

namespace Cert.KernelCombineIdeal.Sum

open Cert.KernelCombineIdeal Cert.KernelCombineIdeal.Gen Cert.KernelCombineIdeal.Value Idealize.ShloMosaic Idealize.ShloMosaic.TcCoe Idealize.SL.Sem

variable (m : (ℓ : Loc nD τ sig) → Buf (Elt Ideal) ℓ)

/-- The sum of the four shares of entry `(b, n)`. -/
def total (p : FVec Ideal S2097152 .f32) (b : Fin 8) (n : Fin 65536) : EReal :=
  ∑ s : Fin 4, p (ix1 ⟨(s.val * 8 + b.val) * 65536 + n.val, by omega⟩)

/-- The shares as launched. -/
abbrev parts (c : Dev nD) : FVec Ideal S2097152 .f32 := m ((c : Thread nD τ).loc main_arg0)

/-- The result the call ends with. -/
def res (c : Dev nD) : Buf (Elt Ideal) ((c : Thread nD τ).loc main_v1) := fun i : S8x65536.Idx => total (parts m c) (i 0) (i 1)

/-- The shares as the call reads them: the bins 128 to a row. -/
theorem V_parts (c : Dev nD) (s : Fin 4) (b : Fin 8) (r : Fin 512) (l : Fin 128) :
    V m c main_v0 (ix4 s b r l) = parts m c (ix1 ⟨(s.val * 8 + b.val) * 65536 + (r.val * 128 + l.val), by omega⟩) := by
  unfold V
  after_reads_at
  refine congrArg (parts m c) (congrArg ix1 (Fin.ext ?_))
  dsimp only
  omega

/-- Which block of the shares a grid point reads, and which block of the result it writes. -/
theorem idx : ∀ t : Fin cfg0.N, win0_0.index t 0 = 0 ∧ win0_0.index t 1 = 0 ∧ win0_0.index t 2 = t.val ∧ win0_0.index t 3 = 0
    ∧ win0_1.index t 0 = 0 ∧ win0_1.index t 1 = t.val :=
  (by decide +kernel : ∀ t : Fin grid0.N, win0_0.index t 0 = 0 ∧ win0_0.index t 1 = 0 ∧ win0_0.index t 2 = t.val ∧ win0_0.index t 3 = 0
    ∧ win0_1.index t 0 = 0 ∧ win0_1.index t 1 = t.val)

/-- The grid's length. -/
theorem lt_N (t : Fin cfg0.N) : t.val < 4 := lt_of_lt_of_eq t.isLt N_0

/-- The block of shares a grid point reads. -/
theorem blk0 (c : Dev nD) (t : Fin cfg0.N) (s : Fin 4) (b : Fin 8) (r : Fin 128) (l : Fin 128) :
    (iblk m c 0 t : Vec Ideal S4x8x128x128 .f32) (ix4 s b r l)
      = parts m c (ix1 ⟨(s.val * 8 + b.val) * 65536 + ((t.val * 128 + r.val) * 128 + l.val), by have := lt_N t; omega⟩) := by
  refine Eq.trans ?_ (V_parts m c s b ⟨t.val * 128 + r.val, by have := lt_N t; omega⟩ l)
  unfold iblk
  rw [View.read_apply]
  show V m c main_v0 _ = V m c main_v0 _
  congr 1
  funext a
  apply Fin.ext
  match a with
  | ⟨0, _⟩ => show win0_0.index t 0 * 4 + 1 * s.val = s.val; rw [(idx t).1]; omega
  | ⟨1, _⟩ => show win0_0.index t 1 * 8 + 1 * b.val = b.val; rw [(idx t).2.1]; omega
  | ⟨2, _⟩ => show win0_0.index t 2 * 128 + 1 * r.val = t.val * 128 + r.val; rw [(idx t).2.2.1]; omega
  | ⟨3, _⟩ => show win0_0.index t 3 * 128 + 1 * l.val = l.val; rw [(idx t).2.2.2.1]; omega

/-- No offset. -/
theorem hz4 : (![0, 0, 0, 0] : Fin 4 → Nat) = fun _ => 0 := funext fun a => by fin_cases a <;> rfl

/-- The block a grid point leaves, entry by entry. -/
theorem out_apply (x : FVec Ideal S4x8x128x128 .f32) (b : Fin 8) (n : Fin 16384) :
    out0_1 (F := Ideal) x (ix2 b n) = ∑ s : Fin 4, x (ix4 s b ⟨n.val / 128, by omega⟩ ⟨n.val % 128, by omega⟩) := by
  unfold out0_1
  rw [canon1_eq, show View.ld (Val := Elt Ideal) (e' := .f32) x r0_0 = x from View.ld_unit_zero (S := S4x8x128x128) (Val := Elt Ideal) (e := .f32) hz4 _ x]
  have e : ix1_0 (ix2 b n) = ix3 b ⟨n.val / 128, by omega⟩ ⟨n.val % 128, by omega⟩ := by
    funext a
    match a with
    | ⟨0, _⟩ => rfl
    | ⟨1, _⟩ => rfl
    | ⟨2, _⟩ => rfl
  unfold E1
  rw [e]
  pointwise

/-- What a grid point writes back is its block of the result. -/
theorem flushed (c : Dev nD) (t : Fin cfg0.N) :
    (dats m 0 c).flushed 1 t = ((cfg0.win 1).blk t).view.read (Elt Ideal) (res m c) := by
  rw [flushed1]
  funext y
  have hy0 : (y 0).val < 8 := (y 0).isLt
  have hy1 : (y 1).val < 16384 := (y 1).isLt
  have h := lt_N t
  rw [View.read_apply]
  have e0 : ((cfg0.win 1).blk t).view.emb y 0 = (⟨(y 0).val, hy0⟩ : Fin 8) := Fin.ext (by
    show win0_1.index t 0 * 8 + 1 * (y 0).val = (y 0).val
    rw [(idx t).2.2.2.2.1]; omega)
  have e1 : ((cfg0.win 1).blk t).view.emb y 1 = (⟨t.val * 16384 + (y 1).val, by omega⟩ : Fin 65536) := Fin.ext (by
    show win0_1.index t 1 * 16384 + 1 * (y 1).val = t.val * 16384 + (y 1).val
    rw [(idx t).2.2.2.2.2]; omega)
  show _ = total (parts m c) (((cfg0.win 1).blk t).view.emb y 0) (((cfg0.win 1).blk t).view.emb y 1)
  rw [e0, e1]
  refine Eq.trans (?_ : _ = out0_1 (F := Ideal) (iblk m c 0 t) (ix2 ⟨(y 0).val, hy0⟩ ⟨(y 1).val, hy1⟩)) ?_
  · show out0_1 (F := Ideal) (iblk m c 0 t) _ = _
    congr 1
    funext a
    match a with
    | ⟨0, _⟩ => rfl
    | ⟨1, _⟩ => rfl
  · rw [out_apply]
    unfold total
    refine Finset.sum_congr rfl fun s _ => ?_
    rw [blk0]
    exact congrArg (parts m c) (congrArg ix1 (Fin.ext (by dsimp only; omega)))

/-- An entry is in a grid point's block iff its coordinates are in the block's ranges. -/
theorem mem_blk (t : Fin cfg0.N) (i : S8x65536.Idx) :
    i ∈ ((cfg0.win 1).blk t).view.set ↔ ∀ a : Fin 2, win0_1.index t a * S8x16384.size a ≤ (i a).val ∧ (i a).val < win0_1.index t a * S8x16384.size a + S8x16384.size a := by
  show i ∈ ((View.whole main_v1).slice (win0_1.rect t)).set ↔ _
  rw [View.set_slice_whole, Rect.mem_set_unit]
  exact Iff.rfl

/-- Every entry of the result is in some grid point's block. -/
theorem cover (i : S8x65536.Idx) : ∃ t : Fin cfg0.N, (cfg0.win 1).flush t = true ∧ i ∈ ((cfg0.win 1).blk t).view.set := by
  have h0 : (i 0).val < 8 := (i 0).isLt
  have h1 : (i 1).val < 65536 := (i 1).isLt
  refine ⟨⟨(i 1).val / 16384, lt_of_lt_of_eq (by omega) N_0.symm⟩,
    (by decide +kernel : ∀ t : Fin grid0.N, win0_1.flush t = true) _, ?_⟩
  rw [mem_blk]
  intro a
  match a with
  | ⟨0, _⟩ =>
    show win0_1.index _ 0 * 8 ≤ (i 0).val ∧ (i 0).val < win0_1.index _ 0 * 8 + 8
    rw [(idx _).2.2.2.2.1]; omega
  | ⟨1, _⟩ =>
    show win0_1.index _ 1 * 16384 ≤ (i 1).val ∧ (i 1).val < win0_1.index _ 1 * 16384 + 16384
    rw [(idx _).2.2.2.2.2]; dsimp only; omega

/-- The call ends with the sums. -/
theorem run (ρ : Dev nD → PrngReg) : θ_run defs (onTc (τ := τ) (main (F := Ideal))) ⟨m, fun _ => 0, ρ⟩ fun r => ∀ c : Dev nD,
      r.2.mem ((c : Thread nD τ).loc main_v1) = res m c
      ∧ r.2.mem ((c : Thread nD τ).loc main_arg0) = m ((c : Thread nD τ).loc main_arg0) :=
  (θ_run defs _ _).mono (fun _ h c => ⟨(h c).1.trans
    ((dats m 0 c).arrAt_eq_of_cover 1 _ (fun t _ => flushed m c t) (cover)), (h c).2⟩) (run_blocks m ρ)

end Cert.KernelCombineIdeal.Sum

namespace Cert.ReferenceCombineIdeal.Sum

open Cert.ReferenceCombineIdeal Cert.ReferenceCombineIdeal.Gen Idealize.ShloMosaic Idealize.SL.Sem

/-- The reference's result, entry by entry. -/
theorem res_apply (p : FVec Ideal S2097152 .f32) (b : Fin 8) (n : Fin 65536) :
    Host.reduceAdd (F := Ideal) (shapeCast S4x8x65536 p shapeCasts_S2097152_S4x8x65536) (constant S_ .f32 0x00000000#32)
      reducesTo_S4x8x65536_S8x65536_d0 h_S_ (ix2 b n) = Cert.KernelCombineIdeal.Sum.total p b n := by
  unfold Cert.KernelCombineIdeal.Sum.total
  pointwise
  exact Finset.sum_congr rfl fun s _ => congrArg p (congrArg ix1 (Fin.ext (by dsimp only; omega)))

end Cert.ReferenceCombineIdeal.Sum

namespace Cert.EqualCombine

open Idealize.ShloMosaic Idealize.SL.Sem

/-- The call and the reference leave the same sums, from the same shares. -/
theorem equal (m : (ℓ : Loc Cert.KernelCombineIdeal.nD Cert.KernelCombineIdeal.τ Cert.KernelCombineIdeal.sig) → Buf (Elt Ideal) ℓ)
    (p : FVec Ideal Cert.KernelCombineIdeal.S2097152 .f32) (c : Dev Cert.KernelCombineIdeal.nD) (h : p = Cert.KernelCombineIdeal.Sum.parts m c) :
    (Host.reduceAdd (F := Ideal) (shapeCast Cert.ReferenceCombineIdeal.S4x8x65536 p Cert.ReferenceCombineIdeal.Gen.shapeCasts_S2097152_S4x8x65536)
      (constant Cert.ReferenceCombineIdeal.S_ .f32 0x00000000#32)
      Cert.ReferenceCombineIdeal.Gen.reducesTo_S4x8x65536_S8x65536_d0 Cert.ReferenceCombineIdeal.Gen.h_S_ : FVec Ideal Cert.KernelCombineIdeal.S8x65536 .f32)
      = Cert.KernelCombineIdeal.Sum.res m c := by
  subst h
  funext y
  idx_vars y
  exact Cert.ReferenceCombineIdeal.Sum.res_apply _ _ _

end Cert.EqualCombine

end
-- ==== Proof.Pack.lean ====
/-
  The call that packs the codes and the codebook into words of two entries, and its reference: word by word both are the same
  two entries, the even one in the low half.
-/
module

public import proofs.«01_k».proof.Proof.Gen.KernelPack.Frame
public import proofs.«01_k».proof.Proof.Gen.ReferencePack.Run
public import Idealize.ShloMosaic.Lib.Pipeline.Value
public import Idealize.ShloMosaic.Lib.Pointwise
public import Idealize.ShloMosaic.Lib.BitcastPair
public import Idealize.ShloMosaic.Lib.BitcastConvert
public import Idealize.ShloMosaic.Lib.StableHlo.ReadAt

@[expose] public section

set_option maxRecDepth 16384

noncomputable section

namespace Cert.KernelPack.Words

open Cert.KernelPack Cert.KernelPack.Gen Idealize.ShloMosaic Idealize.ShloMosaic.TcCoe Idealize.SL.Sem

variable (m : (ℓ : Loc nD τ sig) → Buf (Elt Bits) ℓ)

/-- The word of the codes of rows `2 r` and `2 r + 1` at group `g`. -/
def codeWord (x : IVec S1x14336x512 16) (r : Fin 7168) (g : Fin 512) : BitVec 32 :=
  x (ix3 0 ⟨2 * r.val + 1, by omega⟩ g) ++ x (ix3 0 ⟨2 * r.val, by omega⟩ g)

/-- The word of entries `2 p` and `2 p + 1` of the codebook's vector `n`. -/
def bookWord (x : FVec Bits S1x65536x8 .bf16) (p : Fin 4) (n : Fin 65536) : BitVec 32 :=
  (BitOps.toBits (x (ix3 0 n ⟨2 * p.val + 1, by omega⟩)) : BitVec 16) ++ (BitOps.toBits (x (ix3 0 n ⟨2 * p.val, by omega⟩)) : BitVec 16)

/-- The codes as launched. -/
abbrev codes (c : Dev nD) : IVec S1x14336x512 16 := m ((c : Thread nD τ).loc main_arg0)
/-- The codebook as launched. -/
abbrev books (c : Dev nD) : FVec Bits S1x65536x8 .bf16 := m ((c : Thread nD τ).loc main_arg1)

/-- The packed codes the call ends with. -/
def rows (c : Dev nD) : Buf (Elt Bits) ((c : Thread nD τ).loc main_v2_0) := fun i : S896x4x8x128.Idx =>
  codeWord (codes m c) ⟨(i 0).val * 8 + (i 2).val, by have h0 : (i 0).val < 896 := (i 0).isLt; have h2 : (i 2).val < 8 := (i 2).isLt; omega⟩
    ⟨(i 1).val * 128 + (i 3).val, by have h1 : (i 1).val < 4 := (i 1).isLt; have h3 : (i 3).val < 128 := (i 3).isLt; omega⟩

/-- The packed codebook the call ends with. -/
def table (c : Dev nD) : Buf (Elt Bits) ((c : Thread nD τ).loc main_v2_1) := fun i : S4x512x128.Idx =>
  bookWord (books m c) (i 0) ⟨(i 1).val * 128 + (i 2).val, by have h1 : (i 1).val < 512 := (i 1).isLt; have h2 : (i 2).val < 128 := (i 2).isLt; omega⟩

/-- The codebook as the call reads it: one row per entry. -/
theorem V_books (c : Dev nD) (j : Fin 8) (n : Fin 65536) : V m c main_v1 (ix2 j n) = books m c (ix3 0 n j) := by
  unfold V
  after_reads_at

/-- Which blocks a grid point reads and writes. -/
theorem idx : ∀ t : Fin cfg0.N, (win0_0.index t 0 = 0 ∧ win0_0.index t 1 = t.val ∧ win0_0.index t 2 = 0)
    ∧ (win0_1.index t 0 = 0 ∧ win0_1.index t 1 = t.val)
    ∧ (win0_2.index t 0 = t.val ∧ win0_2.index t 1 = 0 ∧ win0_2.index t 2 = 0 ∧ win0_2.index t 3 = 0)
    ∧ (win0_3.index t 0 = 0 ∧ win0_3.index t 1 = t.val ∧ win0_3.index t 2 = 0) :=
  (by decide +kernel : ∀ t : Fin grid0.N, (win0_0.index t 0 = 0 ∧ win0_0.index t 1 = t.val ∧ win0_0.index t 2 = 0)
    ∧ (win0_1.index t 0 = 0 ∧ win0_1.index t 1 = t.val)
    ∧ (win0_2.index t 0 = t.val ∧ win0_2.index t 1 = 0 ∧ win0_2.index t 2 = 0 ∧ win0_2.index t 3 = 0)
    ∧ (win0_3.index t 0 = 0 ∧ win0_3.index t 1 = t.val ∧ win0_3.index t 2 = 0))

/-- The grid's length. -/
theorem lt_N (t : Fin cfg0.N) : t.val < 16 := lt_of_lt_of_eq t.isLt N_0

/-- The block of codes a grid point reads. -/
theorem blk0 (c : Dev nD) (t : Fin cfg0.N) (r : Fin 896) (g : Fin 512) :
    (iblk m c 0 t : Vec Bits S1x896x512 .i16) (ix3 0 r g) = codes m c (ix3 0 ⟨t.val * 896 + r.val, by have := lt_N t; omega⟩ g) := by
  unfold iblk
  rw [View.read_apply]
  show V m c main_arg0 _ = m (c.tc.loc main_arg0) _
  rw [V_main_arg0]
  congr 1
  funext a
  apply Fin.ext
  match a with
  | ⟨0, _⟩ => show win0_0.index t 0 * 1 + 1 * 0 = 0; rw [(idx t).1.1]
  | ⟨1, _⟩ => show win0_0.index t 1 * 896 + 1 * r.val = t.val * 896 + r.val; rw [(idx t).1.2.1]; omega
  | ⟨2, _⟩ => show win0_0.index t 2 * 512 + 1 * g.val = g.val; rw [(idx t).1.2.2]; omega

/-- The block of the codebook a grid point reads. -/
theorem blk1 (c : Dev nD) (t : Fin cfg0.N) (j : Fin 8) (n : Fin 4096) :
    (iblk m c 1 t : Vec Bits S8x4096 .bf16) (ix2 j n) = books m c (ix3 0 ⟨t.val * 4096 + n.val, by have := lt_N t; omega⟩ j) := by
  refine Eq.trans ?_ (V_books m c j ⟨t.val * 4096 + n.val, by have := lt_N t; omega⟩)
  unfold iblk
  rw [View.read_apply]
  show V m c main_v1 _ = V m c main_v1 _
  congr 1
  funext a
  apply Fin.ext
  match a with
  | ⟨0, _⟩ => show win0_1.index t 0 * 8 + 1 * j.val = j.val; rw [(idx t).2.1.1]; omega
  | ⟨1, _⟩ => show win0_1.index t 1 * 4096 + 1 * n.val = t.val * 4096 + n.val; rw [(idx t).2.1.2]; omega

/-- Two rows of 16 bits read as one row of words. -/
theorem bitcast_rows {R n : Nat} (x : (⟨2, ![2 * R, n]⟩ : Shape).Idx → BitVec 16)
    (h : (⟨2, ![2 * R, n]⟩ : Shape).Bitcasts 16 ⟨2, ![R, n]⟩ 32) (r : Fin R) (g : Fin n) :
    bitcast ⟨2, ![R, n]⟩ 32 x h (ix2 r g) = x (ix2 ⟨2 * r.val + 1, by omega⟩ g) ++ x (ix2 ⟨2 * r.val, by omega⟩ g) := by
  rw [bitcast_16_32]
  congr 2 <;>
  · funext a
    match a with
    | ⟨0, _⟩ => exact Fin.ext (h.srcIdx_row _ _ _ ⟨0, by show 0 < 2; omega⟩ rfl)
    | ⟨1, _⟩ => exact Fin.ext (h.srcIdx_other _ _ _ ⟨1, by show 1 < 2; omega⟩ (by show ¬ 1 + 2 = 2; omega))

/-- No offset. -/
theorem hz3 : (![0, 0, 0] : Fin 3 → Nat) = fun _ => 0 := funext fun a => by fin_cases a <;> rfl
/-- No offset. -/
theorem hz2 : (![0, 0] : Fin 2 → Nat) = fun _ => 0 := funext fun a => by fin_cases a <;> rfl

/-- The words of a block of codes. -/
theorem pay4_apply (x : Vec Bits S1x896x512 .i16) (r : Fin 448) (g : Fin 512) :
    k0_pay4 (F := Bits) x (ix2 r g) = (x (ix3 0 ⟨2 * r.val + 1, by omega⟩ g) : BitVec 16) ++ (x (ix3 0 ⟨2 * r.val, by omega⟩ g) : BitVec 16) := by
  unfold k0_pay4
  rw [show bitcast S448x512 32 (shapeCast S896x512 x shapeCasts_S1x896x512_S896x512) bitcasts_S896x512_w16_S448x512_w32 (ix2 r g) = _
    from bitcast_rows (R := 448) (n := 512) _ _ r g]
  pointwise

/-- The words of a block of the codebook. -/
theorem pay3_apply (x : FVec Bits S8x4096 .bf16) (p : Fin 4) (r : Fin 32) (l : Fin 128) :
    k0_pay3 (F := Bits) x (ix3 p r l)
      = (BitOps.toBits (x (ix2 ⟨2 * p.val + 1, by omega⟩ ⟨r.val * 128 + l.val, by omega⟩)) : BitVec 16)
        ++ (BitOps.toBits (x (ix2 ⟨2 * p.val, by omega⟩ ⟨r.val * 128 + l.val, by omega⟩)) : BitVec 16) := by
  unfold k0_pay3
  refine Eq.trans (?_ : _ = bitcast S4x4096 32 (bitcastToInt (F := Bits) (shapeCast S8x4096 x shapeCasts_S8x4096_S8x4096))
    bitcasts_S8x4096_w16_S4x4096_w32 (ix2 p ⟨r.val * 128 + l.val, by omega⟩)) ?_
  · pointwise
  · refine (bitcast_rows (R := 4) (n := 4096) _ _ p _).trans ?_
    pointwise

/-- A block of words laid out in tiles of eight rows and 128 columns. -/
def lay (w : IVec S448x512 32) : S56x4x8x128.Idx → BitVec 32 := fun y =>
  w (ix2 ⟨(y 0).val * 8 + (y 2).val, by have h0 : (y 0).val < 56 := (y 0).isLt; have h2 : (y 2).val < 8 := (y 2).isLt; omega⟩
    ⟨(y 1).val * 128 + (y 3).val, by have h1 : (y 1).val < 4 := (y 1).isLt; have h3 : (y 3).val < 128 := (y 3).isLt; omega⟩)

/-- One stored tile is its tile of the layout. -/
theorem tile (w : IVec S448x512 32) (a b r t : Nat) (ha : a = 8 * r) (hb : b = 128 * t)
    (hs : S448x512.Slices ![a, b] S8x128) (inb : ∀ d, ![r, t, 0, 0] d + S1x1x8x128.size d ≤ S56x4x8x128.size d) (x : S1x1x8x128.Idx) :
    shapeCast S1x1x8x128 (extractStridedSlice S8x128 ![a, b] w hs) shapeCasts_S8x128_S1x1x8x128 x
      = lay w ((Rect.unit (s := S56x4x8x128) ![r, t, 0, 0] S1x1x8x128.size inb).emb x) := by
  subst ha hb
  have hx0 : (x 0).val < 1 := (x 0).isLt
  have hx1 : (x 1).val < 1 := (x 1).isLt
  have hx2 : (x 2).val < 8 := (x 2).isLt
  have hx3 : (x 3).val < 128 := (x 3).isLt
  have hr : r + 1 ≤ 56 := inb 0
  have ht : t + 1 ≤ 4 := inb 1
  refine (shapeCast_apply _ _ x (ix2 ⟨(x 2).val, hx2⟩ ⟨(x 3).val, hx3⟩) (by
    rw [Shape.rowMajor_val_two, Shape.rowMajor_val_four]
    show (x 2).val * 128 + (x 3).val = (((x 0).val * 1 + (x 1).val) * 8 + (x 2).val) * 128 + (x 3).val
    omega)).trans ?_
  refine (extractStridedSlice_apply ![8 * r, 128 * t] _ _ (ix2 ⟨(x 2).val, hx2⟩ ⟨(x 3).val, hx3⟩)
    (ix2 ⟨8 * r + (x 2).val, by omega⟩ ⟨128 * t + (x 3).val, by omega⟩) (by
      intro d
      fin_cases d <;> rfl)).trans ?_
  unfold lay
  congr 1
  funext d
  apply Fin.ext
  match d with
  | ⟨0, _⟩ => show 8 * r + (x 2).val = (r + 1 * (x 0).val) * 8 + (0 + 1 * (x 2).val); omega
  | ⟨1, _⟩ => show 128 * t + (x 3).val = (t + 1 * (x 1).val) * 128 + (0 + 1 * (x 3).val); omega

set_option maxHeartbeats 4000000 in
/-- The 224 tiles a grid point stores are the words of its block of codes, laid out. -/
theorem out2_eq (x0 : Vec Bits S1x896x512 .i16) (x1 : Vec Bits S8x4096 .bf16) :
    out0_2 (F := Bits) x0 x1 = lay (k0_pay4 (F := Bits) x0) := by
  have e : View.ld (Val := Elt Bits) (e' := .i16) x0 r0_0 = x0 := View.ld_unit_zero (S := S1x896x512) (Val := Elt Bits) (e := .i16) hz3 _ x0
  funext y
  refine (?_ : _ = lay (k0_pay4 (F := Bits) (View.ld x0 r0_0)) y).trans (by rw [e])
  unfold out0_2
  refine View.canon_apply_of_pieces (Val := Elt Bits) (e := .i32) (lay (k0_pay4 (F := Bits) (View.ld x0 r0_0))) _ ?_ y
    (View.cover_of_tiledL _ ![1, 1, 8, 128] (by sl_kernel_rfl) y)
  repeat
    refine List.forall_mem_cons.2 ⟨?_, ?_⟩
    · exact tile (k0_pay4 (F := Bits) (View.ld x0 r0_0)) _ _ _ _ (by rfl) (by rfl) (by decide) (by decide)
  exact fun p hp => absurd hp List.not_mem_nil

/-- The block of the packed codebook a grid point stores. -/
theorem out3_eq (x0 : Vec Bits S1x896x512 .i16) (x1 : Vec Bits S8x4096 .bf16) :
    out0_3 (F := Bits) x0 x1 = k0_pay3 (F := Bits) x1 := by
  unfold out0_3
  rw [View.canon_cons_unit_zero (S := S4x32x128) hz3, View.ld_unit_zero (S := S8x4096) (Val := Elt Bits) (e := .bf16) hz2 _ x1]

/-- What a grid point writes back is its block of the packed codes. -/
theorem flushed2 (c : Dev nD) (t : Fin cfg0.N) :
    (dats m 0 c).flushed 2 t = ((cfg0.win 2).blk t).view.read (Elt Bits) (rows m c) := by
  show (cfg0.win 2).cut (grid0.coords t) ((dats m 0 c).after 2 t) = _
  rw [after0_2, out2_eq]
  funext y
  have hy0 : (y 0).val < 56 := (y 0).isLt
  have hy1 : (y 1).val < 4 := (y 1).isLt
  have hy2 : (y 2).val < 8 := (y 2).isLt
  have hy3 : (y 3).val < 128 := (y 3).isLt
  have h := lt_N t
  rw [View.read_apply]
  have e0 : (((cfg0.win 2).blk t).view.emb y 0).val = t.val * 56 + (y 0).val := by
    show win0_2.index t 0 * 56 + 1 * (y 0).val = _
    rw [(idx t).2.2.1.1]; omega
  have e1 : (((cfg0.win 2).blk t).view.emb y 1).val = (y 1).val := by
    show win0_2.index t 1 * 4 + 1 * (y 1).val = _
    rw [(idx t).2.2.1.2.1]; omega
  have e2 : (((cfg0.win 2).blk t).view.emb y 2).val = (y 2).val := by
    show win0_2.index t 2 * 8 + 1 * (y 2).val = _
    rw [(idx t).2.2.1.2.2.1]; omega
  have e3 : (((cfg0.win 2).blk t).view.emb y 3).val = (y 3).val := by
    show win0_2.index t 3 * 128 + 1 * (y 3).val = _
    rw [(idx t).2.2.1.2.2.2]; omega
  refine Eq.trans (?_ : _ = k0_pay4 (F := Bits) (iblk m c 0 t) (ix2 ⟨(y 0).val * 8 + (y 2).val, by omega⟩ ⟨(y 1).val * 128 + (y 3).val, by omega⟩)) ?_
  · rfl
  · rw [pay4_apply]
    unfold rows codeWord
    refine congr (congrArg HAppend.hAppend ?_) ?_
    · rw [blk0]
      refine congrArg (codes m c) (congr (congrArg (ix3 0) (Fin.ext ?_)) (Fin.ext ?_))
      · dsimp only; rw [e0, e2]; omega
      · dsimp only; rw [e1, e3]
    · rw [blk0]
      refine congrArg (codes m c) (congr (congrArg (ix3 0) (Fin.ext ?_)) (Fin.ext ?_))
      · dsimp only; rw [e0, e2]; omega
      · dsimp only; rw [e1, e3]

/-- What a grid point writes back is its block of the packed codebook. -/
theorem flushed3 (c : Dev nD) (t : Fin cfg0.N) :
    (dats m 0 c).flushed 3 t = ((cfg0.win 3).blk t).view.read (Elt Bits) (table m c) := by
  show (cfg0.win 3).cut (grid0.coords t) ((dats m 0 c).after 3 t) = _
  rw [after0_3, out3_eq]
  funext y
  have hy0 : (y 0).val < 4 := (y 0).isLt
  have hy1 : (y 1).val < 32 := (y 1).isLt
  have hy2 : (y 2).val < 128 := (y 2).isLt
  have h := lt_N t
  rw [View.read_apply]
  have e0 : (((cfg0.win 3).blk t).view.emb y 0).val = (y 0).val := by
    show win0_3.index t 0 * 4 + 1 * (y 0).val = _
    rw [(idx t).2.2.2.1]; omega
  have e1 : (((cfg0.win 3).blk t).view.emb y 1).val = t.val * 32 + (y 1).val := by
    show win0_3.index t 1 * 32 + 1 * (y 1).val = _
    rw [(idx t).2.2.2.2.1]; omega
  have e2 : (((cfg0.win 3).blk t).view.emb y 2).val = (y 2).val := by
    show win0_3.index t 2 * 128 + 1 * (y 2).val = _
    rw [(idx t).2.2.2.2.2]; omega
  refine Eq.trans (?_ : _ = k0_pay3 (F := Bits) (iblk m c 1 t) (ix3 ⟨(y 0).val, hy0⟩ ⟨(y 1).val, hy1⟩ ⟨(y 2).val, hy2⟩)) ?_
  · show k0_pay3 (F := Bits) (iblk m c 1 t) _ = _
    congr 1
    funext a
    match a with
    | ⟨0, _⟩ => rfl
    | ⟨1, _⟩ => rfl
    | ⟨2, _⟩ => rfl
  · rw [pay3_apply]
    unfold table bookWord
    refine congr (congrArg HAppend.hAppend (congrArg BitOps.toBits ?_)) (congrArg BitOps.toBits ?_)
    · rw [blk1]
      refine congrArg (books m c) (congr (congrArg (ix3 0) (Fin.ext ?_)) (Fin.ext ?_))
      · dsimp only; rw [e1, e2]; omega
      · dsimp only; rw [e0]
    · rw [blk1]
      refine congrArg (books m c) (congr (congrArg (ix3 0) (Fin.ext ?_)) (Fin.ext ?_))
      · dsimp only; rw [e1, e2]; omega
      · dsimp only; rw [e0]

/-- A word is in a grid point's block of the packed codes iff its coordinates are in the block's ranges. -/
theorem mem_blk2 (t : Fin cfg0.N) (i : S896x4x8x128.Idx) :
    i ∈ ((cfg0.win 2).blk t).view.set ↔ ∀ a : Fin 4, win0_2.index t a * S56x4x8x128.size a ≤ (i a).val ∧ (i a).val < win0_2.index t a * S56x4x8x128.size a + S56x4x8x128.size a := by
  show i ∈ ((View.whole main_v2_0).slice (win0_2.rect t)).set ↔ _
  rw [View.set_slice_whole, Rect.mem_set_unit]
  exact Iff.rfl

/-- A word is in a grid point's block of the packed codebook iff its coordinates are in the block's ranges. -/
theorem mem_blk3 (t : Fin cfg0.N) (i : S4x512x128.Idx) :
    i ∈ ((cfg0.win 3).blk t).view.set ↔ ∀ a : Fin 3, win0_3.index t a * S4x32x128.size a ≤ (i a).val ∧ (i a).val < win0_3.index t a * S4x32x128.size a + S4x32x128.size a := by
  show i ∈ ((View.whole main_v2_1).slice (win0_3.rect t)).set ↔ _
  rw [View.set_slice_whole, Rect.mem_set_unit]
  exact Iff.rfl

/-- Every word of the packed codes is in some grid point's block. -/
theorem cover2 (i : S896x4x8x128.Idx) : ∃ t : Fin cfg0.N, (cfg0.win 2).flush t = true ∧ i ∈ ((cfg0.win 2).blk t).view.set := by
  have h0 : (i 0).val < 896 := (i 0).isLt
  have h1 : (i 1).val < 4 := (i 1).isLt
  have h2 : (i 2).val < 8 := (i 2).isLt
  have h3 : (i 3).val < 128 := (i 3).isLt
  refine ⟨⟨(i 0).val / 56, lt_of_lt_of_eq (by omega) N_0.symm⟩,
    (by decide +kernel : ∀ t : Fin grid0.N, win0_2.flush t = true) _, ?_⟩
  rw [mem_blk2]
  intro a
  match a with
  | ⟨0, _⟩ =>
    show win0_2.index _ 0 * 56 ≤ (i 0).val ∧ (i 0).val < win0_2.index _ 0 * 56 + 56
    rw [(idx _).2.2.1.1]; dsimp only; omega
  | ⟨1, _⟩ =>
    show win0_2.index _ 1 * 4 ≤ (i 1).val ∧ (i 1).val < win0_2.index _ 1 * 4 + 4
    rw [(idx _).2.2.1.2.1]; omega
  | ⟨2, _⟩ =>
    show win0_2.index _ 2 * 8 ≤ (i 2).val ∧ (i 2).val < win0_2.index _ 2 * 8 + 8
    rw [(idx _).2.2.1.2.2.1]; omega
  | ⟨3, _⟩ =>
    show win0_2.index _ 3 * 128 ≤ (i 3).val ∧ (i 3).val < win0_2.index _ 3 * 128 + 128
    rw [(idx _).2.2.1.2.2.2]; omega

/-- Every word of the packed codebook is in some grid point's block. -/
theorem cover3 (i : S4x512x128.Idx) : ∃ t : Fin cfg0.N, (cfg0.win 3).flush t = true ∧ i ∈ ((cfg0.win 3).blk t).view.set := by
  have h0 : (i 0).val < 4 := (i 0).isLt
  have h1 : (i 1).val < 512 := (i 1).isLt
  have h2 : (i 2).val < 128 := (i 2).isLt
  refine ⟨⟨(i 1).val / 32, lt_of_lt_of_eq (by omega) N_0.symm⟩,
    (by decide +kernel : ∀ t : Fin grid0.N, win0_3.flush t = true) _, ?_⟩
  rw [mem_blk3]
  intro a
  match a with
  | ⟨0, _⟩ =>
    show win0_3.index _ 0 * 4 ≤ (i 0).val ∧ (i 0).val < win0_3.index _ 0 * 4 + 4
    rw [(idx _).2.2.2.1]; omega
  | ⟨1, _⟩ =>
    show win0_3.index _ 1 * 32 ≤ (i 1).val ∧ (i 1).val < win0_3.index _ 1 * 32 + 32
    rw [(idx _).2.2.2.2.1]; dsimp only; omega
  | ⟨2, _⟩ =>
    show win0_3.index _ 2 * 128 ≤ (i 2).val ∧ (i 2).val < win0_3.index _ 2 * 128 + 128
    rw [(idx _).2.2.2.2.2]; omega

/-- The call ends with the packed codes and the packed codebook, its arguments unchanged. -/
theorem run (ρ : Dev nD → PrngReg) : θ_run defs (onTc (τ := τ) (main (F := Bits))) ⟨m, fun _ => 0, ρ⟩ fun r => ∀ c : Dev nD,
      r.2.mem ((c : Thread nD τ).loc main_v2_0) = rows m c
      ∧ r.2.mem ((c : Thread nD τ).loc main_v2_1) = table m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans ((dats m 0 c).arrAt_eq_of_cover 2 _ (fun t _ => flushed2 m c t) cover2),
      ((h c).1 3).trans ((dats m 0 c).arrAt_eq_of_cover 3 _ (fun t _ => flushed3 m c t) cover3),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

end Cert.KernelPack.Words

namespace Cert.ReferencePack.Words

open Cert.ReferencePack Cert.ReferencePack.Gen Idealize.ShloMosaic Idealize.SL.Sem

/-- The reference's packed codes, word by word. -/
theorem rows_apply (x : IVec S1x14336x512 16) (a : Fin 896) (g : Fin 4) (b : Fin 8) (l : Fin 128) :
    transpose S896x4x8x128 [0, 2, 1, 3] (shapeCast S896x8x4x128 (Host.bitcastConvertWiden S7168x512 32 (transpose S7168x512x2 [0, 2, 1]
      (shapeCast S7168x2x512 (shapeCast S14336x512 x shapeCasts_S1x14336x512_S14336x512) shapeCasts_S14336x512_S7168x2x512)
      transposes_S7168x2x512_S7168x512x2_0_2_1) splits_S7168x512_w32_S7168x512x2_w16) shapeCasts_S7168x512_S896x8x4x128)
      transposes_S896x8x4x128_S896x4x8x128_0_2_1_3 (ix4 a g b l)
      = Cert.KernelPack.Words.codeWord x ⟨a.val * 8 + b.val, by omega⟩ ⟨g.val * 128 + l.val, by omega⟩ := by
  unfold Cert.KernelPack.Words.codeWord
  pointwise
  refine congr (congrArg HAppend.hAppend (congrArg x (congr (congrArg (ix3 0) (Fin.ext ?_)) (Fin.ext ?_))))
    (congrArg x (congr (congrArg (ix3 0) (Fin.ext ?_)) (Fin.ext ?_)))
  · show (a.val * 8 + b.val) * 2 + 1 = 2 * (a.val * 8 + b.val) + 1; omega
  · rfl
  · show (a.val * 8 + b.val) * 2 + 0 = 2 * (a.val * 8 + b.val); omega
  · rfl

/-- The reference's packed codebook, word by word. -/
theorem table_apply (x : FVec Bits S1x65536x8 .bf16) (p : Fin 4) (r : Fin 512) (l : Fin 128) :
    shapeCast S4x512x128 (transpose S4x65536 [1, 0] (Host.bitcastConvertWiden S65536x4 32 (bitcastToInt (F := Bits)
      (shapeCast S65536x4x2 (shapeCast S65536x8 x shapeCasts_S1x65536x8_S65536x8) shapeCasts_S65536x8_S65536x4x2))
      splits_S65536x4_w32_S65536x4x2_w16) transposes_S65536x4_S4x65536_1_0) shapeCasts_S4x65536_S4x512x128 (ix3 p r l)
      = Cert.KernelPack.Words.bookWord x p ⟨r.val * 128 + l.val, by omega⟩ := by
  unfold Cert.KernelPack.Words.bookWord
  pointwise
  refine congr (congrArg HAppend.hAppend (congrArg BitOps.toBits (congrArg x (congr (congrArg (ix3 0) (Fin.ext ?_)) (Fin.ext ?_)))))
    (congrArg BitOps.toBits (congrArg x (congr (congrArg (ix3 0) (Fin.ext ?_)) (Fin.ext ?_))))
  · rfl
  · show p.val * 2 + 1 = 2 * p.val + 1; omega
  · rfl
  · show p.val * 2 + 0 = 2 * p.val; omega

end Cert.ReferencePack.Words

namespace Cert.EqualPack

open Idealize.ShloMosaic Idealize.SL.Sem

/-- The call and the reference leave the same packed codes, from the same codes. -/
theorem rows (m : (ℓ : Loc Cert.KernelPack.nD Cert.KernelPack.τ Cert.KernelPack.sig) → Buf (Elt Bits) ℓ)
    (x : IVec Cert.KernelPack.S1x14336x512 16) (c : Dev Cert.KernelPack.nD) (h : x = Cert.KernelPack.Words.codes m c) :
    (transpose Cert.ReferencePack.S896x4x8x128 [0, 2, 1, 3] (shapeCast Cert.ReferencePack.S896x8x4x128
      (Host.bitcastConvertWiden Cert.ReferencePack.S7168x512 32 (transpose Cert.ReferencePack.S7168x512x2 [0, 2, 1]
        (shapeCast Cert.ReferencePack.S7168x2x512 (shapeCast Cert.ReferencePack.S14336x512 x
          Cert.ReferencePack.Gen.shapeCasts_S1x14336x512_S14336x512) Cert.ReferencePack.Gen.shapeCasts_S14336x512_S7168x2x512)
        Cert.ReferencePack.Gen.transposes_S7168x2x512_S7168x512x2_0_2_1) Cert.ReferencePack.Gen.splits_S7168x512_w32_S7168x512x2_w16)
      Cert.ReferencePack.Gen.shapeCasts_S7168x512_S896x8x4x128)
      Cert.ReferencePack.Gen.transposes_S896x8x4x128_S896x4x8x128_0_2_1_3 : IVec Cert.KernelPack.S896x4x8x128 32)
      = Cert.KernelPack.Words.rows m c := by
  subst h
  funext y
  idx_vars y
  exact Cert.ReferencePack.Words.rows_apply _ _ _ _ _

/-- The call and the reference leave the same packed codebook, from the same codebook. -/
theorem table (m : (ℓ : Loc Cert.KernelPack.nD Cert.KernelPack.τ Cert.KernelPack.sig) → Buf (Elt Bits) ℓ)
    (x : FVec Bits Cert.KernelPack.S1x65536x8 .bf16) (c : Dev Cert.KernelPack.nD) (h : x = Cert.KernelPack.Words.books m c) :
    (shapeCast Cert.ReferencePack.S4x512x128 (transpose Cert.ReferencePack.S4x65536 [1, 0]
      (Host.bitcastConvertWiden Cert.ReferencePack.S65536x4 32 (bitcastToInt (F := Bits)
        (shapeCast Cert.ReferencePack.S65536x4x2 (shapeCast Cert.ReferencePack.S65536x8 x
          Cert.ReferencePack.Gen.shapeCasts_S1x65536x8_S65536x8) Cert.ReferencePack.Gen.shapeCasts_S65536x8_S65536x4x2))
        Cert.ReferencePack.Gen.splits_S65536x4_w32_S65536x4x2_w16) Cert.ReferencePack.Gen.transposes_S65536x4_S4x65536_1_0)
      Cert.ReferencePack.Gen.shapeCasts_S4x65536_S4x512x128 : IVec Cert.KernelPack.S4x512x128 32)
      = Cert.KernelPack.Words.table m c := by
  subst h
  funext y
  idx_vars y
  exact Cert.ReferencePack.Words.table_apply _ _ _ _

end Cert.EqualPack

end
-- ==== Proof.lean ====
/-
  The proof of `Cert.Claim` (proofs.«01_k».proof.Defs): each of the three weight-gradient calls, the call that splits the
  features into planes and the call that adds the shares of the bins, its idealization and its reference run to the end
  without a fault and leave every semaphore at zero; each idealization keeps its program; and each idealized call leaves the
  results its reference leaves. The call that packs the codes and the codebook into words, and its reference, run in the same
  way and leave the same words.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelA
public import proofs.«01_k».proof.Proof.Gen.KernelA.Skeleton
public import proofs.«01_k».proof.Proof.Gen.KernelA.Launch
public import proofs.«01_k».proof.Proof.Gen.KernelA.Points
public import proofs.«01_k».proof.Proof.Gen.KernelA.Frame
public import proofs.«01_k».proof.Proof.Gen.KernelAIdeal
public import proofs.«01_k».proof.Proof.Gen.KernelAIdeal.Skeleton
public import proofs.«01_k».proof.Proof.Gen.KernelAIdeal.Launch
public import proofs.«01_k».proof.Proof.Gen.KernelAIdeal.Points
public import proofs.«01_k».proof.Proof.Gen.KernelAIdeal.Frame
public import proofs.«01_k».proof.Proof.Gen.ReferenceAIdeal
public import proofs.«01_k».proof.Proof.Gen.ReferenceAIdeal.Skeleton
public import proofs.«01_k».proof.Proof.Gen.ReferenceAIdeal.Launch
public import proofs.«01_k».proof.Proof.Gen.ReferenceAIdeal.Points
public import proofs.«01_k».proof.Proof.Gen.ReferenceAIdeal.Frame
public import proofs.«01_k».proof.Proof.Gen.KernelB
public import proofs.«01_k».proof.Proof.Gen.KernelB.Skeleton
public import proofs.«01_k».proof.Proof.Gen.KernelB.Launch
public import proofs.«01_k».proof.Proof.Gen.KernelB.Points
public import proofs.«01_k».proof.Proof.Gen.KernelB.Frame
public import proofs.«01_k».proof.Proof.Gen.KernelBIdeal
public import proofs.«01_k».proof.Proof.Gen.KernelBIdeal.Skeleton
public import proofs.«01_k».proof.Proof.Gen.KernelBIdeal.Launch
public import proofs.«01_k».proof.Proof.Gen.KernelBIdeal.Points
public import proofs.«01_k».proof.Proof.Gen.KernelBIdeal.Frame
public import proofs.«01_k».proof.Proof.Gen.ReferenceBIdeal
public import proofs.«01_k».proof.Proof.Gen.ReferenceBIdeal.Skeleton
public import proofs.«01_k».proof.Proof.Gen.ReferenceBIdeal.Launch
public import proofs.«01_k».proof.Proof.Gen.ReferenceBIdeal.Points
public import proofs.«01_k».proof.Proof.Gen.ReferenceBIdeal.Frame
public import proofs.«01_k».proof.Proof.Gen.KernelPlanes
public import proofs.«01_k».proof.Proof.Gen.KernelPlanes.Skeleton
public import proofs.«01_k».proof.Proof.Gen.KernelPlanes.Launch
public import proofs.«01_k».proof.Proof.Gen.KernelPlanes.Points
public import proofs.«01_k».proof.Proof.Gen.KernelPlanes.Frame
public import proofs.«01_k».proof.Proof.Gen.KernelPlanesIdeal
public import proofs.«01_k».proof.Proof.Gen.KernelPlanesIdeal.Skeleton
public import proofs.«01_k».proof.Proof.Gen.KernelPlanesIdeal.Launch
public import proofs.«01_k».proof.Proof.Gen.KernelPlanesIdeal.Points
public import proofs.«01_k».proof.Proof.Gen.KernelPlanesIdeal.Frame
public import proofs.«01_k».proof.Proof.Gen.ReferencePlanesIdeal
public import proofs.«01_k».proof.Proof.Gen.KernelCombine
public import proofs.«01_k».proof.Proof.Gen.KernelCombine.Skeleton
public import proofs.«01_k».proof.Proof.Gen.KernelCombine.Launch
public import proofs.«01_k».proof.Proof.Gen.KernelCombine.Points
public import proofs.«01_k».proof.Proof.Gen.KernelCombine.Frame
public import proofs.«01_k».proof.Proof.Gen.KernelCombineIdeal
public import proofs.«01_k».proof.Proof.Gen.KernelCombineIdeal.Skeleton
public import proofs.«01_k».proof.Proof.Gen.KernelCombineIdeal.Launch
public import proofs.«01_k».proof.Proof.Gen.KernelCombineIdeal.Points
public import proofs.«01_k».proof.Proof.Gen.KernelCombineIdeal.Frame
public import proofs.«01_k».proof.Proof.Gen.ReferenceCombineIdeal
public import proofs.«01_k».proof.Proof.Equal
public import proofs.«01_k».proof.Proof.EqualA
public import proofs.«01_k».proof.Proof.EqualB
public import proofs.«01_k».proof.Proof.Planes
public import proofs.«01_k».proof.Proof.Combine
public import proofs.«01_k».proof.Proof.Gen.KernelPack
public import proofs.«01_k».proof.Proof.Gen.KernelPack.Skeleton
public import proofs.«01_k».proof.Proof.Gen.KernelPack.Launch
public import proofs.«01_k».proof.Proof.Gen.KernelPack.Points
public import proofs.«01_k».proof.Proof.Gen.KernelPack.Frame
public import proofs.«01_k».proof.Proof.Gen.ReferencePack
public import proofs.«01_k».proof.Proof.Gen.ReferencePack.Run
public import proofs.«01_k».proof.Proof.Pack
public import Idealize.ShloMosaic.Adequacy
public import Idealize.ShloMosaic.Init

@[expose] public section

noncomputable section

namespace Cert.Proof

open Idealize.ShloMosaic Idealize.SL.Sem Cert.Kernel

/-- The last call and its reference, from the same arguments, end with the same two results. -/
theorem algebraic : @Cert.algebraic_KernelIdeal_ReferenceIdeal Cert.KernelIdeal.Gen.facts Cert.ReferenceIdeal.Gen.facts :=
  fun m ρ m' ρ' _ h => ⟨fun c => Cert.KernelIdeal.Value.G5 m c, fun c => Cert.KernelIdeal.Value.G6 m c,
    Cert.KernelIdeal.Value.run m ρ,
    (θ_run _ _ _).mono (fun _ hr c => ⟨(hr c).1.trans (Cert.Equal.first m m' h c),
      (hr c).2.1.trans (Cert.Equal.second m m' h c), (hr c).2.2⟩) (Cert.ReferenceIdeal.Plain.run m' ρ')⟩

/-- The first call and its reference, from the same arguments, end with the same two results. -/
theorem algebraicA : @Cert.algebraic_KernelAIdeal_ReferenceAIdeal Cert.KernelAIdeal.Gen.facts Cert.ReferenceAIdeal.Gen.facts :=
  fun m ρ m' ρ' _ h => ⟨fun c => Cert.KernelAIdeal.Value.G5 m c, fun c => Cert.KernelAIdeal.Value.G6 m c,
    Cert.KernelAIdeal.Value.run m ρ,
    (θ_run _ _ _).mono (fun _ hr c => ⟨(hr c).1.trans (Cert.EqualA.first m m' h c),
      (hr c).2.1.trans (Cert.EqualA.second m m' h c), (hr c).2.2⟩) (Cert.ReferenceAIdeal.Plain.run m' ρ')⟩

/-- The second call and its reference, from the same arguments, end with the same two results. -/
theorem algebraicB : @Cert.algebraic_KernelBIdeal_ReferenceBIdeal Cert.KernelBIdeal.Gen.facts Cert.ReferenceBIdeal.Gen.facts :=
  fun m ρ m' ρ' _ h => ⟨fun c => Cert.KernelBIdeal.Value.G5 m c, fun c => Cert.KernelBIdeal.Value.G6 m c,
    Cert.KernelBIdeal.Value.run m ρ,
    (θ_run _ _ _).mono (fun _ hr c => ⟨(hr c).1.trans (Cert.EqualB.first m m' h c),
      (hr c).2.1.trans (Cert.EqualB.second m m' h c), (hr c).2.2⟩) (Cert.ReferenceBIdeal.Plain.run m' ρ')⟩

/-- The reference of the split into planes ends with its arguments unchanged; it declares no semaphore. -/
theorem framePlanes : @Cert.quiescent_ReferencePlanesIdeal Cert.ReferencePlanesIdeal.Gen.facts :=
  fun m ρ _ => (θ_run _ _ _).mono (fun r h => ⟨fun c => (h c).2, Idealize.ShloMosaic.sem_eq_zero_of_no_sems (by decide) r.2⟩)
    (Cert.ReferencePlanesIdeal.Value.run m ρ)

/-- The split into planes and its reference, from the same features, end with the same planes. -/
theorem algebraicPlanes : @Cert.algebraic_KernelPlanesIdeal_ReferencePlanesIdeal Cert.KernelPlanesIdeal.Gen.facts Cert.ReferencePlanesIdeal.Gen.facts :=
  fun m ρ m' ρ' _ h => ⟨fun c => Cert.KernelPlanesIdeal.Value.G1 m c, Cert.KernelPlanesIdeal.Value.run m ρ,
    (θ_run _ _ _).mono (fun _ hr c => ⟨(hr c).1.trans (Cert.EqualPlanes.equal m _ c (h c)), (hr c).2⟩)
      (Cert.ReferencePlanesIdeal.Value.run m' ρ')⟩

/-- The reference of the sum of the shares ends with its arguments unchanged; it declares no semaphore. -/
theorem frameCombine : @Cert.quiescent_ReferenceCombineIdeal Cert.ReferenceCombineIdeal.Gen.facts :=
  fun m ρ _ => (θ_run _ _ _).mono (fun r h => ⟨fun c => (h c).2, Idealize.ShloMosaic.sem_eq_zero_of_no_sems (by decide) r.2⟩)
    (Cert.ReferenceCombineIdeal.Value.run m ρ)

/-- The sum of the shares and its reference, from the same shares, end with the same sums. -/
theorem algebraicCombine : @Cert.algebraic_KernelCombineIdeal_ReferenceCombineIdeal Cert.KernelCombineIdeal.Gen.facts Cert.ReferenceCombineIdeal.Gen.facts :=
  fun m ρ m' ρ' _ h => ⟨fun c => Cert.KernelCombineIdeal.Sum.res m c, Cert.KernelCombineIdeal.Sum.run m ρ,
    (θ_run _ _ _).mono (fun _ hr c => ⟨(hr c).1.trans (Cert.EqualCombine.equal m _ c (h c)), (hr c).2⟩)
      (Cert.ReferenceCombineIdeal.Value.run m' ρ')⟩

/-- The reference of the packing ends with its arguments unchanged; it declares no semaphore. -/
theorem framePack : @Cert.quiescent_ReferencePack Cert.ReferencePack.Gen.facts :=
  fun m ρ _ => (θ_run _ _ _).mono (fun r h => ⟨fun c => (h c).2.2, Idealize.ShloMosaic.sem_eq_zero_of_no_sems (by decide) r.2⟩)
    (Cert.ReferencePack.Value.run m ρ)

/-- The packing and its reference, from the same codes and codebook, end with the same words. -/
theorem bitexactPack : @Cert.bitexact_KernelPack_ReferencePack Cert.KernelPack.Gen.facts Cert.ReferencePack.Gen.facts :=
  fun m ρ m' ρ' _ h => ⟨fun c => Cert.KernelPack.Words.rows m c, fun c => Cert.KernelPack.Words.table m c,
    Cert.KernelPack.Words.run m ρ,
    (θ_run _ _ _).mono (fun _ hr c => ⟨(hr c).1.trans (Cert.EqualPack.rows m _ c (h c).1),
      (hr c).2.1.trans (Cert.EqualPack.table m _ c (h c).2), (hr c).2.2⟩)
      (Cert.ReferencePack.Value.run m' ρ')⟩

/-- All twenty-eight claims. -/
theorem claim : Cert.Claim :=
  ⟨Cert.Kernel.Gen.facts,
    Cert.KernelIdeal.Gen.facts,
    Cert.ReferenceIdeal.Gen.facts,
    Cert.KernelA.Gen.facts,
    Cert.KernelAIdeal.Gen.facts,
    Cert.ReferenceAIdeal.Gen.facts,
    Cert.KernelB.Gen.facts,
    Cert.KernelBIdeal.Gen.facts,
    Cert.ReferenceBIdeal.Gen.facts,
    Cert.KernelPlanes.Gen.facts,
    Cert.KernelPlanesIdeal.Gen.facts,
    Cert.ReferencePlanesIdeal.Gen.facts,
    Cert.KernelCombine.Gen.facts,
    Cert.KernelCombineIdeal.Gen.facts,
    Cert.ReferenceCombineIdeal.Gen.facts,
    Cert.KernelPack.Gen.facts,
    Cert.ReferencePack.Gen.facts,
    fun m ρ _ => Cert.Kernel.Gen.frame m ρ,
    fun m ρ _ => Cert.KernelIdeal.Gen.frame m ρ,
    fun m ρ _ => Cert.ReferenceIdeal.Gen.frame m ρ,
    fun m ρ _ => Cert.KernelA.Gen.frame m ρ,
    fun m ρ _ => Cert.KernelAIdeal.Gen.frame m ρ,
    fun m ρ _ => Cert.ReferenceAIdeal.Gen.frame m ρ,
    fun m ρ _ => Cert.KernelB.Gen.frame m ρ,
    fun m ρ _ => Cert.KernelBIdeal.Gen.frame m ρ,
    fun m ρ _ => Cert.ReferenceBIdeal.Gen.frame m ρ,
    fun m ρ _ => Cert.KernelPlanes.Gen.frame m ρ,
    fun m ρ _ => Cert.KernelPlanesIdeal.Gen.frame m ρ,
    framePlanes,
    fun m ρ _ => Cert.KernelCombine.Gen.frame m ρ,
    fun m ρ _ => Cert.KernelCombineIdeal.Gen.frame m ρ,
    frameCombine,
    fun m ρ _ => Cert.KernelPack.Gen.frame m ρ,
    framePack,
    trivial, algebraic, trivial, algebraicA, trivial, algebraicB, trivial, algebraicPlanes, trivial, algebraicCombine, bitexactPack⟩

end Cert.Proof

end
